-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_scores [hPre_finite_scores : Cert.Pre_finite_scores.Facts] (m : (ℓ : Loc Cert.GqaIdeal.nD Cert.GqaIdeal.τ Cert.GqaIdeal.sig) → Buf (Elt Ideal) ℓ) : Prop :=
  ∀ c : Dev Cert.GqaIdeal.nD,
    (Cert.Pre_finite_scores.fn (F := Ideal) (m ((c.tc : Thread Cert.GqaIdeal.nD Cert.GqaIdeal.τ).loc Cert.GqaIdeal.main_arg0))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_scores [hPre_finite_scores : Cert.Pre_finite_scores.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_scores.fn (F := Ideal) (m ((c.tc : Thread Cert.GqaRefIdeal.nD Cert.GqaRefIdeal.τ).loc Cert.GqaRefIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutP (m : (ℓ : Loc Cert.OutP.nD Cert.OutP.τ Cert.OutP.sig) → Buf (Elt Bits) ℓ) : Prop :=
  True

def Pre_OutPIdeal (m : (ℓ : Loc Cert.OutPIdeal.nD Cert.OutPIdeal.τ Cert.OutPIdeal.sig) → Buf (Elt Ideal) ℓ) : Prop :=
  True

def Pre_OutPRefIdeal (m : (ℓ : Loc Cert.OutPRefIdeal.nD Cert.OutPRefIdeal.τ Cert.OutPRefIdeal.sig) → Buf (Elt Ideal) ℓ) : Prop :=
  True

def Pre_EvenP (m : (ℓ : Loc Cert.EvenP.nD Cert.EvenP.τ Cert.EvenP.sig) → Buf (Elt Bits) ℓ) : Prop :=
  True

def Pre_EvenPIdeal (m : (ℓ : Loc Cert.EvenPIdeal.nD Cert.EvenPIdeal.τ Cert.EvenPIdeal.sig) → Buf (Elt Ideal) ℓ) : Prop :=
  True

def Pre_EvenPRefIdeal (m : (ℓ : Loc Cert.EvenPRefIdeal.nD Cert.EvenPRefIdeal.τ Cert.EvenPRefIdeal.sig) → Buf (Elt Ideal) ℓ) : Prop :=
  True

def Pre_OddP (m : (ℓ : Loc Cert.OddP.nD Cert.OddP.τ Cert.OddP.sig) → Buf (Elt Bits) ℓ) : Prop :=
  True

def Pre_OddPIdeal (m : (ℓ : Loc Cert.OddPIdeal.nD Cert.OddPIdeal.τ Cert.OddPIdeal.sig) → Buf (Elt Ideal) ℓ) : Prop :=
  True

def Pre_OddPRefIdeal (m : (ℓ : Loc Cert.OddPRefIdeal.nD Cert.OddPRefIdeal.τ Cert.OddPRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0))
      ∧ r.2.sem = fun _ => 0)

def quiescent_GqaIdeal_pre_finite_scores [hGqaIdeal : Cert.GqaIdeal.Facts] [hPre_finite_scores : Cert.Pre_finite_scores.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_scores m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0))
      ∧ r.2.sem = fun _ => 0)

def quiescent_GqaRefIdeal_pre_finite_scores [hGqaRefIdeal : Cert.GqaRefIdeal.Facts] [hPre_finite_scores : Cert.Pre_finite_scores.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_scores m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_OutP [hOutP : Cert.OutP.Facts] : Prop :=
  ∀ (m : (ℓ : Loc Cert.OutP.nD Cert.OutP.τ Cert.OutP.sig) → Buf (Elt Bits) ℓ) (g : Dev Cert.OutP.nD → PrngReg), Pre_OutP m →
    θ_run (Cert.OutP.defs (F := Bits)) (onTc (τ := Cert.OutP.τ) (Cert.OutP.main (F := Bits))) ⟨m, fun _ => 0, g⟩ (fun r => (∀ c : Dev Cert.OutP.nD,
      r.2.mem ((c.tc : Thread Cert.OutP.nD Cert.OutP.τ).loc Cert.OutP.main_arg0) = m ((c.tc : Thread Cert.OutP.nD Cert.OutP.τ).loc Cert.OutP.main_arg0)
      ∧ r.2.mem ((c.tc : Thread Cert.OutP.nD Cert.OutP.τ).loc Cert.OutP.main_arg1) = m ((c.tc : Thread Cert.OutP.nD Cert.OutP.τ).loc Cert.OutP.main_arg1)
      ∧ r.2.mem ((c.tc : Thread Cert.OutP.nD Cert.OutP.τ).loc Cert.OutP.main_arg2) = m ((c.tc : Thread Cert.OutP.nD Cert.OutP.τ).loc Cert.OutP.main_arg2)
      ∧ r.2.mem ((c.tc : Thread Cert.OutP.nD Cert.OutP.τ).loc Cert.OutP.main_arg3) = m ((c.tc : Thread Cert.OutP.nD Cert.OutP.τ).loc Cert.OutP.main_arg3))
      ∧ r.2.sem = fun _ => 0)

def quiescent_OutPIdeal [hOutPIdeal : Cert.OutPIdeal.Facts] : Prop :=
  ∀ (m : (ℓ : Loc Cert.OutPIdeal.nD Cert.OutPIdeal.τ Cert.OutPIdeal.sig) → Buf (Elt Ideal) ℓ) (g : Dev Cert.OutPIdeal.nD → PrngReg), Pre_OutPIdeal m →
    θ_run (Cert.OutPIdeal.defs (F := Ideal)) (onTc (τ := Cert.OutPIdeal.τ) (Cert.OutPIdeal.main (F := Ideal))) ⟨m, fun _ => 0, g⟩ (fun r => (∀ c : Dev Cert.OutPIdeal.nD,
      r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
      ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
      ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
      ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ r.2.sem = fun _ => 0)

def quiescent_OutPRefIdeal [hOutPRefIdeal : Cert.OutPRefIdeal.Facts] : Prop :=
  ∀ (m : (ℓ : Loc Cert.OutPRefIdeal.nD Cert.OutPRefIdeal.τ Cert.OutPRefIdeal.sig) → Buf (Elt Ideal) ℓ) (g : Dev Cert.OutPRefIdeal.nD → PrngReg), Pre_OutPRefIdeal m →
    θ_run (Cert.OutPRefIdeal.defs (F := Ideal)) (onTc (τ := Cert.OutPRefIdeal.τ) (Cert.OutPRefIdeal.main (F := Ideal))) ⟨m, fun _ => 0, g⟩ (fun r => (∀ c : Dev Cert.OutPRefIdeal.nD,
      r.2.mem ((c.tc : Thread Cert.OutPRefIdeal.nD Cert.OutPRefIdeal.τ).loc Cert.OutPRefIdeal.main_arg0) = m ((c.tc : Thread Cert.OutPRefIdeal.nD Cert.OutPRefIdeal.τ).loc Cert.OutPRefIdeal.main_arg0)
      ∧ r.2.mem ((c.tc : Thread Cert.OutPRefIdeal.nD Cert.OutPRefIdeal.τ).loc Cert.OutPRefIdeal.main_arg1) = m ((c.tc : Thread Cert.OutPRefIdeal.nD Cert.OutPRefIdeal.τ).loc Cert.OutPRefIdeal.main_arg1)
      ∧ r.2.mem ((c.tc : Thread Cert.OutPRefIdeal.nD Cert.OutPRefIdeal.τ).loc Cert.OutPRefIdeal.main_arg2) = m ((c.tc : Thread Cert.OutPRefIdeal.nD Cert.OutPRefIdeal.τ).loc Cert.OutPRefIdeal.main_arg2)
      ∧ r.2.mem ((c.tc : Thread Cert.OutPRefIdeal.nD Cert.OutPRefIdeal.τ).loc Cert.OutPRefIdeal.main_arg3) = m ((c.tc : Thread Cert.OutPRefIdeal.nD Cert.OutPRefIdeal.τ).loc Cert.OutPRefIdeal.main_arg3))
      ∧ r.2.sem = fun _ => 0)

def quiescent_EvenP [hEvenP : Cert.EvenP.Facts] : Prop :=
  ∀ (m : (ℓ : Loc Cert.EvenP.nD Cert.EvenP.τ Cert.EvenP.sig) → Buf (Elt Bits) ℓ) (g : Dev Cert.EvenP.nD → PrngReg), Pre_EvenP m →
    θ_run (Cert.EvenP.defs (F := Bits)) (onTc (τ := Cert.EvenP.τ) (Cert.EvenP.main (F := Bits))) ⟨m, fun _ => 0, g⟩ (fun r => (∀ c : Dev Cert.EvenP.nD,
      r.2.mem ((c.tc : Thread Cert.EvenP.nD Cert.EvenP.τ).loc Cert.EvenP.main_arg0) = m ((c.tc : Thread Cert.EvenP.nD Cert.EvenP.τ).loc Cert.EvenP.main_arg0)
      ∧ r.2.mem ((c.tc : Thread Cert.EvenP.nD Cert.EvenP.τ).loc Cert.EvenP.main_arg1) = m ((c.tc : Thread Cert.EvenP.nD Cert.EvenP.τ).loc Cert.EvenP.main_arg1)
      ∧ r.2.mem ((c.tc : Thread Cert.EvenP.nD Cert.EvenP.τ).loc Cert.EvenP.main_arg2) = m ((c.tc : Thread Cert.EvenP.nD Cert.EvenP.τ).loc Cert.EvenP.main_arg2))
      ∧ r.2.sem = fun _ => 0)

def quiescent_EvenPIdeal [hEvenPIdeal : Cert.EvenPIdeal.Facts] : Prop :=
  ∀ (m : (ℓ : Loc Cert.EvenPIdeal.nD Cert.EvenPIdeal.τ Cert.EvenPIdeal.sig) → Buf (Elt Ideal) ℓ) (g : Dev Cert.EvenPIdeal.nD → PrngReg), Pre_EvenPIdeal m →
    θ_run (Cert.EvenPIdeal.defs (F := Ideal)) (onTc (τ := Cert.EvenPIdeal.τ) (Cert.EvenPIdeal.main (F := Ideal))) ⟨m, fun _ => 0, g⟩ (fun r => (∀ c : Dev Cert.EvenPIdeal.nD,
      r.2.mem ((c.tc : Thread Cert.EvenPIdeal.nD Cert.EvenPIdeal.τ).loc Cert.EvenPIdeal.main_arg0) = m ((c.tc : Thread Cert.EvenPIdeal.nD Cert.EvenPIdeal.τ).loc Cert.EvenPIdeal.main_arg0)
      ∧ r.2.mem ((c.tc : Thread Cert.EvenPIdeal.nD Cert.EvenPIdeal.τ).loc Cert.EvenPIdeal.main_arg1) = m ((c.tc : Thread Cert.EvenPIdeal.nD Cert.EvenPIdeal.τ).loc Cert.EvenPIdeal.main_arg1)
      ∧ r.2.mem ((c.tc : Thread Cert.EvenPIdeal.nD Cert.EvenPIdeal.τ).loc Cert.EvenPIdeal.main_arg2) = m ((c.tc : Thread Cert.EvenPIdeal.nD Cert.EvenPIdeal.τ).loc Cert.EvenPIdeal.main_arg2))
      ∧ r.2.sem = fun _ => 0)

def quiescent_EvenPRefIdeal [hEvenPRefIdeal : Cert.EvenPRefIdeal.Facts] : Prop :=
  ∀ (m : (ℓ : Loc Cert.EvenPRefIdeal.nD Cert.EvenPRefIdeal.τ Cert.EvenPRefIdeal.sig) → Buf (Elt Ideal) ℓ) (g : Dev Cert.EvenPRefIdeal.nD → PrngReg), Pre_EvenPRefIdeal m →
    θ_run (Cert.EvenPRefIdeal.defs (F := Ideal)) (onTc (τ := Cert.EvenPRefIdeal.τ) (Cert.EvenPRefIdeal.main (F := Ideal))) ⟨m, fun _ => 0, g⟩ (fun r => (∀ c : Dev Cert.EvenPRefIdeal.nD,
      r.2.mem ((c.tc : Thread Cert.EvenPRefIdeal.nD Cert.EvenPRefIdeal.τ).loc Cert.EvenPRefIdeal.main_arg0) = m ((c.tc : Thread Cert.EvenPRefIdeal.nD Cert.EvenPRefIdeal.τ).loc Cert.EvenPRefIdeal.main_arg0)
      ∧ r.2.mem ((c.tc : Thread Cert.EvenPRefIdeal.nD Cert.EvenPRefIdeal.τ).loc Cert.EvenPRefIdeal.main_arg1) = m ((c.tc : Thread Cert.EvenPRefIdeal.nD Cert.EvenPRefIdeal.τ).loc Cert.EvenPRefIdeal.main_arg1)
      ∧ r.2.mem ((c.tc : Thread Cert.EvenPRefIdeal.nD Cert.EvenPRefIdeal.τ).loc Cert.EvenPRefIdeal.main_arg2) = m ((c.tc : Thread Cert.EvenPRefIdeal.nD Cert.EvenPRefIdeal.τ).loc Cert.EvenPRefIdeal.main_arg2))
      ∧ r.2.sem = fun _ => 0)

def quiescent_OddP [hOddP : Cert.OddP.Facts] : Prop :=
  ∀ (m : (ℓ : Loc Cert.OddP.nD Cert.OddP.τ Cert.OddP.sig) → Buf (Elt Bits) ℓ) (g : Dev Cert.OddP.nD → PrngReg), Pre_OddP m →
    θ_run (Cert.OddP.defs (F := Bits)) (onTc (τ := Cert.OddP.τ) (Cert.OddP.main (F := Bits))) ⟨m, fun _ => 0, g⟩ (fun r => (∀ c : Dev Cert.OddP.nD,
      r.2.mem ((c.tc : Thread Cert.OddP.nD Cert.OddP.τ).loc Cert.OddP.main_arg0) = m ((c.tc : Thread Cert.OddP.nD Cert.OddP.τ).loc Cert.OddP.main_arg0)
      ∧ r.2.mem ((c.tc : Thread Cert.OddP.nD Cert.OddP.τ).loc Cert.OddP.main_arg1) = m ((c.tc : Thread Cert.OddP.nD Cert.OddP.τ).loc Cert.OddP.main_arg1)
      ∧ r.2.mem ((c.tc : Thread Cert.OddP.nD Cert.OddP.τ).loc Cert.OddP.main_arg2) = m ((c.tc : Thread Cert.OddP.nD Cert.OddP.τ).loc Cert.OddP.main_arg2)
      ∧ r.2.mem ((c.tc : Thread Cert.OddP.nD Cert.OddP.τ).loc Cert.OddP.main_arg3) = m ((c.tc : Thread Cert.OddP.nD Cert.OddP.τ).loc Cert.OddP.main_arg3)
      ∧ r.2.mem ((c.tc : Thread Cert.OddP.nD Cert.OddP.τ).loc Cert.OddP.main_arg4) = m ((c.tc : Thread Cert.OddP.nD Cert.OddP.τ).loc Cert.OddP.main_arg4))
      ∧ r.2.sem = fun _ => 0)

def quiescent_OddPIdeal [hOddPIdeal : Cert.OddPIdeal.Facts] : Prop :=
  ∀ (m : (ℓ : Loc Cert.OddPIdeal.nD Cert.OddPIdeal.τ Cert.OddPIdeal.sig) → Buf (Elt Ideal) ℓ) (g : Dev Cert.OddPIdeal.nD → PrngReg), Pre_OddPIdeal m →
    θ_run (Cert.OddPIdeal.defs (F := Ideal)) (onTc (τ := Cert.OddPIdeal.τ) (Cert.OddPIdeal.main (F := Ideal))) ⟨m, fun _ => 0, g⟩ (fun r => (∀ c : Dev Cert.OddPIdeal.nD,
      r.2.mem ((c.tc : Thread Cert.OddPIdeal.nD Cert.OddPIdeal.τ).loc Cert.OddPIdeal.main_arg0) = m ((c.tc : Thread Cert.OddPIdeal.nD Cert.OddPIdeal.τ).loc Cert.OddPIdeal.main_arg0)
      ∧ r.2.mem ((c.tc : Thread Cert.OddPIdeal.nD Cert.OddPIdeal.τ).loc Cert.OddPIdeal.main_arg1) = m ((c.tc : Thread Cert.OddPIdeal.nD Cert.OddPIdeal.τ).loc Cert.OddPIdeal.main_arg1)
      ∧ r.2.mem ((c.tc : Thread Cert.OddPIdeal.nD Cert.OddPIdeal.τ).loc Cert.OddPIdeal.main_arg2) = m ((c.tc : Thread Cert.OddPIdeal.nD Cert.OddPIdeal.τ).loc Cert.OddPIdeal.main_arg2)
      ∧ r.2.mem ((c.tc : Thread Cert.OddPIdeal.nD Cert.OddPIdeal.τ).loc Cert.OddPIdeal.main_arg3) = m ((c.tc : Thread Cert.OddPIdeal.nD Cert.OddPIdeal.τ).loc Cert.OddPIdeal.main_arg3)
      ∧ r.2.mem ((c.tc : Thread Cert.OddPIdeal.nD Cert.OddPIdeal.τ).loc Cert.OddPIdeal.main_arg4) = m ((c.tc : Thread Cert.OddPIdeal.nD Cert.OddPIdeal.τ).loc Cert.OddPIdeal.main_arg4))
      ∧ r.2.sem = fun _ => 0)

def quiescent_OddPRefIdeal [hOddPRefIdeal : Cert.OddPRefIdeal.Facts] : Prop :=
  ∀ (m : (ℓ : Loc Cert.OddPRefIdeal.nD Cert.OddPRefIdeal.τ Cert.OddPRefIdeal.sig) → Buf (Elt Ideal) ℓ) (g : Dev Cert.OddPRefIdeal.nD → PrngReg), Pre_OddPRefIdeal m →
    θ_run (Cert.OddPRefIdeal.defs (F := Ideal)) (onTc (τ := Cert.OddPRefIdeal.τ) (Cert.OddPRefIdeal.main (F := Ideal))) ⟨m, fun _ => 0, g⟩ (fun r => (∀ c : Dev Cert.OddPRefIdeal.nD,
      r.2.mem ((c.tc : Thread Cert.OddPRefIdeal.nD Cert.OddPRefIdeal.τ).loc Cert.OddPRefIdeal.main_arg0) = m ((c.tc : Thread Cert.OddPRefIdeal.nD Cert.OddPRefIdeal.τ).loc Cert.OddPRefIdeal.main_arg0)
      ∧ r.2.mem ((c.tc : Thread Cert.OddPRefIdeal.nD Cert.OddPRefIdeal.τ).loc Cert.OddPRefIdeal.main_arg1) = m ((c.tc : Thread Cert.OddPRefIdeal.nD Cert.OddPRefIdeal.τ).loc Cert.OddPRefIdeal.main_arg1)
      ∧ r.2.mem ((c.tc : Thread Cert.OddPRefIdeal.nD Cert.OddPRefIdeal.τ).loc Cert.OddPRefIdeal.main_arg2) = m ((c.tc : Thread Cert.OddPRefIdeal.nD Cert.OddPRefIdeal.τ).loc Cert.OddPRefIdeal.main_arg2)
      ∧ r.2.mem ((c.tc : Thread Cert.OddPRefIdeal.nD Cert.OddPRefIdeal.τ).loc Cert.OddPRefIdeal.main_arg3) = m ((c.tc : Thread Cert.OddPRefIdeal.nD Cert.OddPRefIdeal.τ).loc Cert.OddPRefIdeal.main_arg3)
      ∧ r.2.mem ((c.tc : Thread Cert.OddPRefIdeal.nD Cert.OddPRefIdeal.τ).loc Cert.OddPRefIdeal.main_arg4) = m ((c.tc : Thread Cert.OddPRefIdeal.nD Cert.OddPRefIdeal.τ).loc Cert.OddPRefIdeal.main_arg4))
      ∧ r.2.sem = fun _ => 0)

def preserves_Gqa_GqaIdeal : Prop :=
  True

def algebraic_GqaIdeal_GqaRefIdeal_pre_finite_scores [hGqaIdeal : Cert.GqaIdeal.Facts] [hGqaRefIdeal : Cert.GqaRefIdeal.Facts] [hPre_finite_scores : Cert.Pre_finite_scores.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_scores m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v25) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_OutP_OutPIdeal : Prop :=
  True

def algebraic_OutPIdeal_OutPRefIdeal [hOutPIdeal : Cert.OutPIdeal.Facts] [hOutPRefIdeal : Cert.OutPRefIdeal.Facts] : Prop :=
  ∀ (m : (ℓ : Loc Cert.OutPIdeal.nD Cert.OutPIdeal.τ Cert.OutPIdeal.sig) → Buf (Elt Ideal) ℓ) (g : Dev Cert.OutPIdeal.nD → PrngReg)
    (m' : (ℓ : Loc Cert.OutPRefIdeal.nD Cert.OutPRefIdeal.τ Cert.OutPRefIdeal.sig) → Buf (Elt Ideal) ℓ) (g' : Dev Cert.OutPRefIdeal.nD → PrngReg), Pre_OutPIdeal m →
    (∀ c : Dev Cert.OutPIdeal.nD,
      m' ((c.tc : Thread Cert.OutPRefIdeal.nD Cert.OutPRefIdeal.τ).loc Cert.OutPRefIdeal.main_arg0) = m ((c.tc : Thread Cert.OutPIdeal.nD Cert.OutPIdeal.τ).loc Cert.OutPIdeal.main_arg0)
      ∧ m' ((c.tc : Thread Cert.OutPRefIdeal.nD Cert.OutPRefIdeal.τ).loc Cert.OutPRefIdeal.main_arg1) = m ((c.tc : Thread Cert.OutPIdeal.nD Cert.OutPIdeal.τ).loc Cert.OutPIdeal.main_arg1)
      ∧ m' ((c.tc : Thread Cert.OutPRefIdeal.nD Cert.OutPRefIdeal.τ).loc Cert.OutPRefIdeal.main_arg2) = m ((c.tc : Thread Cert.OutPIdeal.nD Cert.OutPIdeal.τ).loc Cert.OutPIdeal.main_arg2)
      ∧ m' ((c.tc : Thread Cert.OutPRefIdeal.nD Cert.OutPRefIdeal.τ).loc Cert.OutPRefIdeal.main_arg3) = m ((c.tc : Thread Cert.OutPIdeal.nD Cert.OutPIdeal.τ).loc Cert.OutPIdeal.main_arg3)) →
    ∃ (v0 : (c : Dev Cert.OutPIdeal.nD) → Buf (Elt Ideal) ((c.tc : Thread Cert.OutPIdeal.nD Cert.OutPIdeal.τ).loc Cert.OutPIdeal.main_v1)),
      θ_run (Cert.OutPIdeal.defs (F := Ideal)) (onTc (τ := Cert.OutPIdeal.τ) (Cert.OutPIdeal.main (F := Ideal))) ⟨m, fun _ => 0, g⟩ (fun r => ∀ c : Dev Cert.OutPIdeal.nD,
          r.2.mem ((c.tc : Thread Cert.OutPIdeal.nD Cert.OutPIdeal.τ).loc Cert.OutPIdeal.main_v1) = v0 c
          ∧ r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
          ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
          ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
          ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ θ_run (Cert.OutPRefIdeal.defs (F := Ideal)) (onTc (τ := Cert.OutPRefIdeal.τ) (Cert.OutPRefIdeal.main (F := Ideal))) ⟨m', fun _ => 0, g'⟩ (fun r => ∀ c : Dev Cert.OutPRefIdeal.nD,
          r.2.mem ((c.tc : Thread Cert.OutPRefIdeal.nD Cert.OutPRefIdeal.τ).loc Cert.OutPRefIdeal.main_v3) = v0 c
          ∧ r.2.mem ((c.tc : Thread Cert.OutPRefIdeal.nD Cert.OutPRefIdeal.τ).loc Cert.OutPRefIdeal.main_arg0) = m' ((c.tc : Thread Cert.OutPRefIdeal.nD Cert.OutPRefIdeal.τ).loc Cert.OutPRefIdeal.main_arg0)
          ∧ r.2.mem ((c.tc : Thread Cert.OutPRefIdeal.nD Cert.OutPRefIdeal.τ).loc Cert.OutPRefIdeal.main_arg1) = m' ((c.tc : Thread Cert.OutPRefIdeal.nD Cert.OutPRefIdeal.τ).loc Cert.OutPRefIdeal.main_arg1)
          ∧ r.2.mem ((c.tc : Thread Cert.OutPRefIdeal.nD Cert.OutPRefIdeal.τ).loc Cert.OutPRefIdeal.main_arg2) = m' ((c.tc : Thread Cert.OutPRefIdeal.nD Cert.OutPRefIdeal.τ).loc Cert.OutPRefIdeal.main_arg2)
          ∧ r.2.mem ((c.tc : Thread Cert.OutPRefIdeal.nD Cert.OutPRefIdeal.τ).loc Cert.OutPRefIdeal.main_arg3) = m' ((c.tc : Thread Cert.OutPRefIdeal.nD Cert.OutPRefIdeal.τ).loc Cert.OutPRefIdeal.main_arg3))

def preserves_EvenP_EvenPIdeal : Prop :=
  True

def algebraic_EvenPIdeal_EvenPRefIdeal [hEvenPIdeal : Cert.EvenPIdeal.Facts] [hEvenPRefIdeal : Cert.EvenPRefIdeal.Facts] : Prop :=
  ∀ (m : (ℓ : Loc Cert.EvenPIdeal.nD Cert.EvenPIdeal.τ Cert.EvenPIdeal.sig) → Buf (Elt Ideal) ℓ) (g : Dev Cert.EvenPIdeal.nD → PrngReg)
    (m' : (ℓ : Loc Cert.EvenPRefIdeal.nD Cert.EvenPRefIdeal.τ Cert.EvenPRefIdeal.sig) → Buf (Elt Ideal) ℓ) (g' : Dev Cert.EvenPRefIdeal.nD → PrngReg), Pre_EvenPIdeal m →
    (∀ c : Dev Cert.EvenPIdeal.nD,
      m' ((c.tc : Thread Cert.EvenPRefIdeal.nD Cert.EvenPRefIdeal.τ).loc Cert.EvenPRefIdeal.main_arg0) = m ((c.tc : Thread Cert.EvenPIdeal.nD Cert.EvenPIdeal.τ).loc Cert.EvenPIdeal.main_arg0)
      ∧ m' ((c.tc : Thread Cert.EvenPRefIdeal.nD Cert.EvenPRefIdeal.τ).loc Cert.EvenPRefIdeal.main_arg1) = m ((c.tc : Thread Cert.EvenPIdeal.nD Cert.EvenPIdeal.τ).loc Cert.EvenPIdeal.main_arg1)
      ∧ m' ((c.tc : Thread Cert.EvenPRefIdeal.nD Cert.EvenPRefIdeal.τ).loc Cert.EvenPRefIdeal.main_arg2) = m ((c.tc : Thread Cert.EvenPIdeal.nD Cert.EvenPIdeal.τ).loc Cert.EvenPIdeal.main_arg2)) →
    ∃ (v0 : (c : Dev Cert.EvenPIdeal.nD) → Buf (Elt Ideal) ((c.tc : Thread Cert.EvenPIdeal.nD Cert.EvenPIdeal.τ).loc Cert.EvenPIdeal.main_v2_0)) (v1 : (c : Dev Cert.EvenPIdeal.nD) → Buf (Elt Ideal) ((c.tc : Thread Cert.EvenPIdeal.nD Cert.EvenPIdeal.τ).loc Cert.EvenPIdeal.main_v2_1)) (v2 : (c : Dev Cert.EvenPIdeal.nD) → Buf (Elt Ideal) ((c.tc : Thread Cert.EvenPIdeal.nD Cert.EvenPIdeal.τ).loc Cert.EvenPIdeal.main_v2_2)),
      θ_run (Cert.EvenPIdeal.defs (F := Ideal)) (onTc (τ := Cert.EvenPIdeal.τ) (Cert.EvenPIdeal.main (F := Ideal))) ⟨m, fun _ => 0, g⟩ (fun r => ∀ c : Dev Cert.EvenPIdeal.nD,
          r.2.mem ((c.tc : Thread Cert.EvenPIdeal.nD Cert.EvenPIdeal.τ).loc Cert.EvenPIdeal.main_v2_0) = v0 c
          ∧ r.2.mem ((c.tc : Thread Cert.EvenPIdeal.nD Cert.EvenPIdeal.τ).loc Cert.EvenPIdeal.main_v2_1) = v1 c
          ∧ r.2.mem ((c.tc : Thread Cert.EvenPIdeal.nD Cert.EvenPIdeal.τ).loc Cert.EvenPIdeal.main_v2_2) = v2 c
          ∧ r.2.mem ((c.tc : Thread Cert.EvenPIdeal.nD Cert.EvenPIdeal.τ).loc Cert.EvenPIdeal.main_arg0) = m ((c.tc : Thread Cert.EvenPIdeal.nD Cert.EvenPIdeal.τ).loc Cert.EvenPIdeal.main_arg0)
          ∧ r.2.mem ((c.tc : Thread Cert.EvenPIdeal.nD Cert.EvenPIdeal.τ).loc Cert.EvenPIdeal.main_arg1) = m ((c.tc : Thread Cert.EvenPIdeal.nD Cert.EvenPIdeal.τ).loc Cert.EvenPIdeal.main_arg1)
          ∧ r.2.mem ((c.tc : Thread Cert.EvenPIdeal.nD Cert.EvenPIdeal.τ).loc Cert.EvenPIdeal.main_arg2) = m ((c.tc : Thread Cert.EvenPIdeal.nD Cert.EvenPIdeal.τ).loc Cert.EvenPIdeal.main_arg2))
      ∧ θ_run (Cert.EvenPRefIdeal.defs (F := Ideal)) (onTc (τ := Cert.EvenPRefIdeal.τ) (Cert.EvenPRefIdeal.main (F := Ideal))) ⟨m', fun _ => 0, g'⟩ (fun r => ∀ c : Dev Cert.EvenPRefIdeal.nD,
          r.2.mem ((c.tc : Thread Cert.EvenPRefIdeal.nD Cert.EvenPRefIdeal.τ).loc Cert.EvenPRefIdeal.main_v34) = v0 c
          ∧ r.2.mem ((c.tc : Thread Cert.EvenPRefIdeal.nD Cert.EvenPRefIdeal.τ).loc Cert.EvenPRefIdeal.main_v35) = v1 c
          ∧ r.2.mem ((c.tc : Thread Cert.EvenPRefIdeal.nD Cert.EvenPRefIdeal.τ).loc Cert.EvenPRefIdeal.main_v36) = v2 c
          ∧ r.2.mem ((c.tc : Thread Cert.EvenPRefIdeal.nD Cert.EvenPRefIdeal.τ).loc Cert.EvenPRefIdeal.main_arg0) = m' ((c.tc : Thread Cert.EvenPRefIdeal.nD Cert.EvenPRefIdeal.τ).loc Cert.EvenPRefIdeal.main_arg0)
          ∧ r.2.mem ((c.tc : Thread Cert.EvenPRefIdeal.nD Cert.EvenPRefIdeal.τ).loc Cert.EvenPRefIdeal.main_arg1) = m' ((c.tc : Thread Cert.EvenPRefIdeal.nD Cert.EvenPRefIdeal.τ).loc Cert.EvenPRefIdeal.main_arg1)
          ∧ r.2.mem ((c.tc : Thread Cert.EvenPRefIdeal.nD Cert.EvenPRefIdeal.τ).loc Cert.EvenPRefIdeal.main_arg2) = m' ((c.tc : Thread Cert.EvenPRefIdeal.nD Cert.EvenPRefIdeal.τ).loc Cert.EvenPRefIdeal.main_arg2))

def preserves_OddP_OddPIdeal : Prop :=
  True

def algebraic_OddPIdeal_OddPRefIdeal [hOddPIdeal : Cert.OddPIdeal.Facts] [hOddPRefIdeal : Cert.OddPRefIdeal.Facts] : Prop :=
  ∀ (m : (ℓ : Loc Cert.OddPIdeal.nD Cert.OddPIdeal.τ Cert.OddPIdeal.sig) → Buf (Elt Ideal) ℓ) (g : Dev Cert.OddPIdeal.nD → PrngReg)
    (m' : (ℓ : Loc Cert.OddPRefIdeal.nD Cert.OddPRefIdeal.τ Cert.OddPRefIdeal.sig) → Buf (Elt Ideal) ℓ) (g' : Dev Cert.OddPRefIdeal.nD → PrngReg), Pre_OddPIdeal m →
    (∀ c : Dev Cert.OddPIdeal.nD,
      m' ((c.tc : Thread Cert.OddPRefIdeal.nD Cert.OddPRefIdeal.τ).loc Cert.OddPRefIdeal.main_arg0) = m ((c.tc : Thread Cert.OddPIdeal.nD Cert.OddPIdeal.τ).loc Cert.OddPIdeal.main_arg0)
      ∧ m' ((c.tc : Thread Cert.OddPRefIdeal.nD Cert.OddPRefIdeal.τ).loc Cert.OddPRefIdeal.main_arg1) = m ((c.tc : Thread Cert.OddPIdeal.nD Cert.OddPIdeal.τ).loc Cert.OddPIdeal.main_arg1)
      ∧ m' ((c.tc : Thread Cert.OddPRefIdeal.nD Cert.OddPRefIdeal.τ).loc Cert.OddPRefIdeal.main_arg2) = m ((c.tc : Thread Cert.OddPIdeal.nD Cert.OddPIdeal.τ).loc Cert.OddPIdeal.main_arg2)
      ∧ m' ((c.tc : Thread Cert.OddPRefIdeal.nD Cert.OddPRefIdeal.τ).loc Cert.OddPRefIdeal.main_arg3) = m ((c.tc : Thread Cert.OddPIdeal.nD Cert.OddPIdeal.τ).loc Cert.OddPIdeal.main_arg3)
      ∧ m' ((c.tc : Thread Cert.OddPRefIdeal.nD Cert.OddPRefIdeal.τ).loc Cert.OddPRefIdeal.main_arg4) = m ((c.tc : Thread Cert.OddPIdeal.nD Cert.OddPIdeal.τ).loc Cert.OddPIdeal.main_arg4)) →
    ∃ (v0 : (c : Dev Cert.OddPIdeal.nD) → Buf (Elt Ideal) ((c.tc : Thread Cert.OddPIdeal.nD Cert.OddPIdeal.τ).loc Cert.OddPIdeal.main_v46)),
      θ_run (Cert.OddPIdeal.defs (F := Ideal)) (onTc (τ := Cert.OddPIdeal.τ) (Cert.OddPIdeal.main (F := Ideal))) ⟨m, fun _ => 0, g⟩ (fun r => ∀ c : Dev Cert.OddPIdeal.nD,
          r.2.mem ((c.tc : Thread Cert.OddPIdeal.nD Cert.OddPIdeal.τ).loc Cert.OddPIdeal.main_v46) = v0 c
          ∧ r.2.mem ((c.tc : Thread Cert.OddPIdeal.nD Cert.OddPIdeal.τ).loc Cert.OddPIdeal.main_arg0) = m ((c.tc : Thread Cert.OddPIdeal.nD Cert.OddPIdeal.τ).loc Cert.OddPIdeal.main_arg0)
          ∧ r.2.mem ((c.tc : Thread Cert.OddPIdeal.nD Cert.OddPIdeal.τ).loc Cert.OddPIdeal.main_arg1) = m ((c.tc : Thread Cert.OddPIdeal.nD Cert.OddPIdeal.τ).loc Cert.OddPIdeal.main_arg1)
          ∧ r.2.mem ((c.tc : Thread Cert.OddPIdeal.nD Cert.OddPIdeal.τ).loc Cert.OddPIdeal.main_arg2) = m ((c.tc : Thread Cert.OddPIdeal.nD Cert.OddPIdeal.τ).loc Cert.OddPIdeal.main_arg2)
          ∧ r.2.mem ((c.tc : Thread Cert.OddPIdeal.nD Cert.OddPIdeal.τ).loc Cert.OddPIdeal.main_arg3) = m ((c.tc : Thread Cert.OddPIdeal.nD Cert.OddPIdeal.τ).loc Cert.OddPIdeal.main_arg3)
          ∧ r.2.mem ((c.tc : Thread Cert.OddPIdeal.nD Cert.OddPIdeal.τ).loc Cert.OddPIdeal.main_arg4) = m ((c.tc : Thread Cert.OddPIdeal.nD Cert.OddPIdeal.τ).loc Cert.OddPIdeal.main_arg4))
      ∧ θ_run (Cert.OddPRefIdeal.defs (F := Ideal)) (onTc (τ := Cert.OddPRefIdeal.τ) (Cert.OddPRefIdeal.main (F := Ideal))) ⟨m', fun _ => 0, g'⟩ (fun r => ∀ c : Dev Cert.OddPRefIdeal.nD,
          r.2.mem ((c.tc : Thread Cert.OddPRefIdeal.nD Cert.OddPRefIdeal.τ).loc Cert.OddPRefIdeal.main_v123) = v0 c
          ∧ r.2.mem ((c.tc : Thread Cert.OddPRefIdeal.nD Cert.OddPRefIdeal.τ).loc Cert.OddPRefIdeal.main_arg0) = m' ((c.tc : Thread Cert.OddPRefIdeal.nD Cert.OddPRefIdeal.τ).loc Cert.OddPRefIdeal.main_arg0)
          ∧ r.2.mem ((c.tc : Thread Cert.OddPRefIdeal.nD Cert.OddPRefIdeal.τ).loc Cert.OddPRefIdeal.main_arg1) = m' ((c.tc : Thread Cert.OddPRefIdeal.nD Cert.OddPRefIdeal.τ).loc Cert.OddPRefIdeal.main_arg1)
          ∧ r.2.mem ((c.tc : Thread Cert.OddPRefIdeal.nD Cert.OddPRefIdeal.τ).loc Cert.OddPRefIdeal.main_arg2) = m' ((c.tc : Thread Cert.OddPRefIdeal.nD Cert.OddPRefIdeal.τ).loc Cert.OddPRefIdeal.main_arg2)
          ∧ r.2.mem ((c.tc : Thread Cert.OddPRefIdeal.nD Cert.OddPRefIdeal.τ).loc Cert.OddPRefIdeal.main_arg3) = m' ((c.tc : Thread Cert.OddPRefIdeal.nD Cert.OddPRefIdeal.τ).loc Cert.OddPRefIdeal.main_arg3)
          ∧ r.2.mem ((c.tc : Thread Cert.OddPRefIdeal.nD Cert.OddPRefIdeal.τ).loc Cert.OddPRefIdeal.main_arg4) = m' ((c.tc : Thread Cert.OddPRefIdeal.nD Cert.OddPRefIdeal.τ).loc Cert.OddPRefIdeal.main_arg4))

def Claim : Prop :=
  ∃ (hGqa : Cert.Gqa.Facts) (hGqaIdeal : Cert.GqaIdeal.Facts) (hGqaRefIdeal : Cert.GqaRefIdeal.Facts) (hFfn : Cert.Ffn.Facts) (hFfnIdeal : Cert.FfnIdeal.Facts) (hFfnRefIdeal : Cert.FfnRefIdeal.Facts) (hOutP : Cert.OutP.Facts) (hOutPIdeal : Cert.OutPIdeal.Facts) (hOutPRefIdeal : Cert.OutPRefIdeal.Facts) (hEvenP : Cert.EvenP.Facts) (hEvenPIdeal : Cert.EvenPIdeal.Facts) (hEvenPRefIdeal : Cert.EvenPRefIdeal.Facts) (hOddP : Cert.OddP.Facts) (hOddPIdeal : Cert.OddPIdeal.Facts) (hOddPRefIdeal : Cert.OddPRefIdeal.Facts) (hPre_finite_scores : Cert.Pre_finite_scores.Facts),
    quiescent_Gqa (hGqa := hGqa)
    ∧ quiescent_GqaIdeal (hGqaIdeal := hGqaIdeal)
    ∧ quiescent_GqaIdeal_pre_finite_scores (hGqaIdeal := hGqaIdeal) (hPre_finite_scores := hPre_finite_scores)
    ∧ quiescent_GqaRefIdeal (hGqaRefIdeal := hGqaRefIdeal)
    ∧ quiescent_GqaRefIdeal_pre_finite_scores (hGqaRefIdeal := hGqaRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_OutP (hOutP := hOutP)
    ∧ quiescent_OutPIdeal (hOutPIdeal := hOutPIdeal)
    ∧ quiescent_OutPRefIdeal (hOutPRefIdeal := hOutPRefIdeal)
    ∧ quiescent_EvenP (hEvenP := hEvenP)
    ∧ quiescent_EvenPIdeal (hEvenPIdeal := hEvenPIdeal)
    ∧ quiescent_EvenPRefIdeal (hEvenPRefIdeal := hEvenPRefIdeal)
    ∧ quiescent_OddP (hOddP := hOddP)
    ∧ quiescent_OddPIdeal (hOddPIdeal := hOddPIdeal)
    ∧ quiescent_OddPRefIdeal (hOddPRefIdeal := hOddPRefIdeal)
    ∧ preserves_Gqa_GqaIdeal
    ∧ algebraic_GqaIdeal_GqaRefIdeal_pre_finite_scores (hGqaIdeal := hGqaIdeal) (hGqaRefIdeal := hGqaRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_OutP_OutPIdeal
    ∧ algebraic_OutPIdeal_OutPRefIdeal (hOutPIdeal := hOutPIdeal) (hOutPRefIdeal := hOutPRefIdeal)
    ∧ preserves_EvenP_EvenPIdeal
    ∧ algebraic_EvenPIdeal_EvenPRefIdeal (hEvenPIdeal := hEvenPIdeal) (hEvenPRefIdeal := hEvenPRefIdeal)
    ∧ preserves_OddP_OddPIdeal
    ∧ algebraic_OddPIdeal_OddPRefIdeal (hOddPIdeal := hOddPIdeal) (hOddPRefIdeal := hOddPRefIdeal)
-- ==== Pre_finite_scores.lean ====
abbrev S36x16384x128 : Shape := ⟨3, ![36, 16384, 128]⟩
abbrev S10x16384x128 : Shape := ⟨3, ![10, 16384, 128]⟩
abbrev S_ : Shape := ⟨0, ![]⟩

class Facts : Prop where
  slices_S36x16384x128_S10x16384x128_0_0_0 : S36x16384x128.Slices ![0, 0, 0] S10x16384x128
  bitsLt_bf16_f32 : FTy.bits .bf16 < FTy.bits .f32
  bcast_S_S10x16384x128 : S_.BroadcastsInDim S10x16384x128 (![] : Fin 0 → Fin S10x16384x128.rank)
  reducesTo_S10x16384x128_S_d0_1_2 : S10x16384x128.ReducesTo [0, 1, 2] S_
  h_S_ : 0 < S_.numel

variable [Facts]

def fn {F : FTy → Type} [FloatOps F] (main_arg0 : FVec F S36x16384x128 .bf16) : IVec S_ 1 :=
  let main_v0 : FVec F S10x16384x128 .bf16 := (extractStridedSlice S10x16384x128 ![0, 0, 0] · slices_S36x16384x128_S10x16384x128_0_0_0) main_arg0
  let main_v1 : FVec F S10x16384x128 .f32 := (extf .f32 · bitsLt_bf16_f32) main_v0
  let main_v2 : FVec F S10x16384x128 .f32 := Host.absf main_v1
  let main_cst : FVec F S_ .f32 := constant S_ .f32 0x7F800000#32
  let main_v3 : FVec F S10x16384x128 .f32 := broadcastInDim S10x16384x128 ![] bcast_S_S10x16384x128 main_cst
  let main_v4 : IVec S10x16384x128 1 := cmpf .olt main_v2 main_v3
  let main_c : IVec S_ 1 := constantI S_ 1 1#1
  let main_v5 : IVec S_ 1 := (fun x v => Host.reduce IntOp.andi x v reducesTo_S10x16384x128_S_d0_1_2 h_S_) main_v4 main_c
  main_v5
-- ==== Gqa.lean ====
abbrev S36x16384x128 : Shape := ⟨3, ![36, 16384, 128]⟩
abbrev S16384x1024 : Shape := ⟨2, ![16384, 1024]⟩
abbrev S4x256x128 : Shape := ⟨3, ![4, 256, 128]⟩
abbrev S1x4096x128 : Shape := ⟨3, ![1, 4096, 128]⟩
abbrev S256x512 : Shape := ⟨2, ![256, 512]⟩
abbrev S1024x128 : Shape := ⟨2, ![1024, 128]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩
abbrev S512x256 : Shape := ⟨2, ![512, 256]⟩
abbrev S1024x256 : Shape := ⟨2, ![1024, 256]⟩
abbrev S1x1024x128 : Shape := ⟨3, ![1, 1024, 128]⟩
abbrev S1024x1024 : Shape := ⟨2, ![1024, 1024]⟩
abbrev S256x128 : Shape := ⟨2, ![256, 128]⟩

abbrev nBuf : Space → Nat
  | .hbm => 2
  | .vmem => 8
  | .smem => 0
  | _ => 0

abbrev bufTy : (tb : Table) → Fin (tcTables nBuf tb) → BufTy
  | .hbm, ⟨0, _⟩ => ⟨S36x16384x128, .bf16⟩
  | .hbm, ⟨1, _⟩ => ⟨S16384x1024, .bf16⟩
  | .local _ .vmem, ⟨0, _⟩ => ⟨S4x256x128, .bf16⟩
  | .local _ .vmem, ⟨1, _⟩ => ⟨S4x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x512, .bf16⟩
  | .local _ .vmem, ⟨7, _⟩ => ⟨S256x512, .bf16⟩
  | _, _ => ⟨S36x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![v0.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S36x16384x128 : Shape := ⟨3, ![36, 16384, 128]⟩
abbrev S8x16384x128 : Shape := ⟨3, ![8, 16384, 128]⟩
abbrev S2x4x4x4096x128 : Shape := ⟨5, ![2, 4, 4, 4096, 128]⟩
abbrev S2x16384x128 : Shape := ⟨3, ![2, 16384, 128]⟩
abbrev S2x4x4096x128 : Shape := ⟨4, ![2, 4, 4096, 128]⟩
abbrev S2x4x4x4096x4096 : Shape := ⟨5, ![2, 4, 4, 4096, 4096]⟩
abbrev S_ : Shape := ⟨0, ![]⟩
abbrev S2x4x4x4096 : Shape := ⟨4, ![2, 4, 4, 4096]⟩
abbrev S2x4x4x4096x1 : Shape := ⟨5, ![2, 4, 4, 4096, 1]⟩
abbrev S4x2x128x4x4096 : Shape := ⟨5, ![4, 2, 128, 4, 4096]⟩
abbrev S4x4096x2x4x128 : Shape := ⟨5, ![4, 4096, 2, 4, 128]⟩
abbrev S16384x1024 : Shape := ⟨2, ![16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S36x16384x128, .bf16⟩
  | .hbm, ⟨1, _⟩ => ⟨S36x16384x128, .f32⟩
  | .hbm, ⟨2, _⟩ => ⟨S8x16384x128, .f32⟩
  | .hbm, ⟨3, _⟩ => ⟨S2x4x4x4096x128, .f32⟩
  | .hbm, ⟨4, _⟩ => ⟨S2x16384x128, .f32⟩
  | .hbm, ⟨5, _⟩ => ⟨S2x4x4096x128, .f32⟩
  | .hbm, ⟨6, _⟩ => ⟨S2x16384x128, .f32⟩
  | .hbm, ⟨7, _⟩ => ⟨S2x4x4096x128, .f32⟩
  | .hbm, ⟨8, _⟩ => ⟨S2x4x4x4096x4096, .f32⟩
  | .hbm, ⟨9, _⟩ => ⟨S_, .f32⟩
  | .hbm, ⟨10, _⟩ => ⟨S_, .f32⟩
  | .hbm, ⟨11, _⟩ => ⟨S2x4x4x4096x4096, .f32⟩
  | .hbm, ⟨12, _⟩ => ⟨S2x4x4x4096x4096, .f32⟩
  | .hbm, ⟨13, _⟩ => ⟨S_, .f32⟩
  | .hbm, ⟨14, _⟩ => ⟨S2x4x4x4096, .f32⟩
  | .hbm, ⟨15, _⟩ => ⟨S_, .f32⟩
  | .hbm, ⟨16, _⟩ => ⟨S2x4x4x4096, .f32⟩
  | .hbm, ⟨17, _⟩ => ⟨S2x4x4x4096, .f32⟩
  | .hbm, ⟨18, _⟩ => ⟨S2x4x4x4096x1, .f32⟩
  | .hbm, ⟨19, _⟩ => ⟨S2x4x4x4096x4096, .f32⟩
  | .hbm, ⟨20, _⟩ => ⟨S2x4x4x4096x4096, .f32⟩
  | .hbm, ⟨21, _⟩ => ⟨S2x4x4x4096x4096, .f32⟩
  | .hbm, ⟨22, _⟩ => ⟨S_, .f32⟩
  | .hbm, ⟨23, _⟩ => ⟨S2x4x4x4096, .f32⟩
  | .hbm, ⟨24, _⟩ => ⟨S2x4x4x4096x1, .f32⟩
  | .hbm, ⟨25, _⟩ => ⟨S2x4x4x4096x4096, .f32⟩
  | .hbm, ⟨26, _⟩ => ⟨S2x4x4x4096x4096, .f32⟩
  | .hbm, ⟨27, _⟩ => ⟨S4x2x128x4x4096, .f32⟩
  | .hbm, ⟨28, _⟩ => ⟨S4x4096x2x4x128, .f32⟩
  | .hbm, ⟨29, _⟩ => ⟨S16384x1024, .f32⟩
  | .hbm, ⟨30, _⟩ => ⟨S16384x1024, .bf16⟩
  | _, _ => ⟨S36x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Ffn.lean ====
abbrev S4x4096x2048 : Shape := ⟨3, ![4, 4096, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S16384x2048 : Shape := ⟨2, ![16384, 2048]⟩
abbrev S1x2048 : Shape := ⟨2, ![1, 2048]⟩
abbrev S1x5632 : Shape := ⟨2, ![1, 5632]⟩
abbrev S1024x2048 : Shape := ⟨2, ![1024, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S1056x2048 : Shape := ⟨2, ![1056, 2048]⟩
abbrev S16 : Shape := ⟨1, ![16]⟩
abbrev S16x1 : Shape := ⟨2, ![16, 1]⟩
abbrev S1024 : Shape := ⟨1, ![1024]⟩
abbrev S1024x1 : Shape := ⟨2, ![1024, 1]⟩
abbrev S1056x512 : Shape := ⟨2, ![1056, 512]⟩
abbrev S1024x512 : Shape := ⟨2, ![1024, 512]⟩

abbrev nBuf : Space → Nat
  | .hbm => 14
  | .vmem => 21
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2048, .f32⟩
  | .hbm, ⟨7, _⟩ => ⟨S16384x2048, .f32⟩
  | .hbm, ⟨8, _⟩ => ⟨S2048x11264, .bf16⟩
  | .hbm, ⟨9, _⟩ => ⟨S5632x2048, .bf16⟩
  | .hbm, ⟨10, _⟩ => ⟨S1x2048, .f32⟩
  | .hbm, ⟨11, _⟩ => ⟨S1x5632, .f32⟩
  | .hbm, ⟨12, _⟩ => ⟨S1x2048, .f32⟩
  | .hbm, ⟨13, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S1024x2048, .f32⟩
  | .local _ .vmem, ⟨19, _⟩ => ⟨S1024x2048, .f32⟩
  | .local _ .vmem, ⟨20, _⟩ => ⟨S1056x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S4x4096x2048 : Shape := ⟨3, ![4, 4096, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11264 : Shape := ⟨3, ![4, 4096, 11264]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S16384x2048 : Shape := ⟨2, ![16384, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x4096x11264, .f32⟩
  | .hbm, ⟨24, _⟩ => ⟨S4x4096x5632, .f32⟩
  | .hbm, ⟨25, _⟩ => ⟨S4x4096x5632, .f32⟩
  | .hbm, ⟨26, _⟩ => ⟨S_, .i32⟩
  | .hbm, ⟨27, _⟩ => ⟨S_, .f32⟩
  | .hbm, ⟨28, _⟩ => ⟨S4x4098x5632, .f32⟩
  | .hbm, ⟨29, _⟩ => ⟨S1x5632, .f32⟩
  | .hbm, ⟨30, _⟩ => ⟨S5632, .f32⟩
  | .hbm, ⟨31, _⟩ => ⟨S4x4096x5632, .f32⟩
  | .hbm, ⟨32, _⟩ => ⟨S1x1x5632, .f32⟩
  | .hbm, ⟨33, _⟩ => ⟨S4x4096x5632, .f32⟩
  | .hbm, ⟨34, _⟩ => ⟨S4x4096x5632, .f32⟩
  | .hbm, ⟨35, _⟩ => ⟨S1x5632, .f32⟩
  | .hbm, ⟨36, _⟩ => ⟨S5632, .f32⟩
  | .hbm, ⟨37, _⟩ => ⟨S4x4096x5632, .f32⟩
  | .hbm, ⟨38, _⟩ => ⟨S1x1x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S1x5632, .f32⟩
  | .hbm, ⟨43, _⟩ => ⟨S5632, .f32⟩
  | .hbm, ⟨44, _⟩ => ⟨S4x4096x5632, .f32⟩
  | .hbm, ⟨45, _⟩ => ⟨S1x1x5632, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S_, .f32⟩
  | .hbm, ⟨55, _⟩ => ⟨S4x4096x5632, .f32⟩
  | .hbm, ⟨56, _⟩ => ⟨S4x4096x5632, .f32⟩
  | .hbm, ⟨57, _⟩ => ⟨S4x4096x5632, .f32⟩
  | .hbm, ⟨58, _⟩ => ⟨S_, .f32⟩
  | .hbm, ⟨59, _⟩ => ⟨S4x4096x5632, .f32⟩
  | .hbm, ⟨60, _⟩ => ⟨S4x4096x5632, .f32⟩
  | .hbm, ⟨61, _⟩ => ⟨S4x4096x5632, .f32⟩
  | .hbm, ⟨62, _⟩ => ⟨S_, .f32⟩
  | .hbm, ⟨63, _⟩ => ⟨S4x4096x5632, .f32⟩
  | .hbm, ⟨64, _⟩ => ⟨S4x4096x5632, .f32⟩
  | .hbm, ⟨65, _⟩ => ⟨S_, .f32⟩
  | .hbm, ⟨66, _⟩ => ⟨S4x4096x5632, .f32⟩
  | .hbm, ⟨67, _⟩ => ⟨S4x4096x5632, .f32⟩
  | .hbm, ⟨68, _⟩ => ⟨S4x4096x5632, .f32⟩
  | .hbm, ⟨69, _⟩ => ⟨S4x4096x5632, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S_, .f32⟩
  | .hbm, ⟨80, _⟩ => ⟨S4x4096x1, .f32⟩
  | .hbm, ⟨81, _⟩ => ⟨S4x4096x1, .f32⟩
  | .hbm, ⟨82, _⟩ => ⟨S4x4096x1, .f32⟩
  | .hbm, ⟨83, _⟩ => ⟨S4x4096x2048, .f32⟩
  | .hbm, ⟨84, _⟩ => ⟨S4x4096x2048, .f32⟩
  | .hbm, ⟨85, _⟩ => ⟨S1x1x2048, .f32⟩
  | .hbm, ⟨86, _⟩ => ⟨S4x4096x2048, .f32⟩
  | .hbm, ⟨87, _⟩ => ⟨S4x4096x2048, .f32⟩
  | .hbm, ⟨88, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== OutP.lean ====
abbrev S16384x1024 : Shape := ⟨2, ![16384, 1024]⟩
abbrev S2048x2048 : Shape := ⟨2, ![2048, 2048]⟩
abbrev S16384x2048 : Shape := ⟨2, ![16384, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048x2048, .bf16⟩
  | .hbm, ⟨5, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutPRefIdeal.lean ====
abbrev S16384x1024 : Shape := ⟨2, ![16384, 1024]⟩
abbrev S2048x2048 : Shape := ⟨2, ![2048, 2048]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== EvenP.lean ====
abbrev S16384x2048 : Shape := ⟨2, ![16384, 2048]⟩
abbrev S2048 : Shape := ⟨1, ![2048]⟩
abbrev S2048x12288 : Shape := ⟨2, ![2048, 12288]⟩
abbrev S1x2048 : Shape := ⟨2, ![1, 2048]⟩
abbrev S48x16384x128 : Shape := ⟨3, ![48, 16384, 128]⟩
abbrev S24x4x4x1024x128 : Shape := ⟨5, ![24, 4, 4, 1024, 128]⟩
abbrev S24x4x16x256x128 : Shape := ⟨5, ![24, 4, 16, 256, 128]⟩
abbrev S1024x2048 : Shape := ⟨2, ![1024, 2048]⟩
abbrev S2048x1024 : Shape := ⟨2, ![2048, 1024]⟩
abbrev S8x1024x128 : Shape := ⟨3, ![8, 1024, 128]⟩
abbrev S8x1x4x256x128 : Shape := ⟨5, ![8, 1, 4, 256, 128]⟩
abbrev S8x1x16x64x128 : Shape := ⟨5, ![8, 1, 16, 64, 128]⟩
abbrev S8x4x256x128 : Shape := ⟨4, ![8, 4, 256, 128]⟩
abbrev S1024 : Shape := ⟨1, ![1024]⟩
abbrev S1024x1 : Shape := ⟨2, ![1024, 1]⟩
abbrev S1024x1024 : Shape := ⟨2, ![1024, 1024]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x1x256x128 : Shape := ⟨5, ![1, 1, 1, 256, 128]⟩
abbrev S1x1x256x128 : Shape := ⟨4, ![1, 1, 256, 128]⟩
abbrev S1x1x64x128 : Shape := ⟨4, ![1, 1, 64, 128]⟩
abbrev S64x128 : Shape := ⟨2, ![64, 128]⟩
abbrev S1x1x1x64x128 : Shape := ⟨5, ![1, 1, 1, 64, 128]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S2048x12288, .bf16⟩
  | .hbm, ⟨4, _⟩ => ⟨S1x2048, .f32⟩
  | .hbm, ⟨5, _⟩ => ⟨S48x16384x128, .bf16⟩
  | .hbm, ⟨6, _⟩ => ⟨S24x4x4x1024x128, .bf16⟩
  | .hbm, ⟨7, _⟩ => ⟨S24x4x16x256x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S8x1024x128, .bf16⟩
  | .local _ .vmem, ⟨6, _⟩ => ⟨S8x1024x128, .bf16⟩
  | .local _ .vmem, ⟨7, _⟩ => ⟨S8x1x4x256x128, .bf16⟩
  | .local _ .vmem, ⟨8, _⟩ => ⟨S8x1x4x256x128, .bf16⟩
  | .local _ .vmem, ⟨9, _⟩ => ⟨S8x1x16x64x128, .bf16⟩
  | .local _ .vmem, ⟨10, _⟩ => ⟨S8x1x16x64x128, .bf16⟩
  | .local _ .vmem, ⟨11, _⟩ => ⟨S1024x2048, .bf16⟩
  | .local _ .vmem, ⟨12, _⟩ => ⟨S8x1024x128, .f32⟩
  | .local _ .vmem, ⟨13, _⟩ => ⟨S8x4x256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 12], ![false, false]⟩

def k0_cond2 (i : grid0.Coords) : BitVec 1 :=
  let arg1 : BitVec 32 := BitVec.ofNat 32 (i 1).val
  let c0_i32_7 : BitVec 32 := 0#32
  let v15 : BitVec 1 := Scalar.cmpi .sge arg1 c0_i32_7
  let c3_i32_8 : BitVec 32 := 3#32
  let v16 : BitVec 1 := Scalar.cmpi .slt arg1 c3_i32_8
  let v17 : BitVec 1 := Scalar.andi v15 v16
  let v18 : BitVec 32 := Scalar.extui v17
  let c0_i32_9 : BitVec 32 := 0#32
  let v19 : BitVec 1 := Scalar.cmpi .ne v18 c0_i32_9
  v19

def k0_cond5 (i : grid0.Coords) : BitVec 1 :=
  let arg1 : BitVec 32 := BitVec.ofNat 32 (i 1).val
  let c9_i32_14 : BitVec 32 := 9#32
  let v30 : BitVec 1 := Scalar.cmpi .sge arg1 c9_i32_14
  let c12_i32 : BitVec 32 := 12#32
  let v31 : BitVec 1 := Scalar.cmpi .slt arg1 c12_i32
  let v32 : BitVec 1 := Scalar.andi v30 v31
  let v33 : BitVec 32 := Scalar.extui v32
  let c0_i32_15 : BitVec 32 := 0#32
  let v34 : BitVec 1 := Scalar.cmpi .ne v33 c0_i32_15
  v34

def k0_cond3 (i : grid0.Coords) : BitVec 1 :=
  let arg1 : BitVec 32 := BitVec.ofNat 32 (i 1).val
  let c3_i32_10 : BitVec 32 := 3#32
  let v20 : BitVec 1 := Scalar.cmpi .sge arg1 c3_i32_10
  let c6_i32 : BitVec 32 := 6#32
  let v21 : BitVec 1 := Scalar.cmpi .slt arg1 c6_i32
  let v22 : BitVec 1 := Scalar.andi v20 v21
  let v23 : BitVec 32 := Scalar.extui v22
  let c0_i32_11 : BitVec 32 := 0#32
  let v24 : BitVec 1 := Scalar.cmpi .ne v23 c0_i32_11
  v24

def k0_cond4 (i : grid0.Coords) : BitVec 1 :=
  let arg1 : BitVec 32 := BitVec.ofNat 32 (i 1).val
  let c6_i32_12 : BitVec 32 := 6#32
  let v25 : BitVec 1 := Scalar.cmpi .sge arg1 c6_i32_12
  let c9_i32 : BitVec 32 := 9#32
  let v26 : BitVec 1 := Scalar.cmpi .slt arg1 c9_i32
  let v27 : BitVec 1 := Scalar.andi v25 v26
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c9_i32 : BitVec 32 := 9#32
  let v1 : BitVec 1 := Scalar.cmpi .slt arg1 c9_i32
  let c6_i32 : BitVec 32 := 6#32
  let v2 : BitVec 32 := Scalar.subi arg1 c6_i32
  let c2_i32 : BitVec 32 := 2#32
  let v3 : BitVec 32 := Scalar.select v1 c2_i32 v2
  let v4 : BitVec 32 := Scalar.select v0 arg1 v3
  let c0_i32 : BitVec 32 := 0#32
  let c0_i32_0 : BitVec 32 := 0#32
  ![v4.toNat, arg0.toNat, c0_i32.toNat]

def cc0_transform_4 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c2_i32 : BitVec 32 := 2#32
  let v1 : BitVec 32 := Scalar.maxsi c0_i32 v0
  let v2 : BitVec 32 := Scalar.minsi c2_i32 v1
  let c4_i32 : BitVec 32 := 4#32
  let v3 : BitVec 32 := Scalar.divsi arg0 c4_i32
  let c0_i32_0 : BitVec 32 := 0#32
  let v4 : BitVec 1 := Scalar.cmpi .sgt arg0 c0_i32_0
  let v5 : BitVec 32 := Scalar.extui v4
  let c0_i32_1 : BitVec 32 := 0#32
  let v6 : BitVec 1 := Scalar.cmpi .slt arg0 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi arg0 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  ![v2.toNat, v19.toNat, c0_i32_11.toNat, v29.toNat, c0_i32_12.toNat]

def cc0_transform_5 (i : grid0.Coords) : Fin 5 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c2_i32 : BitVec 32 := 2#32
  let v1 : BitVec 32 := Scalar.maxsi c0_i32 v0
  let v2 : BitVec 32 := Scalar.minsi c2_i32 v1
  let c4_i32 : BitVec 32 := 4#32
  let v3 : BitVec 32 := Scalar.divsi arg0 c4_i32
  let c0_i32_0 : BitVec 32 := 0#32
  let v4 : BitVec 1 := Scalar.cmpi .sgt arg0 c0_i32_0
  let v5 : BitVec 32 := Scalar.extui v4
  let c0_i32_1 : BitVec 32 := 0#32
  let v6 : BitVec 1 := Scalar.cmpi .slt arg0 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi arg0 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  ![v2.toNat, v19.toNat, c0_i32_11.toNat, v29.toNat, c0_i32_12.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x16x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenPRefIdeal.lean ====
abbrev S16384x2048 : Shape := ⟨2, ![16384, 2048]⟩
abbrev S2048 : Shape := ⟨1, ![2048]⟩
abbrev S2048x12288 : Shape := ⟨2, ![2048, 12288]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x12288 : Shape := ⟨2, ![16384, 12288]⟩
abbrev S4x4096x4x3x8x128 : Shape := ⟨6, ![4, 4096, 4, 3, 8, 128]⟩
abbrev S4x4096x4x1x8x128 : Shape := ⟨6, ![4, 4096, 4, 1, 8, 128]⟩
abbrev S4x4096x4x2x8x128 : Shape := ⟨6, ![4, 4096, 4, 2, 8, 128]⟩
abbrev S4x4096x4x24x128 : Shape := ⟨5, ![4, 4096, 4, 24, 128]⟩
abbrev S4x4096x1x24x128 : Shape := ⟨5, ![4, 4096, 1, 24, 128]⟩
abbrev S4x4096x24x128 : Shape := ⟨4, ![4, 4096, 24, 128]⟩
abbrev S4x4096x48x128 : Shape := ⟨4, ![4, 4096, 48, 128]⟩
abbrev S16384x48x128 : Shape := ⟨3, ![16384, 48, 128]⟩
abbrev S4x1024x4x24x128 : Shape := ⟨5, ![4, 1024, 4, 24, 128]⟩
abbrev S4x256x16x24x128 : Shape := ⟨5, ![4, 256, 16, 24, 128]⟩
abbrev S48x16384x128 : Shape := ⟨3, ![48, 16384, 128]⟩
abbrev S24x4x4x1024x128 : Shape := ⟨5, ![24, 4, 4, 1024, 128]⟩
abbrev S24x4x16x256x128 : Shape := ⟨5, ![24, 4, 16, 256, 128]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x12288, .f32⟩
  | .hbm, ⟨20, _⟩ => ⟨S4x4096x4x3x8x128, .f32⟩
  | .hbm, ⟨21, _⟩ => ⟨S4x4096x4x1x8x128, .f32⟩
  | .hbm, ⟨22, _⟩ => ⟨S_, .f32⟩
  | .hbm, ⟨23, _⟩ => ⟨S4x4096x4x1x8x128, .f32⟩
  | .hbm, ⟨24, _⟩ => ⟨S4x4096x4x1x8x128, .f32⟩
  | .hbm, ⟨25, _⟩ => ⟨S4x4096x4x2x8x128, .f32⟩
  | .hbm, ⟨26, _⟩ => ⟨S4x4096x4x3x8x128, .f32⟩
  | .hbm, ⟨27, _⟩ => ⟨S4x4096x4x3x8x128, .bf16⟩
  | .hbm, ⟨28, _⟩ => ⟨S4x4096x4x24x128, .bf16⟩
  | .hbm, ⟨29, _⟩ => ⟨S4x4096x1x24x128, .bf16⟩
  | .hbm, ⟨30, _⟩ => ⟨S4x4096x24x128, .bf16⟩
  | .hbm, ⟨31, _⟩ => ⟨S4x4096x1x24x128, .bf16⟩
  | .hbm, ⟨32, _⟩ => ⟨S4x4096x24x128, .bf16⟩
  | .hbm, ⟨33, _⟩ => ⟨S4x4096x48x128, .bf16⟩
  | .hbm, ⟨34, _⟩ => ⟨S16384x48x128, .bf16⟩
  | .hbm, ⟨35, _⟩ => ⟨S4x4096x1x24x128, .bf16⟩
  | .hbm, ⟨36, _⟩ => ⟨S4x4096x24x128, .bf16⟩
  | .hbm, ⟨37, _⟩ => ⟨S4x1024x4x24x128, .bf16⟩
  | .hbm, ⟨38, _⟩ => ⟨S4x4096x1x24x128, .bf16⟩
  | .hbm, ⟨39, _⟩ => ⟨S4x4096x24x128, .bf16⟩
  | .hbm, ⟨40, _⟩ => ⟨S4x256x16x24x128, .bf16⟩
  | .hbm, ⟨41, _⟩ => ⟨S48x16384x128, .bf16⟩
  | .hbm, ⟨42, _⟩ => ⟨S24x4x4x1024x128, .bf16⟩
  | .hbm, ⟨43, _⟩ => ⟨S24x4x16x256x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== OddP.lean ====
abbrev S16384x2048 : Shape := ⟨2, ![16384, 2048]⟩
abbrev S2048 : Shape := ⟨1, ![2048]⟩
abbrev S2048x4608 : Shape := ⟨2, ![2048, 4608]⟩
abbrev S128 : Shape := ⟨1, ![128]⟩
abbrev S128x128 : Shape := ⟨2, ![128, 128]⟩
abbrev S1x128 : Shape := ⟨2, ![1, 128]⟩
abbrev S1x1x1x128 : Shape := ⟨4, ![1, 1, 1, 128]⟩
abbrev S8x1x1x128 : Shape := ⟨4, ![8, 1, 1, 128]⟩
abbrev S8x128 : Shape := ⟨2, ![8, 128]⟩
abbrev S2x1x1x128 : Shape := ⟨4, ![2, 1, 1, 128]⟩
abbrev S2x128 : Shape := ⟨2, ![2, 128]⟩
abbrev S10x128 : Shape := ⟨2, ![10, 128]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x64x2 : Shape := ⟨3, ![4096, 64, 2]⟩
abbrev S4096x128 : Shape := ⟨2, ![4096, 128]⟩
abbrev S4096x64x1 : Shape := ⟨3, ![4096, 64, 1]⟩
abbrev S1x2048 : Shape := ⟨2, ![1, 2048]⟩
abbrev S36x16384x128 : Shape := ⟨3, ![36, 16384, 128]⟩
abbrev S1024x2048 : Shape := ⟨2, ![1024, 2048]⟩
abbrev S2048x1536 : Shape := ⟨2, ![2048, 1536]⟩
abbrev S1024x128 : Shape := ⟨2, ![1024, 128]⟩
abbrev S12x1024x128 : Shape := ⟨3, ![12, 1024, 128]⟩
abbrev S1024 : Shape := ⟨1, ![1024]⟩
abbrev S1024x1 : Shape := ⟨2, ![1024, 1]⟩
abbrev S1024x1536 : Shape := ⟨2, ![1024, 1536]⟩
abbrev S1x1024x128 : Shape := ⟨3, ![1, 1024, 128]⟩

abbrev nBuf : Space → Nat
  | .hbm => 95
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4608, .f32⟩
  | .hbm, ⟨3, _⟩ => ⟨S128, .f32⟩
  | .hbm, ⟨4, _⟩ => ⟨S128, .f32⟩
  | .hbm, ⟨5, _⟩ => ⟨S128x128, .bf16⟩
  | .hbm, ⟨6, _⟩ => ⟨S1x128, .f32⟩
  | .hbm, ⟨7, _⟩ => ⟨S1x1x1x128, .f32⟩
  | .hbm, ⟨8, _⟩ => ⟨S8x1x1x128, .f32⟩
  | .hbm, ⟨9, _⟩ => ⟨S8x128, .f32⟩
  | .hbm, ⟨10, _⟩ => ⟨S1x128, .f32⟩
  | .hbm, ⟨11, _⟩ => ⟨S1x1x1x128, .f32⟩
  | .hbm, ⟨12, _⟩ => ⟨S2x1x1x128, .f32⟩
  | .hbm, ⟨13, _⟩ => ⟨S2x128, .f32⟩
  | .hbm, ⟨14, _⟩ => ⟨S10x128, .f32⟩
  | .hbm, ⟨15, _⟩ => ⟨S4096, .i32⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S_, .i1⟩
  | .hbm, ⟨51, _⟩ => ⟨S4096, .i1⟩
  | .hbm, ⟨52, _⟩ => ⟨S4096, .i1⟩
  | .hbm, ⟨53, _⟩ => ⟨S4096, .i1⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S4096x1, .f32⟩
  | .hbm, ⟨73, _⟩ => ⟨S1x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x1, .f32⟩
  | .hbm, ⟨78, _⟩ => ⟨S1x32, .f32⟩
  | .hbm, ⟨79, _⟩ => ⟨S4096x32, .f32⟩
  | .hbm, ⟨80, _⟩ => ⟨S4096x32, .f32⟩
  | .hbm, ⟨81, _⟩ => ⟨S4096x32, .f32⟩
  | .hbm, ⟨82, _⟩ => ⟨S4096x64, .f32⟩
  | .hbm, ⟨83, _⟩ => ⟨S4096x64, .f32⟩
  | .hbm, ⟨84, _⟩ => ⟨S4096x64, .f32⟩
  | .hbm, ⟨85, _⟩ => ⟨S4096x64x2, .f32⟩
  | .hbm, ⟨86, _⟩ => ⟨S4096x128, .f32⟩
  | .hbm, ⟨87, _⟩ => ⟨S4096x64, .f32⟩
  | .hbm, ⟨88, _⟩ => ⟨S4096x64x1, .f32⟩
  | .hbm, ⟨89, _⟩ => ⟨S4096x64x1, .f32⟩
  | .hbm, ⟨90, _⟩ => ⟨S4096x64x2, .f32⟩
  | .hbm, ⟨91, _⟩ => ⟨S4096x128, .f32⟩
  | .hbm, ⟨92, _⟩ => ⟨S2048x4608, .bf16⟩
  | .hbm, ⟨93, _⟩ => ⟨S1x2048, .f32⟩
  | .hbm, ⟨94, _⟩ => ⟨S36x16384x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S10x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S128x128, .bf16⟩
  | .local _ .vmem, ⟨11, _⟩ => ⟨S12x1024x128, .bf16⟩
  | .local _ .vmem, ⟨12, _⟩ => ⟨S12x1024x128, .bf16⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_cst_1 : Ref sig .tc := ⟨.hbm, 59, rfl⟩
abbrev main_v15 : Ref sig .tc := ⟨.hbm, 60, rfl⟩
abbrev main_v16 : Ref sig .tc := ⟨.hbm, 61, rfl⟩
abbrev main_cst_2 : Ref sig .tc := ⟨.hbm, 62, rfl⟩
abbrev main_v17 : Ref sig .tc := ⟨.hbm, 63, rfl⟩
abbrev main_v18 : Ref sig .tc := ⟨.hbm, 64, rfl⟩
abbrev main_cst_3 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_cst_4 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S10x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S12x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OddPRefIdeal.lean ====
abbrev S16384x2048 : Shape := ⟨2, ![16384, 2048]⟩
abbrev S2048 : Shape := ⟨1, ![2048]⟩
abbrev S2048x4608 : Shape := ⟨2, ![2048, 4608]⟩
abbrev S128 : Shape := ⟨1, ![128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4608 : Shape := ⟨2, ![16384, 4608]⟩
abbrev S4x4096x36x128 : Shape := ⟨4, ![4, 4096, 36, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x8x64x2 : Shape := ⟨5, ![4, 4096, 8, 64, 2]⟩
abbrev S4x4096x8x64x1 : Shape := ⟨5, ![4, 4096, 8, 64, 1]⟩
abbrev S4x4096x8x64 : Shape := ⟨4, ![4, 4096, 8, 64]⟩
abbrev S1x4096x1x64 : Shape := ⟨4, ![1, 4096, 1, 64]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S4x4096x2x64x2 : Shape := ⟨5, ![4, 4096, 2, 64, 2]⟩
abbrev S4x4096x2x64x1 : Shape := ⟨5, ![4, 4096, 2, 64, 1]⟩
abbrev S4x4096x2x64 : Shape := ⟨4, ![4, 4096, 2, 64]⟩
abbrev S4x4096x16x128 : Shape := ⟨4, ![4, 4096, 16, 128]⟩
abbrev S16384x36x128 : Shape := ⟨3, ![16384, 36, 128]⟩
abbrev S36x16384x128 : Shape := ⟨3, ![36, 16384, 128]⟩

abbrev nBuf : Space → Nat
  | .hbm => 182
  | .vmem => 0
  | .smem => 0
  | _ => 0

abbrev hbmTy0_0 (i : Nat) : BufTy := match i % 128 with
  | 0 => ⟨S16384x2048, .f32⟩
  | 1 => ⟨S2048, .f32⟩
  | 2 => ⟨S2048x4608, .f32⟩
  | 3 => ⟨S128, .f32⟩
  | 4 => ⟨S128, .f32⟩
  | 5 => ⟨S16384x2048, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384x1, .f32⟩
  | 16 => ⟨S16384x2048, .f32⟩
  | 17 => ⟨S16384x2048, .f32⟩
  | 18 => ⟨S1x2048, .f32⟩
  | 19 => ⟨S16384x2048, .f32⟩
  | 20 => ⟨S16384x2048, .f32⟩
  | 21 => ⟨S16384x4608, .f32⟩
  | 22 => ⟨S4x4096x36x128, .f32⟩
  | 23 => ⟨S4096, .i32⟩
  | 24 => ⟨S_, .i32⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i1⟩
  | 32 => ⟨S4096, .i32⟩
  | 33 => ⟨S4096, .i32⟩
  | 34 => ⟨S_, .i32⟩
  | 35 => ⟨S4096, .i32⟩
  | 36 => ⟨S4096, .i1⟩
  | 37 => ⟨S4096, .i1⟩
  | 38 => ⟨S_, .i32⟩
  | 39 => ⟨S4096, .i32⟩
  | 40 => ⟨S4096, .i32⟩
  | 41 => ⟨S4096, .i32⟩
  | 42 => ⟨S4096, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i1⟩
  | 57 => ⟨S_, .i32⟩
  | 58 => ⟨S_, .i1⟩
  | 59 => ⟨S4096, .i1⟩
  | 60 => ⟨S4096, .i1⟩
  | 61 => ⟨S4096, .i1⟩
  | 62 => ⟨S4096, .i32⟩
  | 63 => ⟨S4096, .i32⟩
  | 64 => ⟨S4096, .i32⟩
  | 65 => ⟨S4096, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S32, .f32⟩
  | 77 => ⟨S_, .f32⟩
  | 78 => ⟨S32, .f32⟩
  | 79 => ⟨S32, .f32⟩
  | 80 => ⟨S4096x1, .f32⟩
  | 81 => ⟨S1x32, .f32⟩
  | 82 => ⟨S4096x32, .f32⟩
  | 83 => ⟨S4096x32, .f32⟩
  | 84 => ⟨S4096x32, .f32⟩
  | 85 => ⟨S4096x1, .f32⟩
  | 86 => ⟨S1x32, .f32⟩
  | 87 => ⟨S4096x32, .f32⟩
  | 88 => ⟨S4096x32, .f32⟩
  | 89 => ⟨S4096x32, .f32⟩
  | 90 => ⟨S4096x64, .f32⟩
  | 91 => ⟨S4096x64, .f32⟩
  | 92 => ⟨S4096x64, .f32⟩
  | 93 => ⟨S4x4096x8x128, .f32⟩
  | 94 => ⟨S4x4096x8x128, .f32⟩
  | 95 => ⟨S_, .f32⟩
  | 96 => ⟨S4x4096x8, .f32⟩
  | 97 => ⟨S4x4096x8x1, .f32⟩
  | 98 => ⟨S_, .f32⟩
  | 99 => ⟨S4x4096x8x1, .f32⟩
  | 100 => ⟨S4x4096x8x1, .f32⟩
  | 101 => ⟨S_, .f32⟩
  | 102 => ⟨S4x4096x8x1, .f32⟩
  | 103 => ⟨S4x4096x8x1, .f32⟩
  | 104 => ⟨S4x4096x8x1, .f32⟩
  | 105 => ⟨S4x4096x8x128, .f32⟩
  | 106 => ⟨S4x4096x8x128, .f32⟩
  | 107 => ⟨S1x1x1x128, .f32⟩
  | 108 => ⟨S4x4096x8x128, .f32⟩
  | 109 => ⟨S4x4096x8x128, .f32⟩
  | 110 => ⟨S4x4096x8x64x2, .f32⟩
  | 111 => ⟨S4x4096x8x64x1, .f32⟩
  | 112 => ⟨S4x4096x8x64, .f32⟩
  | 113 => ⟨S4x4096x8x64x1, .f32⟩
  | 114 => ⟨S4x4096x8x64, .f32⟩
  | 115 => ⟨S1x4096x1x64, .f32⟩
  | 116 => ⟨S1x4096x1x64, .f32⟩
  | 117 => ⟨S4x4096x8x64, .f32⟩
  | 118 => ⟨S4x4096x8x64, .f32⟩
  | 119 => ⟨S4x4096x8x64, .f32⟩
  | 120 => ⟨S4x4096x8x64, .f32⟩
  | 121 => ⟨S4x4096x8x64, .f32⟩
  | 122 => ⟨S4x4096x8x64, .f32⟩
  | 123 => ⟨S4x4096x8x64, .f32⟩
  | 124 => ⟨S4x4096x8x64, .f32⟩
  | 125 => ⟨S4x4096x8x64, .f32⟩
  | 126 => ⟨S4x4096x8x64, .f32⟩
  | 127 => ⟨S4x4096x8x64x1, .f32⟩
  | _ => ⟨S16384x2048, .f32⟩

abbrev hbmTy0_1 (i : Nat) : BufTy := match i % 128 with
  | 0 => ⟨S4x4096x8x64x1, .f32⟩
  | 1 => ⟨S4x4096x8x64x2, .f32⟩
  | 2 => ⟨S4x4096x8x128, .f32⟩
  | 3 => ⟨S_, .f32⟩
  | 4 => ⟨S4x4096x8x128, .f32⟩
  | 5 => ⟨S4x4096x8x128, .f32⟩
  | 6 => ⟨S4x4096x2x128, .f32⟩
  | 7 => ⟨S4x4096x2x128, .f32⟩
  | 8 => ⟨S_, .f32⟩
  | 9 => ⟨S4x4096x2, .f32⟩
  | 10 => ⟨S4x4096x2x1, .f32⟩
  | 11 => ⟨S_, .f32⟩
  | 12 => ⟨S4x4096x2x1, .f32⟩
  | 13 => ⟨S4x4096x2x1, .f32⟩
  | 14 => ⟨S_, .f32⟩
  | 15 => ⟨S4x4096x2x1, .f32⟩
  | 16 => ⟨S4x4096x2x1, .f32⟩
  | 17 => ⟨S4x4096x2x1, .f32⟩
  | 18 => ⟨S4x4096x2x128, .f32⟩
  | 19 => ⟨S4x4096x2x128, .f32⟩
  | 20 => ⟨S1x1x1x128, .f32⟩
  | 21 => ⟨S4x4096x2x128, .f32⟩
  | 22 => ⟨S4x4096x2x128, .f32⟩
  | 23 => ⟨S4x4096x2x64x2, .f32⟩
  | 24 => ⟨S4x4096x2x64x1, .f32⟩
  | 25 => ⟨S4x4096x2x64, .f32⟩
  | 26 => ⟨S4x4096x2x64x1, .f32⟩
  | 27 => ⟨S4x4096x2x64, .f32⟩
  | 28 => ⟨S1x4096x1x64, .f32⟩
  | 29 => ⟨S1x4096x1x64, .f32⟩
  | 30 => ⟨S4x4096x2x64, .f32⟩
  | 31 => ⟨S4x4096x2x64, .f32⟩
  | 32 => ⟨S4x4096x2x64, .f32⟩
  | 33 => ⟨S4x4096x2x64, .f32⟩
  | 34 => ⟨S4x4096x2x64, .f32⟩
  | 35 => ⟨S4x4096x2x64, .f32⟩
  | 36 => ⟨S4x4096x2x64, .f32⟩
  | 37 => ⟨S4x4096x2x64, .f32⟩
  | 38 => ⟨S4x4096x2x64, .f32⟩
  | 39 => ⟨S4x4096x2x64, .f32⟩
  | 40 => ⟨S4x4096x2x64x1, .f32⟩
  | 41 => ⟨S4x4096x2x64x1, .f32⟩
  | 42 => ⟨S4x4096x2x64x2, .f32⟩
  | 43 => ⟨S4x4096x2x128, .f32⟩
  | 44 => ⟨S4x4096x8x128, .f32⟩
  | 45 => ⟨S_, .f32⟩
  | 46 => ⟨S4x4096x8x128, .f32⟩
  | 47 => ⟨S4x4096x8x128, .f32⟩
  | 48 => ⟨S4x4096x2x128, .f32⟩
  | 49 => ⟨S4x4096x16x128, .f32⟩
  | 50 => ⟨S4x4096x36x128, .f32⟩
  | 51 => ⟨S16384x36x128, .f32⟩
  | 52 => ⟨S16384x36x128, .bf16⟩
  | 53 => ⟨S36x16384x128, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v16 : Ref sig .tc := ⟨.hbm, 41, rfl⟩
abbrev main_v17 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_3 : Ref sig .tc := ⟨.hbm, 67, rfl⟩
abbrev main_v21 : Ref sig .tc := ⟨.hbm, 68, rfl⟩
abbrev main_v22 : Ref sig .tc := ⟨.hbm, 69, rfl⟩
abbrev main_cst_4 : Ref sig .tc := ⟨.hbm, 70, rfl⟩
abbrev main_v23 : Ref sig .tc := ⟨.hbm, 71, rfl⟩
abbrev main_v24 : Ref sig .tc := ⟨.hbm, 72, rfl⟩
abbrev main_cst_5 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_6 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_7 : Ref sig .tc := ⟨.hbm, 95, rfl⟩
abbrev main_v45 : Ref sig .tc := ⟨.hbm, 96, rfl⟩
abbrev main_v46 : Ref sig .tc := ⟨.hbm, 97, rfl⟩
abbrev main_cst_8 : Ref sig .tc := ⟨.hbm, 98, rfl⟩
abbrev main_v47 : Ref sig .tc := ⟨.hbm, 99, rfl⟩
abbrev main_v48 : Ref sig .tc := ⟨.hbm, 100, rfl⟩
abbrev main_cst_9 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_10 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_11 : Ref sig .tc := ⟨.hbm, 136, rfl⟩
abbrev main_v82 : Ref sig .tc := ⟨.hbm, 137, rfl⟩
abbrev main_v83 : Ref sig .tc := ⟨.hbm, 138, rfl⟩
abbrev main_cst_12 : Ref sig .tc := ⟨.hbm, 139, rfl⟩
abbrev main_v84 : Ref sig .tc := ⟨.hbm, 140, rfl⟩
abbrev main_v85 : Ref sig .tc := ⟨.hbm, 141, rfl⟩
abbrev main_cst_13 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_14 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩

abbrev nD : Nat := 1
abbrev τ : Topo := Topo.v7x

variable {F : FTy → Type} [FloatOps F]
-- ==== Proof.FfnSpec.lean ====
module

public import Idealize.ShloMosaic.Lib.Pipeline.ValueKit
public import Idealize.ShloMosaic.Lib.Pointwise

@[expose] public section

/-! The feed-forward block as plain functions of its rows: the RMS normalisation of a row, the two halves of the
    up projection, the three-tap convolution along the sequence with zero rows outside it, the gated product, and
    the down projection added to the residual stream. Both programs are read against these functions. -/

noncomputable section
open Idealize.ShloMosaic

namespace Cert.FfnSpec

/-- One row divided by its root mean square and multiplied by the gain. -/
def rms (v g : Fin 2048 → EReal) (k : Fin 2048) : EReal :=
  v k * Ideal.rsqrt (Ideal.div (∑ l : Fin 2048, v l * v l) (Ideal.ofBits .f32 0x45000000#32)
    + Ideal.ofBits .f32 0x358637BD#32) * g k

/-- The tanh form of the GELU. -/
def gelu (x : EReal) : EReal :=
  x * (Ideal.ofBits .f32 0x3F000000#32 * (1 + Ideal.tanh (Ideal.ofBits .f32 0x3F4C422A#32
    * (x + Ideal.ofBits .f32 0x3D372713#32 * (x * x * x)))))

variable (X : Fin 4 → Fin 4096 → Fin 2048 → EReal) (g : Fin 2048 → EReal)
  (W : Fin 2048 → Fin 11264 → EReal) (cw : Fin 3 → Fin 5632 → EReal) (cb : Fin 5632 → EReal)
  (Wd : Fin 5632 → Fin 2048 → EReal) (gf : Fin 2048 → EReal)

/-- Column `j` of the up projection of the normalised row `s` of sequence `b`. -/
def up (b : Fin 4) (s : Fin 4096) (j : Fin 11264) : EReal := ∑ k : Fin 2048, rms (X b s) g k * W k j

/-- The up projection at row `s - 1`, zero where that row lies outside the sequence. -/
def tap (b : Fin 4) (s : ℕ) (j : Fin 11264) : EReal :=
  if h : 1 ≤ s ∧ s - 1 < 4096 then up X g W b ⟨s - 1, h.2⟩ j else 0

/-- The convolved gate at row `s`, feature `j`. -/
def gate (b : Fin 4) (s : Fin 4096) (j : Fin 5632) : EReal :=
  cw 0 j * tap X g W b s.val ⟨j.val, by omega⟩ + cw 1 j * tap X g W b (1 + s.val) ⟨j.val, by omega⟩
    + cw 2 j * tap X g W b (2 + s.val) ⟨j.val, by omega⟩ + cb j

/-- The gated activation at row `s`, feature `j`. -/
def act (b : Fin 4) (s : Fin 4096) (j : Fin 5632) : EReal :=
  gelu (gate X g W cw cb b s j) * up X g W b s ⟨5632 + j.val, by omega⟩

/-- The residual stream after the block. -/
def res (b : Fin 4) (s : Fin 4096) (l : Fin 2048) : EReal :=
  X b s l + ∑ j : Fin 5632, act X g W cw cb b s j * Wd j l

/-- The block's result: the residual stream after the block, normalised. -/
def out (b : Fin 4) (s : Fin 4096) (l : Fin 2048) : EReal := rms (res X g W cw cb Wd b s) gf l

end Cert.FfnSpec
-- ==== Proof.GqaMath.lean ====
module

public import proofs.«01_k».proof.Proof.FfnSpec

@[expose] public section

/-! Attention with real scores and the powers of two as weights, and the two ways the programs come to it: five parts of
    the keys, each relative to its own greatest score and then merged, and one softmax over all the keys. -/

noncomputable section
open Idealize.ShloMosaic
namespace Cert.GqaSpec

/-- The score of a query and a key. -/
def score (q k : Fin 128 → ℝ) : ℝ := ∑ e : Fin 128, q e * k e

/-- The weight of a key: two to the power of its score. -/
def weight (q k : Fin 128 → ℝ) : ℝ := Real.rpow 2 (score q k)

/-- The weighted mean of the values, which may be infinite. -/
def attend (q : Fin 128 → ℝ) (k : Fin 4096 → Fin 128 → ℝ) (v : Fin 4096 → EReal) : EReal :=
  (∑ j : Fin 4096, ((weight q (k j) : ℝ) : EReal) * v j) * (((∑ j : Fin 4096, weight q (k j))⁻¹ : ℝ) : EReal)

/-- A nonnegative real factor goes into a sum, whether or not the summands are finite. -/
theorem coe_mul_sum {n : ℕ} (c : ℝ) (hc : 0 ≤ c) (f : Fin n → EReal) : (c : EReal) * ∑ j, f j = ∑ j, (c : EReal) * f j := by
  induction n with
  | zero => simp
  | succ n ih =>
    rw [Fin.sum_univ_succ, Fin.sum_univ_succ,
      EReal.left_distrib_of_nonneg_of_ne_top (by exact_mod_cast hc) (EReal.coe_ne_top c), ih]

theorem sum_coe {n : ℕ} (f : Fin n → ℝ) : ∑ j, ((f j : ℝ) : EReal) = ((∑ j, f j : ℝ) : EReal) := by
  induction n with
  | zero => simp
  | succ n ih => rw [Fin.sum_univ_succ, Fin.sum_univ_succ, ih, EReal.coe_add]

theorem start_bot : Ideal.ofBits .f32 4286578688#32 = ⊥ := by simp [Ideal.ofBits, Ideal.ieee]

/-- The greatest of some real scores is a real number. -/
theorem greatest {n : ℕ} (hn : 0 < n) (s : Fin n → ℝ) :
    ∃ m : ℝ, Finset.fold max (Ideal.ofBits .f32 4286578688#32) (fun j => ((s j : ℝ) : EReal)) Finset.univ = (m : EReal) := by
  rw [start_bot]
  haveI : Nonempty (Fin n) := ⟨⟨0, hn⟩⟩
  obtain ⟨j, -, h⟩ := Finset.exists_mem_eq_sup (Finset.univ : Finset (Fin n)) Finset.univ_nonempty (fun j => ((s j : ℝ) : EReal))
  exact ⟨s j, h⟩

theorem power_sub (a b : ℝ) : Real.rpow 2 (a - b) = Real.rpow 2 a * Real.rpow 2 (-b) := by
  show (2 : ℝ) ^ (a - b) = 2 ^ a * 2 ^ (-b)
  rw [sub_eq_add_neg, Real.rpow_add (by norm_num)]

theorem exp2_sub (a b : ℝ) : FloatOps.exp2 (F := Ideal) (φ := .f32) ((a : EReal) - (b : EReal)) = ((Real.rpow 2 a * Real.rpow 2 (-b) : ℝ) : EReal) := by
  rw [← EReal.coe_sub, ← power_sub]; rfl

theorem power_pos (a : ℝ) : 0 < Real.rpow 2 a := Real.rpow_pos_of_pos (by norm_num) _

/-- A part's weighted sum, relative to `m`. -/
theorem part_sum {n : ℕ} (s : Fin n → ℝ) (v : Fin n → EReal) (m : ℝ) :
    ∑ j, FloatOps.exp2 (F := Ideal) (φ := .f32) ((s j : EReal) - (m : EReal)) * v j
      = ((Real.rpow 2 (-m) : ℝ) : EReal) * ∑ j, ((Real.rpow 2 (s j) : ℝ) : EReal) * v j := by
  rw [coe_mul_sum _ (power_pos _).le]
  refine Finset.sum_congr rfl fun j _ => ?_
  rw [exp2_sub, mul_comm (Real.rpow 2 (s j)), EReal.coe_mul, mul_assoc]

/-- A part's sum of weights, relative to `m`. -/
theorem part_weights {n : ℕ} (s : Fin n → ℝ) (m : ℝ) :
    ∑ j, FloatOps.exp2 (F := Ideal) (φ := .f32) ((s j : EReal) - (m : EReal))
      = (((∑ j, Real.rpow 2 (s j)) * Real.rpow 2 (-m) : ℝ) : EReal) := by
  rw [Finset.sum_mul, ← sum_coe]
  exact Finset.sum_congr rfl fun j _ => exp2_sub _ _

/-- A part's sum of weights rebased from its own greatest score to another. -/
theorem rebase (a m M : ℝ) :
    FloatOps.exp2 (F := Ideal) (φ := .f32) ((m : EReal) - (M : EReal)) * ((a * Real.rpow 2 (-m) : ℝ) : EReal)
      = ((a * Real.rpow 2 (-M) : ℝ) : EReal) := by
  rw [exp2_sub, ← EReal.coe_mul]; congr 1
  have h : Real.rpow 2 m * Real.rpow 2 (-m) = 1 := by
    rw [← power_sub, sub_self]; exact Real.rpow_zero 2
  linear_combination a * Real.rpow 2 (-M) * h

/-- The same of a part's weighted sum. -/
theorem rebase_sum (A : EReal) (m M : ℝ) :
    FloatOps.exp2 (F := Ideal) (φ := .f32) ((m : EReal) - (M : EReal)) * (((Real.rpow 2 (-m) : ℝ) : EReal) * A)
      = ((Real.rpow 2 (-M) : ℝ) : EReal) * A := by
  have h := rebase 1 m M
  rw [one_mul, one_mul] at h
  rw [← mul_assoc, h]

/-- Two sums relative to the same number add up relative to it. -/
theorem join (A B : EReal) (M : ℝ) : ((Real.rpow 2 (-M) : ℝ) : EReal) * A + ((Real.rpow 2 (-M) : ℝ) : EReal) * B
    = ((Real.rpow 2 (-M) : ℝ) : EReal) * (A + B) :=
  (EReal.left_distrib_of_nonneg_of_ne_top (by exact_mod_cast (power_pos (-M)).le) (EReal.coe_ne_top _) A B).symm

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A quotient of two sums relative to the same number does not depend on it. -/
theorem div_rebased (A : EReal) (b M : ℝ) (hb : 0 < b) :
    Ideal.div (((Real.rpow 2 (-M) : ℝ) : EReal) * A) ((b * Real.rpow 2 (-M) : ℝ) : EReal) = A * ((b⁻¹ : ℝ) : EReal) := by
  have hp := power_pos (-M)
  have h0 : b * Real.rpow 2 (-M) ≠ 0 := (mul_pos hb hp).ne'
  unfold Ideal.div
  rw [if_neg (by exact_mod_cast h0), ← EReal.coe_inv, mul_comm _ A, mul_assoc, ← EReal.coe_mul]
  congr 2
  rw [mul_inv, mul_left_comm, mul_inv_cancel₀ hp.ne', mul_one]

theorem cut {α : Type} [AddCommMonoid α] {n : ℕ} (a b : ℕ) (h : n = a + b) (f : Fin n → α) :
    ∑ j, f j = (∑ j : Fin a, f ⟨j.val, by omega⟩) + ∑ j : Fin b, f ⟨a + j.val, by omega⟩ := by
  subst h
  exact Fin.sum_univ_add f

/-- A sum over the keys as the sums over the five parts. -/
theorem five_parts {α : Type} [AddCommMonoid α] (f : Fin 4096 → α) :
    ∑ j, f j = (∑ j : Fin 512, f ⟨0 + j.val, by omega⟩) + (∑ j : Fin 1024, f ⟨512 + j.val, by omega⟩)
      + (∑ j : Fin 1024, f ⟨1536 + j.val, by omega⟩) + (∑ j : Fin 1024, f ⟨2560 + j.val, by omega⟩)
      + ∑ j : Fin 512, f ⟨3584 + j.val, by omega⟩ := by
  rw [cut 3584 512 rfl f, cut 2560 1024 rfl, cut 1536 1024 rfl, cut 512 1024 rfl]
  simp only [Nat.zero_add]

/-- The softmax of the scores times the logarithm of two, with anything real subtracted, weighs the values as the
    powers of two do. -/
theorem softmax (s : Fin 4096 → ℝ) (v : Fin 4096 → EReal) (M : ℝ) :
    ∑ j, Ideal.div (Ideal.exp ((s j : EReal) * (Real.log 2 : ℝ) - (M : EReal)))
        (∑ j, Ideal.exp ((s j : EReal) * (Real.log 2 : ℝ) - (M : EReal))) * v j
      = (∑ j, ((Real.rpow 2 (s j) : ℝ) : EReal) * v j) * (((∑ j, Real.rpow 2 (s j))⁻¹ : ℝ) : EReal) := by
  have e : ∀ j, Ideal.exp ((s j : EReal) * (Real.log 2 : ℝ) - (M : EReal)) = ((Real.rpow 2 (s j) * Real.exp (-M) : ℝ) : EReal) := fun j => by
    rw [← EReal.coe_mul, ← EReal.coe_sub]
    show ((Real.exp (s j * Real.log 2 - M) : ℝ) : EReal) = _
    rw [sub_eq_add_neg, Real.exp_add]
    congr 2
    show _ = (2 : ℝ) ^ (s j)
    rw [Real.rpow_def_of_pos (by norm_num), mul_comm]
  have hp : 0 < ∑ j, Real.rpow 2 (s j) := Finset.sum_pos (fun j _ => power_pos _) Finset.univ_nonempty
  simp only [e]
  rw [sum_coe, ← Finset.sum_mul, mul_comm (∑ j, ((Real.rpow 2 (s j) : ℝ) : EReal) * v j), coe_mul_sum _ (inv_nonneg.mpr hp.le)]
  refine Finset.sum_congr rfl fun j _ => ?_
  rw [div_real _ _ (mul_pos hp (Real.exp_pos _)).ne', mul_div_mul_right _ _ (Real.exp_pos _).ne', ← mul_assoc, ← EReal.coe_mul,
    div_eq_inv_mul]

/-- What a row and a column of the result hold when the projection holds the real numbers `p` in the planes of the
    queries and keys and `u` in those of the values. -/
def result (p : Fin 36 → Fin 16384 → Fin 128 → ℝ) (u : Fin 36 → Fin 16384 → Fin 128 → EReal) (R : Fin 16384) (C : Fin 1024) : EReal :=
  attend (p ⟨C.val / 512 * 4 + C.val / 128 % 4, by omega⟩ R) (fun j => p ⟨8 + C.val / 512, by omega⟩ ⟨R.val / 4096 * 4096 + j.val, by omega⟩)
    (fun j => u ⟨10 + C.val / 512, by omega⟩ ⟨R.val / 4096 * 4096 + j.val, by omega⟩ ⟨C.val % 128, by omega⟩)

end Cert.GqaSpec

end
end
-- ==== Proof.GqaPay.lean ====
module

public import proofs.«01_k».proof.Proof.GqaMath
public import proofs.«01_k».proof.Proof.Gen.GqaIdeal.Frame
public import Idealize.ShloMosaic.Lib.Pipeline.ValueKit
public import Idealize.ShloMosaic.Lib.Pointwise

@[expose] public section

set_option maxRecDepth 16384

/-! The values the grouped attention's body computes: the five parts of the keys, each with its greatest score, its sum of
    weights and its weighted sum of values, and the merged quotient. -/

noncomputable section
open Idealize.ShloMosaic Idealize.ShloMosaic.TcCoe Idealize.SL.Sem
namespace Cert.GqaIdeal.Value
open Cert.GqaIdeal Cert.GqaIdeal.Gen Cert.GqaSpec

/-- What a part leaves when its scores are `s` and its values `v`: its greatest score, the sum of the weights relative to
    it, and the weighted sum of the values relative to it. -/
def Leaves {n : ℕ} (s : Fin n → ℝ) (v : Fin n → EReal) (g w a : EReal) : Prop :=
  ∃ m : ℝ, g = (m : EReal) ∧ w = (((∑ j, Real.rpow 2 (s j)) * Real.rpow 2 (-m) : ℝ) : EReal)
    ∧ a = ((Real.rpow 2 (-m) : ℝ) : EReal) * ∑ j, ((Real.rpow 2 (s j) : ℝ) : EReal) * v j

theorem leaves {n : ℕ} (hn : 0 < n) (s : Fin n → ℝ) (v S V : Fin n → EReal) (hs : ∀ j, S j = (s j : EReal))
    (hv : ∀ j, V j = v j) (g w a : EReal)
    (hg : g = Finset.fold max (Ideal.ofBits .f32 4286578688#32) S Finset.univ)
    (hw : w = ∑ j, FloatOps.exp2 (F := Ideal) (φ := .f32) (S j - g))
    (ha : a = ∑ j, FloatOps.exp2 (F := Ideal) (φ := .f32) (S j - g) * V j) : Leaves s v g w a := by
  obtain rfl : S = fun j => (s j : EReal) := funext hs
  obtain rfl : V = v := funext hv
  obtain ⟨m, hm⟩ := greatest hn s
  rw [hm] at hg
  subst hg
  exact ⟨m, rfl, hw.trans (part_weights s m), ha.trans (part_sum s V m)⟩

variable (v0 : FVec Ideal S4x256x128 .bf16) (v1 : FVec Ideal S1024x128 .bf16)
  (kS vS : FVec Ideal S1x512x128 .bf16) (kL vL : FVec Ideal S1x1024x128 .bf16) (sc : FVec Ideal S1024x512 .f32)
  (r : Fin 1024) (d : Fin 128)

theorem rows_at : (k0_pay6 (F := Ideal) v0 : FVec Ideal S1024x128 .bf16) (ix2 r d)
    = v0 (ix3 ⟨r.val / 256, by omega⟩ ⟨r.val % 256, by omega⟩ d) := by
  pointwise [k0_pay6]

theorem first_scores (j : Fin 512) : (k0_pay7 v0 kS : FVec Ideal S1024x512 .f32) (ix2 r j)
    = ∑ e : Fin 128, (k0_pay6 v0 : FVec Ideal S1024x128 .bf16) (ix2 r e) * kS (ix3 (0 : Fin 1) j e) := by
  simp only [rows_at]
  pointwise [k0_pay7, k0_pay6]

theorem second_scores (j : Fin 1024) : (k0_pay12 v0 kL : FVec Ideal S1024x1024 .f32) (ix2 r j)
    = ∑ e : Fin 128, (k0_pay6 v0 : FVec Ideal S1024x128 .bf16) (ix2 r e) * kL (ix3 (0 : Fin 1) j e) := by
  simp only [rows_at]
  pointwise [k0_pay12, k0_pay6]

theorem third_scores (j : Fin 1024) : (k0_pay17 v1 kL : FVec Ideal S1024x1024 .f32) (ix2 r j)
    = ∑ e : Fin 128, (v1 : FVec Ideal S1024x128 .bf16) (ix2 r e) * kL (ix3 (0 : Fin 1) j e) := by
  pointwise [k0_pay17]

theorem fourth_scores (j : Fin 1024) : (k0_pay22 v1 kL : FVec Ideal S1024x1024 .f32) (ix2 r j)
    = ∑ e : Fin 128, (v1 : FVec Ideal S1024x128 .bf16) (ix2 r e) * kL (ix3 (0 : Fin 1) j e) := by
  pointwise [k0_pay22]

theorem fifth_scores (j : Fin 512) : (k0_pay27 v1 kS : FVec Ideal S1024x512 .f32) (ix2 r j)
    = ∑ e : Fin 128, (v1 : FVec Ideal S1024x128 .bf16) (ix2 r e) * kS (ix3 (0 : Fin 1) j e) := by
  pointwise [k0_pay27]

theorem first_leaves (s : Fin 512 → ℝ) (v : Fin 512 → EReal) (hs : ∀ j, (k0_pay7 v0 kS : FVec Ideal S1024x512 .f32) (ix2 r j) = (s j : EReal))
    (hv : ∀ j, vS (ix3 (0 : Fin 1) j d) = v j) :
    Leaves s v ((k0_pay8 v0 kS : FVec Ideal S1024x1 .f32) (ix2 r (0 : Fin 1)))
      ((k0_pay11 v0 kS vS : FVec Ideal S1024x128 .f32) (ix2 r d)) ((k0_pay10 v0 kS vS : FVec Ideal S1024x128 .f32) (ix2 r d)) := by
  refine leaves (by decide) s v _ _ hs hv _ _ _ ?_ ?_ ?_
  · pointwise [k0_pay8]
  · pointwise [k0_pay11, k0_pay9]
  · pointwise [k0_pay10, k0_pay9]

theorem second_leaves (s : Fin 1024 → ℝ) (v : Fin 1024 → EReal) (hs : ∀ j, (k0_pay12 v0 kL : FVec Ideal S1024x1024 .f32) (ix2 r j) = (s j : EReal))
    (hv : ∀ j, vL (ix3 (0 : Fin 1) j d) = v j) :
    Leaves s v ((k0_pay13 v0 kL : FVec Ideal S1024x1 .f32) (ix2 r (0 : Fin 1)))
      ((k0_pay16 v0 kL vL : FVec Ideal S1024x128 .f32) (ix2 r d)) ((k0_pay15 v0 kL vL : FVec Ideal S1024x128 .f32) (ix2 r d)) := by
  refine leaves (by decide) s v _ _ hs hv _ _ _ ?_ ?_ ?_
  · pointwise [k0_pay13]
  · pointwise [k0_pay16, k0_pay14]
  · pointwise [k0_pay15, k0_pay14]

theorem third_leaves (s : Fin 1024 → ℝ) (v : Fin 1024 → EReal) (hs : ∀ j, (k0_pay17 v1 kL : FVec Ideal S1024x1024 .f32) (ix2 r j) = (s j : EReal))
    (hv : ∀ j, vL (ix3 (0 : Fin 1) j d) = v j) :
    Leaves s v ((k0_pay18 v1 kL : FVec Ideal S1024x1 .f32) (ix2 r (0 : Fin 1)))
      ((k0_pay21 v1 kL vL : FVec Ideal S1024x128 .f32) (ix2 r d)) ((k0_pay20 v1 kL vL : FVec Ideal S1024x128 .f32) (ix2 r d)) := by
  refine leaves (by decide) s v _ _ hs hv _ _ _ ?_ ?_ ?_
  · pointwise [k0_pay18]
  · pointwise [k0_pay21, k0_pay19]
  · pointwise [k0_pay20, k0_pay19]

theorem fourth_leaves (s : Fin 1024 → ℝ) (v : Fin 1024 → EReal) (hs : ∀ j, (k0_pay22 v1 kL : FVec Ideal S1024x1024 .f32) (ix2 r j) = (s j : EReal))
    (hv : ∀ j, vL (ix3 (0 : Fin 1) j d) = v j) :
    Leaves s v ((k0_pay23 v1 kL : FVec Ideal S1024x1 .f32) (ix2 r (0 : Fin 1)))
      ((k0_pay26 v1 kL vL : FVec Ideal S1024x128 .f32) (ix2 r d)) ((k0_pay25 v1 kL vL : FVec Ideal S1024x128 .f32) (ix2 r d)) := by
  refine leaves (by decide) s v _ _ hs hv _ _ _ ?_ ?_ ?_
  · pointwise [k0_pay23]
  · pointwise [k0_pay26, k0_pay24]
  · pointwise [k0_pay25, k0_pay24]

/-- The fifth part's sum of weights, which the body adds without a name of its own. -/
def lastWeights : EReal :=
  ∑ j : Fin 512, FloatOps.exp2 (F := Ideal) (φ := .f32) (sc (ix2 r j) - (k0_pay28 sc : FVec Ideal S1024x1 .f32) (ix2 r (0 : Fin 1)))

theorem fifth_leaves (s : Fin 512 → ℝ) (v : Fin 512 → EReal) (hs : ∀ j, sc (ix2 r j) = (s j : EReal))
    (hv : ∀ j, vS (ix3 (0 : Fin 1) j d) = v j) :
    Leaves s v ((k0_pay28 sc : FVec Ideal S1024x1 .f32) (ix2 r (0 : Fin 1)))
      (lastWeights sc r) ((k0_pay30 sc vS : FVec Ideal S1024x128 .f32) (ix2 r d)) := by
  refine leaves (by decide) s v _ _ hs hv _ _ _ ?_ rfl ?_
  · pointwise [k0_pay28]
  · pointwise [k0_pay30, k0_pay29]

variable (g1 g2 g3 g4 : FVec Ideal S1024x1 .f32) (w1 w2 w3 w4 a1 a2 a3 a4 a5 : FVec Ideal S1024x128 .f32)

/-- The greatest score of all parts. -/
def top : EReal :=
  max (max (max (max (g1 (ix2 r (0 : Fin 1))) (g2 (ix2 r (0 : Fin 1)))) (g3 (ix2 r (0 : Fin 1)))) (g4 (ix2 r (0 : Fin 1))))
    ((k0_pay28 sc : FVec Ideal S1024x1 .f32) (ix2 r (0 : Fin 1)))

/-- The factor that brings a part relative to `g` to the greatest score of all. -/
def lift (g : EReal) : EReal := FloatOps.exp2 (F := Ideal) (φ := .f32) (g - top sc r g1 g2 g3 g4)

theorem weights_at : (k0_pay37 g1 w1 g2 w2 g3 w3 g4 w4 sc vS : FVec Ideal S1024x128 .f32) (ix2 r d)
    = lift sc r g1 g2 g3 g4 (g1 (ix2 r (0 : Fin 1))) * w1 (ix2 r d) + lift sc r g1 g2 g3 g4 (g2 (ix2 r (0 : Fin 1))) * w2 (ix2 r d)
      + lift sc r g1 g2 g3 g4 (g3 (ix2 r (0 : Fin 1))) * w3 (ix2 r d) + lift sc r g1 g2 g3 g4 (g4 (ix2 r (0 : Fin 1))) * w4 (ix2 r d)
      + lift sc r g1 g2 g3 g4 ((k0_pay28 sc : FVec Ideal S1024x1 .f32) (ix2 r (0 : Fin 1))) * lastWeights sc r := by
  unfold lift top lastWeights
  pointwise [k0_pay37, k0_pay29, k0_pay32, k0_pay33, k0_pay34, k0_pay35, k0_pay36, k0_pay31]

theorem sums_at (D : FVec Ideal S1024x128 .f32) :
    (k0_pay1 a4 a5 (k0_pay35 g1 g2 g3 g4 sc) (k0_pay36 g1 g2 g3 g4 sc) D (k0_pay38 g1 a1 g2 a2 g3 a3 g4 sc) : FVec Ideal S1024x128 .f32) (ix2 r d)
    = Ideal.div (lift sc r g1 g2 g3 g4 (g1 (ix2 r (0 : Fin 1))) * a1 (ix2 r d) + lift sc r g1 g2 g3 g4 (g2 (ix2 r (0 : Fin 1))) * a2 (ix2 r d)
      + lift sc r g1 g2 g3 g4 (g3 (ix2 r (0 : Fin 1))) * a3 (ix2 r d) + lift sc r g1 g2 g3 g4 (g4 (ix2 r (0 : Fin 1))) * a4 (ix2 r d)
      + lift sc r g1 g2 g3 g4 ((k0_pay28 sc : FVec Ideal S1024x1 .f32) (ix2 r (0 : Fin 1))) * a5 (ix2 r d)) (D (ix2 r d)) := by
  unfold lift top
  pointwise [k0_pay1, k0_pay38, k0_pay32, k0_pay33, k0_pay34, k0_pay35, k0_pay36, k0_pay31]

/-- The merged quotient, from what the five parts leave. -/
theorem merged (s1 : Fin 512 → ℝ) (u1 : Fin 512 → EReal) (s2 : Fin 1024 → ℝ) (u2 : Fin 1024 → EReal)
    (s3 : Fin 1024 → ℝ) (u3 : Fin 1024 → EReal) (s4 : Fin 1024 → ℝ) (u4 : Fin 1024 → EReal) (s5 : Fin 512 → ℝ) (u5 : Fin 512 → EReal)
    (h1 : Leaves s1 u1 (g1 (ix2 r (0 : Fin 1))) (w1 (ix2 r d)) (a1 (ix2 r d)))
    (h2 : Leaves s2 u2 (g2 (ix2 r (0 : Fin 1))) (w2 (ix2 r d)) (a2 (ix2 r d)))
    (h3 : Leaves s3 u3 (g3 (ix2 r (0 : Fin 1))) (w3 (ix2 r d)) (a3 (ix2 r d)))
    (h4 : Leaves s4 u4 (g4 (ix2 r (0 : Fin 1))) (w4 (ix2 r d)) (a4 (ix2 r d)))
    (h5 : Leaves s5 u5 ((k0_pay28 sc : FVec Ideal S1024x1 .f32) (ix2 r (0 : Fin 1))) (lastWeights sc r) (a5 (ix2 r d))) :
    (k0_pay1 a4 a5 (k0_pay35 g1 g2 g3 g4 sc) (k0_pay36 g1 g2 g3 g4 sc) (k0_pay37 g1 w1 g2 w2 g3 w3 g4 w4 sc vS)
      (k0_pay38 g1 a1 g2 a2 g3 a3 g4 sc) : FVec Ideal S1024x128 .f32) (ix2 r d)
    = ((∑ j, ((Real.rpow 2 (s1 j) : ℝ) : EReal) * u1 j) + (∑ j, ((Real.rpow 2 (s2 j) : ℝ) : EReal) * u2 j) + (∑ j, ((Real.rpow 2 (s3 j) : ℝ) : EReal) * u3 j)
        + (∑ j, ((Real.rpow 2 (s4 j) : ℝ) : EReal) * u4 j) + ∑ j, ((Real.rpow 2 (s5 j) : ℝ) : EReal) * u5 j)
      * ((((∑ j, Real.rpow 2 (s1 j)) + (∑ j, Real.rpow 2 (s2 j)) + (∑ j, Real.rpow 2 (s3 j))
        + (∑ j, Real.rpow 2 (s4 j)) + ∑ j, Real.rpow 2 (s5 j))⁻¹ : ℝ) : EReal) := by
  rw [sums_at, weights_at]
  unfold lift top
  obtain ⟨m1, e1, f1, i1⟩ := h1
  obtain ⟨m2, e2, f2, i2⟩ := h2
  obtain ⟨m3, e3, f3, i3⟩ := h3
  obtain ⟨m4, e4, f4, i4⟩ := h4
  obtain ⟨m5, e5, f5, i5⟩ := h5
  rw [e1, e2, e3, e4, e5, f1, f2, f3, f4, f5, i1, i2, i3, i4, i5]
  have hM : max (max (max (max (m1 : EReal) (m2 : EReal)) (m3 : EReal)) (m4 : EReal)) (m5 : EReal)
      = ((max (max (max (max m1 m2) m3) m4) m5 : ℝ) : EReal) := by
    have c : ∀ a b : ℝ, ((max a b : ℝ) : EReal) = max (a : EReal) (b : EReal) := fun a b => EReal.coe_strictMono.monotone.map_max
    simp only [c]
  rw [hM]
  generalize max (max (max (max m1 m2) m3) m4) m5 = M
  simp only [rebase, rebase_sum, join, ← EReal.coe_add, ← add_mul]
  refine div_rebased _ _ _ ?_
  have p : ∀ {n : ℕ} (hn : 0 < n) (s : Fin n → ℝ), 0 < ∑ j, Real.rpow 2 (s j) := fun hn s => by
    haveI : Nonempty (Fin _) := ⟨⟨0, hn⟩⟩
    exact Finset.sum_pos (fun j _ => power_pos _) Finset.univ_nonempty
  have p1 := p (by decide) s1
  have p2 := p (by decide) s2
  have p3 := p (by decide) s3
  have p4 := p (by decide) s4
  have p5 := p (by decide) s5
  positivity

end Cert.GqaIdeal.Value

end
end
-- ==== Proof.GqaKernel.lean ====
module

public import proofs.«01_k».proof.Proof.GqaPay
public import Idealize.ShloMosaic.Lib.Pipeline.ValueKit

@[expose] public section

set_option maxRecDepth 16384

/-! The array the grouped attention leaves: each block's rows attend to the keys and values of their batch and head group. -/

noncomputable section
open Idealize.ShloMosaic Idealize.ShloMosaic.TcCoe Idealize.SL.Sem
open Idealize.ShloMosaic.Pipeline (Dat)
namespace Cert.GqaIdeal.Value
open Cert.GqaIdeal Cert.GqaIdeal.Gen Cert.GqaSpec
variable (m : (ℓ : Loc nD τ sig) → Buf (Elt Ideal) ℓ)

/-- The index maps of the windows, in the point's number. -/
theorem idx : ∀ t : Fin cfg0.N,
    win0_0.index t = ![t.val / 16 % 2, t.val / 32 * 16 + t.val % 16, 0] ∧ win0_1.index t = ![8 + t.val / 16 % 2, t.val / 32, 0]
    ∧ win0_2.index t = ![10 + t.val / 16 % 2, t.val / 32, 0] ∧ win0_3.index t = ![t.val / 32 * 16 + t.val % 16, t.val / 16 % 2]
    ∧ t.val < 128 :=
  (by decide +kernel : ∀ t : Fin grid0.N, _)

/-- The projection's heads. -/
abbrev argP (c : Dev nD) : FVec Ideal S36x16384x128 .bf16 := m ((c : Thread nD τ).loc main_arg0)

theorem blk0 (c : Dev nD) (t : Fin cfg0.N) (g : Fin 4) (q : Fin 256) (e : Fin 128) (h : Fin 36) (r : Fin 16384)
    (hh : h.val = t.val / 16 % 2 * 4 + g.val) (hr : r.val = (t.val / 32 * 16 + t.val % 16) * 256 + q.val) :
    (iblk m c 0 t : FVec Ideal S4x256x128 .bf16) (ix3 g q e) = argP m c (ix3 h r e) := by
  blk_ext [iblk, V, idx t]
theorem blk1 (c : Dev nD) (t : Fin cfg0.N) (z : Fin 1) (j : Fin 4096) (e : Fin 128) (h : Fin 36) (r : Fin 16384)
    (hh : h.val = 8 + t.val / 16 % 2) (hr : r.val = t.val / 32 * 4096 + j.val) :
    (iblk m c 1 t : FVec Ideal S1x4096x128 .bf16) (ix3 z j e) = argP m c (ix3 h r e) := by
  blk_ext [iblk, V, idx t]
theorem blk2 (c : Dev nD) (t : Fin cfg0.N) (z : Fin 1) (j : Fin 4096) (e : Fin 128) (h : Fin 36) (r : Fin 16384)
    (hh : h.val = 10 + t.val / 16 % 2) (hr : r.val = t.val / 32 * 4096 + j.val) :
    (iblk m c 2 t : FVec Ideal S1x4096x128 .bf16) (ix3 z j e) = argP m c (ix3 h r e) := by
  blk_ext [iblk, V, idx t]

theorem ld_rows (x : Vec Ideal S4x256x128 .bf16) (g : Fin 4) (q : Fin 256) (e : Fin 128) :
    (View.ld (Val := Elt Ideal) (e' := .bf16) x r0_0 : Vec Ideal S4x256x128 .bf16) (ix3 g q e) = x (ix3 g q e) :=
  View.ld_unit_apply_of _ _ _ _ _ _ (fun a => by fin_cases a <;> exact (Nat.zero_add _).symm)

theorem ld_short (x : Vec Ideal S1x4096x128 .bf16) (o : ℕ) (ho : o + 512 ≤ 4096) (inb) (z : Fin 1) (j : Fin 512) (e : Fin 128) :
    (View.ld (Val := Elt Ideal) (e' := .bf16) x (Rect.unit (s := S1x4096x128) ![0, o, 0] S1x512x128.size inb) : Vec Ideal S1x512x128 .bf16) (ix3 z j e)
      = x (ix3 z ⟨o + j.val, by omega⟩ e) :=
  View.ld_unit_apply_of _ _ _ _ _ _ (fun a => by fin_cases a <;> first | rfl | exact (Nat.zero_add _).symm)

theorem ld_long (x : Vec Ideal S1x4096x128 .bf16) (o : ℕ) (ho : o + 1024 ≤ 4096) (inb) (z : Fin 1) (j : Fin 1024) (e : Fin 128) :
    (View.ld (Val := Elt Ideal) (e' := .bf16) x (Rect.unit (s := S1x4096x128) ![0, o, 0] S1x1024x128.size inb) : Vec Ideal S1x1024x128 .bf16) (ix3 z j e)
      = x (ix3 z ⟨o + j.val, by omega⟩ e) :=
  View.ld_unit_apply_of _ _ _ _ _ _ (fun a => by fin_cases a <;> first | rfl | exact (Nat.zero_add _).symm)

/-- A real score from real entries. -/
theorem score_of (a b : Fin 128 → EReal) (q k : Fin 128 → ℝ) (ha : ∀ e, a e = (q e : EReal)) (hb : ∀ e, b e = (k e : EReal)) :
    ∑ e : Fin 128, a e * b e = ((score q k : ℝ) : EReal) := by
  unfold score
  rw [← sum_coe]
  exact Finset.sum_congr rfl fun e _ => by rw [ha, hb, EReal.coe_mul]

/-- The quotient at a row of the block, from blocks whose queries and keys are real numbers. -/
theorem row_at (x0 : Vec Ideal S4x256x128 .bf16) (x1 x2 : Vec Ideal S1x4096x128 .bf16) (r : Fin 1024) (d : Fin 128)
    (q : Fin 128 → ℝ) (k : Fin 4096 → Fin 128 → ℝ) (v : Fin 4096 → EReal)
    (h0 : ∀ e, x0 (ix3 (⟨r.val / 256, by omega⟩ : Fin 4) (⟨r.val % 256, by omega⟩ : Fin 256) e) = (q e : EReal))
    (h1 : ∀ j e, x1 (ix3 (0 : Fin 1) j e) = (k j e : EReal)) (h2 : ∀ j, x2 (ix3 (0 : Fin 1) j d) = v j) :
    (k0_pay1 (k0_pay44 x0 x1 x2) (k0_pay46 x0 x1 x2) (k0_pay47 x0 x1 x2) (k0_pay48 x0 x1 x2) (k0_pay49 x0 x1 x2) (k0_pay50 x0 x1 x2)
      : FVec Ideal S1024x128 .f32) (ix2 r d) = attend q k v := by
  have hq : ∀ e, (k0_pay6 (F := Ideal) (View.ld (Val := Elt Ideal) (e' := .bf16) x0 r0_0) : FVec Ideal S1024x128 .bf16) (ix2 r e) = (q e : EReal) := fun e =>
    (rows_at _ r e).trans ((ld_rows _ _ _ _).trans (h0 e))
  have c1 := first_leaves (View.ld (Val := Elt Ideal) (e' := .bf16) x0 r0_0) (View.ld (Val := Elt Ideal) (e' := .bf16) x1 r0_1) (View.ld (Val := Elt Ideal) (e' := .bf16) x2 r0_1) r d
    (fun j => score q (k ⟨0 + j.val, by omega⟩)) (fun j => v ⟨0 + j.val, by omega⟩)
    (fun j => (first_scores _ _ r j).trans (score_of _ _ _ _ hq fun e => (ld_short x1 0 (by decide) _ _ _ _).trans (h1 _ _)))
    (fun j => (ld_short x2 0 (by decide) _ _ _ _).trans (h2 _))
  have c2 := second_leaves (View.ld (Val := Elt Ideal) (e' := .bf16) x0 r0_0) (View.ld (Val := Elt Ideal) (e' := .bf16) x1 r0_2) (View.ld (Val := Elt Ideal) (e' := .bf16) x2 r0_2) r d
    (fun j => score q (k ⟨512 + j.val, by omega⟩)) (fun j => v ⟨512 + j.val, by omega⟩)
    (fun j => (second_scores _ _ r j).trans (score_of _ _ _ _ hq fun e => (ld_long x1 512 (by decide) _ _ _ _).trans (h1 _ _)))
    (fun j => (ld_long x2 512 (by decide) _ _ _ _).trans (h2 _))
  have c3 := third_leaves (k0_pay6 (F := Ideal) (View.ld (Val := Elt Ideal) (e' := .bf16) x0 r0_0)) (View.ld (Val := Elt Ideal) (e' := .bf16) x1 r0_3) (View.ld (Val := Elt Ideal) (e' := .bf16) x2 r0_3) r d
    (fun j => score q (k ⟨1536 + j.val, by omega⟩)) (fun j => v ⟨1536 + j.val, by omega⟩)
    (fun j => (third_scores _ _ r j).trans (score_of _ _ _ _ hq fun e => (ld_long x1 1536 (by decide) _ _ _ _).trans (h1 _ _)))
    (fun j => (ld_long x2 1536 (by decide) _ _ _ _).trans (h2 _))
  have c4 := fourth_leaves (k0_pay6 (F := Ideal) (View.ld (Val := Elt Ideal) (e' := .bf16) x0 r0_0)) (View.ld (Val := Elt Ideal) (e' := .bf16) x1 r0_4) (View.ld (Val := Elt Ideal) (e' := .bf16) x2 r0_4) r d
    (fun j => score q (k ⟨2560 + j.val, by omega⟩)) (fun j => v ⟨2560 + j.val, by omega⟩)
    (fun j => (fourth_scores _ _ r j).trans (score_of _ _ _ _ hq fun e => (ld_long x1 2560 (by decide) _ _ _ _).trans (h1 _ _)))
    (fun j => (ld_long x2 2560 (by decide) _ _ _ _).trans (h2 _))
  have c5 := fifth_leaves (View.ld (Val := Elt Ideal) (e' := .bf16) x2 r0_5)
    (k0_pay27 (k0_pay6 (F := Ideal) (View.ld (Val := Elt Ideal) (e' := .bf16) x0 r0_0)) (View.ld (Val := Elt Ideal) (e' := .bf16) x1 r0_5)) r d
    (fun j => score q (k ⟨3584 + j.val, by omega⟩)) (fun j => v ⟨3584 + j.val, by omega⟩)
    (fun j => (fifth_scores _ _ r j).trans (score_of _ _ _ _ hq fun e => (ld_short x1 3584 (by decide) _ _ _ _).trans (h1 _ _)))
    (fun j => (ld_short x2 3584 (by decide) _ _ _ _).trans (h2 _))
  unfold k0_pay44 k0_pay46 k0_pay47 k0_pay48 k0_pay49 k0_pay50 k0_pay40 k0_pay41 k0_pay42 k0_pay43 k0_pay45 k0_pay39
  refine (merged _ _ r d _ _ _ _ _ _ _ _ _ _ _ _ _ _ _ _ _ _ _ _ _ _ _ c1 c2 c3 c4 c5).trans ?_
  unfold attend weight
  rw [five_parts (fun j => ((Real.rpow 2 (score q (k j)) : ℝ) : EReal) * v j), five_parts (fun j => Real.rpow 2 (score q (k j)))]

/-- The row of the stacked heads that a row and a column of the output block read. -/
def stacked (q : Fin 256) (l : Fin 512) : Fin 1024 := ⟨l.val / 128 * 256 + q.val, by omega⟩

theorem pay2_at (a b c d e f) (q : Fin 256) (l : Fin 128) :
    (k0_pay2 (F := Ideal) a b c d e f : FVec Ideal S256x128 .bf16) (ix2 q l) = (k0_pay1 (F := Ideal) a b c d e f : FVec Ideal S1024x128 .f32) (ix2 ⟨0 + q.val, by omega⟩ l) := by
  rw [show (⟨0 + q.val, by omega⟩ : Fin 1024) = ⟨q.val, by omega⟩ from Fin.ext (Nat.zero_add _)]
  pointwise [k0_pay2]
theorem pay3_at (a b c d e f) (q : Fin 256) (l : Fin 128) :
    (k0_pay3 (F := Ideal) a b c d e f : FVec Ideal S256x128 .bf16) (ix2 q l) = (k0_pay1 (F := Ideal) a b c d e f : FVec Ideal S1024x128 .f32) (ix2 ⟨256 + q.val, by omega⟩ l) := by
  pointwise [k0_pay3]
theorem pay4_at (a b c d e f) (q : Fin 256) (l : Fin 128) :
    (k0_pay4 (F := Ideal) a b c d e f : FVec Ideal S256x128 .bf16) (ix2 q l) = (k0_pay1 (F := Ideal) a b c d e f : FVec Ideal S1024x128 .f32) (ix2 ⟨512 + q.val, by omega⟩ l) := by
  pointwise [k0_pay4]
theorem pay5_at (a b c d e f) (q : Fin 256) (l : Fin 128) :
    (k0_pay5 (F := Ideal) a b c d e f : FVec Ideal S256x128 .bf16) (ix2 q l) = (k0_pay1 (F := Ideal) a b c d e f : FVec Ideal S1024x128 .f32) (ix2 ⟨768 + q.val, by omega⟩ l) := by
  pointwise [k0_pay5]

/-- A block whose entry at a row and a column is an entry of the stacked heads. -/
def unstacked (Y : FVec Ideal S1024x128 .f32) : FVec Ideal S256x512 .bf16 := fun y =>
  Y (ix2 (stacked (y 0) (y 1)) ⟨(y 1).val % 128, Nat.mod_lt _ (by decide)⟩)

theorem piece_of (Y : FVec Ideal S1024x128 .f32) (P : FVec Ideal S256x128 .bf16) (g : ℕ) (hg : g < 4) (inb)
    (h : ∀ (q : Fin 256) (l : Fin 128), P (ix2 q l) = Y (ix2 ⟨g * 256 + q.val, by omega⟩ l)) (x : S256x128.Idx) :
    P x = unstacked Y ((Rect.unit (s := S256x512) ![0, g * 128] S256x128.size inb).emb x) := by
  obtain ⟨q, l, rfl⟩ : ∃ (q : Fin 256) (l : Fin 128), x = ix2 q l := ⟨x 0, x 1, by funext a; fin_cases a <;> rfl⟩
  rw [h]
  unfold unstacked stacked
  refine congrArg Y ?_
  congr 1 <;> refine Fin.ext ?_
  · show g * 256 + q.val = (g * 128 + 1 * l.val) / 128 * 256 + (0 + 1 * q.val)
    omega
  · show l.val = (g * 128 + 1 * l.val) % 128
    omega

theorem out_at (x0 : Vec Ideal S4x256x128 .bf16) (x1 x2 : Vec Ideal S1x4096x128 .bf16) (q : Fin 256) (l : Fin 512) :
    (out0_3 (F := Ideal) x0 x1 x2 : FVec Ideal S256x512 .bf16) (ix2 q l)
      = (k0_pay1 (k0_pay44 x0 x1 x2) (k0_pay46 x0 x1 x2) (k0_pay47 x0 x1 x2) (k0_pay48 x0 x1 x2) (k0_pay49 x0 x1 x2) (k0_pay50 x0 x1 x2)
        : FVec Ideal S1024x128 .f32) (ix2 (stacked q l) ⟨l.val % 128, Nat.mod_lt _ (by decide)⟩) := by
  unfold out0_3
  refine View.canon_apply_of_pieces (Val := Elt Ideal) (e := .bf16) (unstacked (k0_pay1 (k0_pay44 x0 x1 x2) (k0_pay46 x0 x1 x2) (k0_pay47 x0 x1 x2) (k0_pay48 x0 x1 x2) (k0_pay49 x0 x1 x2) (k0_pay50 x0 x1 x2)))
    _ ?_ (ix2 q l) (cover0_3 _ _ _ _ _)
  refine List.forall_mem_cons.mpr ⟨fun x => piece_of _ _ 3 (by decide) (by decide) (pay5_at _ _ _ _ _ _) x, ?_⟩
  refine List.forall_mem_cons.mpr ⟨fun x => piece_of _ _ 2 (by decide) (by decide) (pay4_at _ _ _ _ _ _) x, ?_⟩
  refine List.forall_mem_cons.mpr ⟨fun x => piece_of _ _ 1 (by decide) (by decide) (pay3_at _ _ _ _ _ _) x, ?_⟩
  refine List.forall_mem_cons.mpr ⟨fun x => piece_of _ _ 0 (by decide) (by decide) (pay2_at _ _ _ _ _ _) x, ?_⟩
  exact fun _ h => absurd h List.not_mem_nil

/-- The array the kernel leaves. -/
def target (p : Fin 36 → Fin 16384 → Fin 128 → ℝ) (u : Fin 36 → Fin 16384 → Fin 128 → EReal) : FVec Ideal S16384x1024 .bf16 := fun y =>
  result p u (y 0) (y 1)

theorem final (c : Dev nD) (p : Fin 36 → Fin 16384 → Fin 128 → ℝ) (hP : ∀ h : Fin 36, h.val < 10 → ∀ r e, argP m c (ix3 h r e) = (p h r e : EReal)) :
    (dats m 0 c).arrAt 3 cfg0.N = target p fun h r e => argP m c (ix3 h r e) := by
  refine (dats m 0 c).arrAt_eq_of_covers 3 _ (by decide +kernel) fun t hf y => ?_
  blk_simp [idx t]
  rw [after0_3]
  generalize hY : (win0_3.blk t).view.emb y = Y
  have e0 : (Y 0).val = (t.val / 32 * 16 + t.val % 16) * 256 + (y 0).val := by
    rw [← hY]; blk_simp [idx t]
  have e1 : (Y 1).val = t.val / 16 % 2 * 512 + (y 1).val := by
    rw [← hY]; blk_simp [idx t]
  have ht : t.val < 128 := (idx t).2.2.2.2
  obtain ⟨q, l, rfl⟩ : ∃ (q : Fin 256) (l : Fin 512), y = ix2 q l := ⟨y 0, y 1, by funext a; fin_cases a <;> rfl⟩
  replace e0 : (Y 0).val = (t.val / 32 * 16 + t.val % 16) * 256 + q.val := e0
  replace e1 : (Y 1).val = t.val / 16 % 2 * 512 + l.val := e1
  refine (out_at _ _ _ q l).trans ?_
  unfold target result
  have hq := q.isLt
  have hl := l.isLt
  have hc : (Y 1).val < 1024 := (Y 1).isLt
  have s0 : (stacked q l).val = l.val / 128 * 256 + q.val := rfl
  refine row_at _ _ _ _ _ _ _ _ (fun e => (blk0 m c t _ _ e _ (Y 0) ?_ ?_).trans
      (hP _ (by show (Y 1).val / 512 * 4 + (Y 1).val / 128 % 4 < 10; omega) _ _))
    (fun j e => (blk1 m c t _ j e _ _ ?_ ?_).trans (hP _ (by show 8 + (Y 1).val / 512 < 10; omega) _ _)) (fun j => ?_)
  · show (Y 1).val / 512 * 4 + (Y 1).val / 128 % 4 = t.val / 16 % 2 * 4 + (stacked q l).val / 256
    omega
  · show (Y 0).val = (t.val / 32 * 16 + t.val % 16) * 256 + (stacked q l).val % 256
    omega
  · show 8 + (Y 1).val / 512 = 8 + t.val / 16 % 2
    omega
  · show (Y 0).val / 4096 * 4096 + j.val = t.val / 32 * 4096 + j.val
    omega
  · have hd : (⟨l.val % 128, Nat.mod_lt _ (by decide)⟩ : Fin 128) = ⟨(Y 1).val % 128, Nat.mod_lt _ (by decide)⟩ :=
      Fin.ext (by show l.val % 128 = (Y 1).val % 128; omega)
    have hr : (Y 0).val < 16384 := (Y 0).isLt
    have hj := j.isLt
    rw [hd]
    refine (blk2 m c t (0 : Fin 1) j _ ⟨10 + (Y 1).val / 512, by omega⟩ ⟨(Y 0).val / 4096 * 4096 + j.val, by omega⟩ ?_ ?_)
    · show 10 + (Y 1).val / 512 = 10 + t.val / 16 % 2
      omega
    · show (Y 0).val / 4096 * 4096 + j.val = t.val / 32 * 4096 + j.val
      omega

end Cert.GqaIdeal.Value

end
end
-- ==== Proof.GqaRef.lean ====
module

public import proofs.«01_k».proof.Proof.GqaMath
public import proofs.«01_k».proof.Proof.Gen.GqaRefIdeal.Run
public import Idealize.ShloMosaic.Lib.Pointwise
public import Idealize.ShloMosaic.Lib.ValueIdxRank6

@[expose] public section

set_option maxRecDepth 16384

/-! The reference of the grouped attention: its composed term in layers, and an entry of the result. -/

noncomputable section
open Idealize.ShloMosaic Idealize.ShloMosaic.TcCoe Idealize.SL.Sem
namespace Cert.GqaRefIdeal.Value
open Cert.GqaRefIdeal Cert.GqaRefIdeal.Facts₀ Cert.GqaRefIdeal.Facts Cert.GqaSpec
attribute [local instance] Cert.GqaRefIdeal.Gen.facts

/-- The scores times the logarithm of two. -/
def logits (P : FVec Ideal S36x16384x128 .bf16) : FVec Ideal S2x4x4x4096x4096 .f32 :=
  mulf (Host.dotGeneral dot_S2x4x4x4096x128_S2x4x4096x128_S2x4x4x4096x4096_4_3_13_2_02_01 none (shapeCast _ (extractStridedSlice S8x16384x128 ![0, 0, 0] (extf .f32 P bitsLt_bf16_f32) slices_S36x16384x128_S8x16384x128_0_0_0) shapeCasts_S8x16384x128_S2x4x4x4096x128) (shapeCast _ (extractStridedSlice S2x16384x128 ![8, 0, 0] (extf .f32 P bitsLt_bf16_f32) slices_S36x16384x128_S2x16384x128_8_0_0) shapeCasts_S2x16384x128_S2x4x4096x128)) (broadcastInDim S2x4x4x4096x4096 ![] bcast_S_S2x4x4x4096x4096 (Host.log (constant S_ .f32 0x40000000#32)))

/-- The greatest score of each row. -/
def greatestOf (L : FVec Ideal S2x4x4x4096x4096 .f32) : FVec Ideal S2x4x4x4096 .f32 :=
  maximumf (broadcastInDim S2x4x4x4096 ![] bcast_S_S2x4x4x4096 (constant S_ .f32 0xFF800000#32)) (Host.reduce FloatOps.maximumf L (constant S_ .f32 0xFF800000#32) reducesTo_S2x4x4x4096x4096_S2x4x4x4096_d4 h_S_)

/-- The exponentials relative to the greatest score. -/
def exps (L : FVec Ideal S2x4x4x4096x4096 .f32) (G : FVec Ideal S2x4x4x4096 .f32) : FVec Ideal S2x4x4x4096x4096 .f32 :=
  Host.exp (subf L (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 G)))

/-- The exponentials divided by their sum. -/
def shares (E : FVec Ideal S2x4x4x4096x4096 .f32) : FVec Ideal S2x4x4x4096x4096 .f32 :=
  Host.divf E (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd E (constant S_ .f32 0x00000000#32) reducesTo_S2x4x4x4096x4096_S2x4x4x4096_d4 h_S_)))

/-- The shares' product with the values. -/
def means (P : FVec Ideal S36x16384x128 .bf16) (W : FVec Ideal S2x4x4x4096x4096 .f32) : FVec Ideal S4x2x128x4x4096 .f32 :=
  Host.dotGeneral dot_S2x4x4096x128_S2x4x4x4096x4096_S4x2x128x4x4096_2_4_3_23_10_10 none (shapeCast _ (extractStridedSlice S2x16384x128 ![10, 0, 0] (extf .f32 P bitsLt_bf16_f32) slices_S36x16384x128_S2x16384x128_10_0_0) shapeCasts_S2x16384x128_S2x4x4096x128) W

/-- The result's rows and columns. -/
def laid (O : FVec Ideal S4x2x128x4x4096 .f32) : FVec Ideal S16384x1024 .bf16 :=
  truncf .bf16 (shapeCast _ (transpose S4x4096x2x4x128 [0, 4, 1, 3, 2] O transposes_S4x2x128x4x4096_S4x4096x2x4x128_0_4_1_3_2) shapeCasts_S4x4096x2x4x128_S16384x1024) bitsLt_bf16_f32

/-- The reference's result, in layers. -/
theorem layers (m : (ℓ : Loc nD τ sig) → Buf (Elt Ideal) ℓ) (c : Dev nD) :
    (res_out0 m c : FVec Ideal S16384x1024 .bf16)
      = laid (means (m ((c.tc : Thread nD τ).loc main_arg0)) (shares (exps (logits (m ((c.tc : Thread nD τ).loc main_arg0)))
        (greatestOf (logits (m ((c.tc : Thread nD τ).loc main_arg0))))))) := rfl

theorem logits_at (P : FVec Ideal S36x16384x128 .bf16) (n : Fin 2) (b g : Fin 4) (q k : Fin 4096) :
    logits P (ix5 n b g q k) = (∑ e : Fin 128, P (ix3 ⟨n.val * 4 + g.val, by omega⟩ ⟨b.val * 4096 + q.val, by omega⟩ e)
      * P (ix3 ⟨8 + n.val, by omega⟩ ⟨b.val * 4096 + k.val, by omega⟩ e)) * Ideal.log (Ideal.ofBits .f32 0x40000000#32) := by
  unfold logits
  pointwise

theorem exps_at (L : FVec Ideal S2x4x4x4096x4096 .f32) (G : FVec Ideal S2x4x4x4096 .f32) (n : Fin 2) (b g : Fin 4) (q k : Fin 4096) :
    exps L G (ix5 n b g q k) = Ideal.exp (L (ix5 n b g q k) - G (ix4 n b g q)) := by
  unfold exps
  pointwise

theorem shares_at (E : FVec Ideal S2x4x4x4096x4096 .f32) (n : Fin 2) (b g : Fin 4) (q k : Fin 4096) :
    shares E (ix5 n b g q k) = Ideal.div (E (ix5 n b g q k)) (∑ j : Fin 4096, E (ix5 n b g q j)) := by
  unfold shares
  pointwise

theorem means_at (P : FVec Ideal S36x16384x128 .bf16) (W : FVec Ideal S2x4x4x4096x4096 .f32) (n : Fin 2) (b g : Fin 4) (q : Fin 4096) (d : Fin 128) :
    means P W (ix5 b n d g q) = ∑ k : Fin 4096, P (ix3 ⟨10 + n.val, by omega⟩ ⟨b.val * 4096 + k.val, by omega⟩ d) * W (ix5 n b g q k) := by
  unfold means
  pointwise

theorem laid_at (O : FVec Ideal S4x2x128x4x4096 .f32) (R : Fin 16384) (C : Fin 1024) :
    laid O (ix2 R C) = O (ix5 ⟨R.val / 4096, by omega⟩ ⟨C.val / 512, by omega⟩ ⟨C.val % 128, by omega⟩ ⟨C.val / 128 % 4, by omega⟩ ⟨R.val % 4096, by omega⟩) := by
  unfold laid
  pointwise

/-- A maximum of real numbers along one axis, started below all of them, is a real number. -/
theorem reduce_real {s t u : Shape} {a : Fin s.rank} (x : FVec Ideal s .f32) (init : FVec Ideal u .f32) (h' : s.ReducesTo [a] t)
    (h : s.Reduces [a] t) (hu : 0 < u.numel) (hi : init (Shape.Idx.first hu) = Ideal.ofBits .f32 4286578688#32) (hn : 0 < s.size a)
    (y : s.Idx → ℝ) (hx : ∀ i, x i = (y i : EReal)) (j : t.Idx) :
    ∃ M : ℝ, Host.reduce FloatOps.maximumf x init h' hu j = (M : EReal) := by
  obtain ⟨M, hM⟩ := greatest hn (fun k => y (h.lift j k))
  refine ⟨M, (Host.reduce_eq_fold_single FloatOps.maximumf x init h' h hu j).trans (Eq.trans ?_ hM)⟩
  rw [hi, show x ∘ h.lift j = fun k => ((y (h.lift j k) : ℝ) : EReal) from funext fun k => hx _]
  rfl

/-- The maximum as the reference takes it, once more against the number below all of them. -/
theorem greatest_real {s t : Shape} {a : Fin s.rank} (x : FVec Ideal s .f32) (h' : s.ReducesTo [a] t)
    (h : s.Reduces [a] t) (hu : 0 < S_.numel) (hb : S_.BroadcastsInDim t (![] : Fin 0 → Fin t.rank)) (hn : 0 < s.size a)
    (y : s.Idx → ℝ) (hx : ∀ i, x i = (y i : EReal)) (j : t.Idx) :
    ∃ M : ℝ, maximumf (broadcastInDim t ![] hb (constant (F := Ideal) S_ .f32 0xFF800000#32))
      (Host.reduce FloatOps.maximumf x (constant (F := Ideal) S_ .f32 0xFF800000#32) h' hu) j = (M : EReal) := by
  obtain ⟨M, hM⟩ := reduce_real x (constant (F := Ideal) S_ .f32 0xFF800000#32) h' h hu rfl hn y hx j
  refine ⟨M, Eq.trans (b := max (Ideal.ofBits .f32 4286578688#32) (Host.reduce FloatOps.maximumf x (constant (F := Ideal) S_ .f32 0xFF800000#32) h' hu j)) rfl ?_⟩
  rw [hM, start_bot]
  exact max_eq_right bot_le

theorem keys_reduced : S2x4x4x4096x4096.Reduces [4] S2x4x4x4096 := by decide

theorem keys_some : 0 < S2x4x4x4096x4096.size (4 : Fin S2x4x4x4096x4096.rank) := by decide

theorem greatestOf_real (L : FVec Ideal S2x4x4x4096x4096 .f32) (y : S2x4x4x4096x4096.Idx → ℝ) (hL : ∀ i, L i = (y i : EReal))
    (j : S2x4x4x4096.Idx) : ∃ M : ℝ, greatestOf L j = (M : EReal) := by
  unfold greatestOf
  exact greatest_real L reducesTo_S2x4x4x4096x4096_S2x4x4x4096_d4 keys_reduced h_S_ bcast_S_S2x4x4x4096 keys_some y hL j

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e]
  show (if (2 : ℝ) ≤ 0 then (⊥ : EReal) else (Real.log 2 : EReal)) = _
  rw [if_neg (by norm_num)]

/-- An entry before the rows and columns are laid out. -/
theorem mean_real (P : FVec Ideal S36x16384x128 .bf16) (p : Fin 36 → Fin 16384 → Fin 128 → ℝ)
    (hP : ∀ h : Fin 36, h.val < 10 → ∀ r e, P (ix3 h r e) = (p h r e : EReal)) (n : Fin 2) (b g : Fin 4) (q : Fin 4096) (d : Fin 128) :
    means P (shares (exps (logits P) (greatestOf (logits P)))) (ix5 b n d g q)
      = attend (p ⟨n.val * 4 + g.val, by omega⟩ ⟨b.val * 4096 + q.val, by omega⟩) (fun j => p ⟨8 + n.val, by omega⟩ ⟨b.val * 4096 + j.val, by omega⟩)
        (fun j => P (ix3 ⟨10 + n.val, by omega⟩ ⟨b.val * 4096 + j.val, by omega⟩ d)) := by
  have hl : ∀ (n : Fin 2) (b g : Fin 4) (q k : Fin 4096), logits P (ix5 n b g q k)
      = (score (p ⟨n.val * 4 + g.val, by omega⟩ ⟨b.val * 4096 + q.val, by omega⟩) (p ⟨8 + n.val, by omega⟩ ⟨b.val * 4096 + k.val, by omega⟩) : EReal)
        * (Real.log 2 : ℝ) := fun n b g q k => by
    rw [logits_at, log_two]
    refine congrArg (· * ((Real.log 2 : ℝ) : EReal)) ?_
    unfold score
    rw [← sum_coe]
    exact Finset.sum_congr rfl fun e _ => by
      rw [hP ⟨n.val * 4 + g.val, by omega⟩ (by show n.val * 4 + g.val < 10; omega), hP ⟨8 + n.val, by omega⟩ (by show 8 + n.val < 10; omega), EReal.coe_mul]
  obtain ⟨M, hM⟩ := greatestOf_real (logits P) (fun i => (logits P i).toReal) (fun i => by
    obtain ⟨n, b, g, q, k, rfl⟩ : ∃ (n : Fin 2) (b g : Fin 4) (q k : Fin 4096), i = ix5 n b g q k :=
      ⟨i 0, i 1, i 2, i 3, i 4, by funext a; fin_cases a <;> rfl⟩
    rw [hl, ← EReal.coe_mul, EReal.toReal_coe]) (ix4 n b g q)
  have he : ∀ k, exps (logits P) (greatestOf (logits P)) (ix5 n b g q k)
      = Ideal.exp ((score (p ⟨n.val * 4 + g.val, by omega⟩ ⟨b.val * 4096 + q.val, by omega⟩) (p ⟨8 + n.val, by omega⟩ ⟨b.val * 4096 + k.val, by omega⟩) : EReal)
        * (Real.log 2 : ℝ) - (M : EReal)) := fun k => by rw [exps_at, hl, hM]
  rw [means_at]
  refine Eq.trans (Finset.sum_congr rfl fun k _ => ?_) (softmax (fun k => score (p ⟨n.val * 4 + g.val, by omega⟩ ⟨b.val * 4096 + q.val, by omega⟩)
    (p ⟨8 + n.val, by omega⟩ ⟨b.val * 4096 + k.val, by omega⟩)) (fun j => P (ix3 ⟨10 + n.val, by omega⟩ ⟨b.val * 4096 + j.val, by omega⟩ d)) M)
  rw [shares_at, mul_comm]
  simp only [he]

/-- An entry of the reference's result. -/
theorem entry (P : FVec Ideal S36x16384x128 .bf16) (p : Fin 36 → Fin 16384 → Fin 128 → ℝ)
    (hP : ∀ h : Fin 36, h.val < 10 → ∀ r e, P (ix3 h r e) = (p h r e : EReal)) (R : Fin 16384) (C : Fin 1024) :
    laid (means P (shares (exps (logits P) (greatestOf (logits P))))) (ix2 R C) = result p (fun h r e => P (ix3 h r e)) R C := by
  rw [laid_at, mean_real P p hP]
  unfold result
  have e : (⟨R.val / 4096 * 4096 + R.val % 4096, by omega⟩ : Fin 16384) = R := Fin.ext (by dsimp only; omega)
  dsimp only
  rw [e]

end Cert.GqaRefIdeal.Value

end
end
-- ==== Proof.GqaClaim.lean ====
module

public import proofs.«01_k».proof.Defs
public import proofs.«01_k».proof.Proof.GqaKernel
public import proofs.«01_k».proof.Proof.GqaRef
public import proofs.«01_k».proof.Proof.Gen.Pre_finite_scores
public import Idealize.ShloMosaic.Lib.ReduceAll
public import Idealize.ShloMosaic.Lib.Pointwise
public import Idealize.ShloMosaic.Lib.Claim

@[expose] public section

set_option maxRecDepth 16384

/-! The grouped attention's value claim. -/

noncomputable section
open Idealize.ShloMosaic Idealize.ShloMosaic.TcCoe Idealize.SL.Sem
namespace Cert.GqaIdeal.Value
attribute [local instance] Cert.GqaIdeal.Gen.facts Cert.GqaRefIdeal.Gen.facts Cert.Pre_finite_scores.Gen.facts

/-- A number whose absolute value is below infinity is real. -/
theorem real_of_abs (x : EReal) (h : FloatOps.cmpf (F := Ideal) (φ := .f32) .olt (FloatOps.absf (F := Ideal) (φ := .f32) x) (Ideal.ofBits .f32 0x7F800000#32) = 1#1) :
    ∃ r : ℝ, x = (r : EReal) := by
  have hx : max x (-x) < Ideal.ofBits .f32 0x7F800000#32 := by
    by_contra hn
    have : BitVec.ofBool (decide (max x (-x) < Ideal.ofBits .f32 0x7F800000#32)) = 1#1 := h
    rw [decide_eq_false hn] at this
    exact absurd this (by decide)
  have ht : x ≠ ⊤ := fun e => absurd (lt_of_le_of_lt (le_max_left _ _) hx) (by rw [e]; exact not_top_lt)
  have hb : x ≠ ⊥ := fun e => absurd (lt_of_le_of_lt (le_max_right _ _) hx) (by rw [e, EReal.neg_bot]; exact not_top_lt)
  exact ⟨x.toReal, (EReal.coe_toReal ht hb).symm⟩

/-- What the precondition says: every entry of the queries' and keys' planes is a real number. -/
theorem reals (P : FVec Ideal Cert.Pre_finite_scores.S36x16384x128 .bf16) (hf : Cert.Pre_finite_scores.fn (F := Ideal) P = fun _ => 1#1)
    (h : Fin 36) (hh : h.val < 10) (r : Fin 16384) (e : Fin 128) : ∃ x : ℝ, P (ix3 h r e) = (x : EReal) := by
  have f := congrFun hf (fun a => a.elim0)
  unfold Cert.Pre_finite_scores.fn at f
  haveI : Subsingleton Cert.Pre_finite_scores.S_.Idx := ⟨fun a b => funext fun k => k.elim0⟩
  let X : FVec Ideal Cert.Pre_finite_scores.S10x16384x128 .bf16 :=
    extractStridedSlice Cert.Pre_finite_scores.S10x16384x128 ![0, 0, 0] P
      Cert.Pre_finite_scores.Facts.slices_S36x16384x128_S10x16384x128_0_0_0
  have g := Host.reduce_andi_all _ _ _ _ _ f (ix3 (⟨h.val, hh⟩ : Fin 10) r e)
  obtain ⟨x, hx⟩ := real_of_abs (X (ix3 (⟨h.val, hh⟩ : Fin 10) r e)) g
  refine ⟨x, Eq.trans (Eq.symm ?_) hx⟩
  show extractStridedSlice Cert.Pre_finite_scores.S10x16384x128 ![0, 0, 0] P
    Cert.Pre_finite_scores.Facts.slices_S36x16384x128_S10x16384x128_0_0_0 (ix3 (⟨h.val, hh⟩ : Fin 10) r e) = _
  pointwise

theorem algebraic : Cert.algebraic_GqaIdeal_GqaRefIdeal_pre_finite_scores := by
  pair_intro
  · run_from Cert.GqaIdeal.Gen.run_main m g
  · run_from Cert.GqaRefIdeal.Value.run m' g'
    have hr : ∀ h : Fin 36, h.val < 10 → ∀ (r : Fin 16384) (e : Fin 128),
        argP m c (ix3 h r e) = ((argP m c (ix3 h r e)).toReal : EReal) := fun h hh r e => by
      obtain ⟨x, hx⟩ := reals (argP m c) (hpre c) h hh r e
      rw [hx, EReal.toReal_coe]
    refine Eq.trans ?_ (final m c (fun h r e => (argP m c (ix3 h r e)).toReal) hr).symm
    refine (Cert.GqaRefIdeal.Value.layers m' c).trans ?_
    rw [hagree c]
    funext y
    obtain ⟨R, C, rfl⟩ : ∃ (R : Fin 16384) (C : Fin 1024), y = ix2 R C := ⟨y 0, y 1, by funext a; fin_cases a <;> rfl⟩
    exact Cert.GqaRefIdeal.Value.entry (argP m c) _ hr R C
end Cert.GqaIdeal.Value

end
end
-- ==== Proof.FfnBlocks.lean ====
module

public import proofs.«01_k».proof.Proof.Gen.FfnIdeal.Frame
public import Idealize.ShloMosaic.Lib.Pipeline.ValueKit
public import Idealize.ShloMosaic.Lib.Pointwise
public import Idealize.ShloMosaic.Lib.Claim

@[expose] public section

set_option maxRecDepth 16384

/-! The input blocks of the feed-forward kernel, read at an index: each is a part of an argument array. -/

noncomputable section
open Idealize.ShloMosaic Idealize.ShloMosaic.TcCoe Idealize.SL.Sem
open Idealize.ShloMosaic.Pipeline (Dat)
namespace Cert.FfnIdeal.Value
open Cert.FfnIdeal Cert.FfnIdeal.Gen
variable (m : (ℓ : Loc nD τ sig) → Buf (Elt Ideal) ℓ)

/-- The index maps of the windows, in the point's number. -/
theorem idx : ∀ t : Fin cfg0.N,
    win0_0.index t = ![t.val / 11, 0] ∧ win0_1.index t = ![t.val / 11 * 64 - 1, 0]
    ∧ win0_2.index t = ![min ((t.val / 11 + 1) * 64) 1023, 0] ∧ win0_3.index t = ![0, 0]
    ∧ win0_4.index t = ![0, t.val % 11] ∧ win0_5.index t = ![0, 11 + t.val % 11]
    ∧ win0_6.index t = ![0, t.val % 11] ∧ win0_7.index t = ![0, t.val % 11]
    ∧ win0_8.index t = ![t.val % 11, 0] ∧ win0_9.index t = ![0, 0]
    ∧ win0_10.index t = ![t.val / 11, 0] ∧ t.val < 176 :=
  (by decide +kernel : ∀ t : Fin grid0.N, _)

/-- The residual stream, as the kernel's argument. -/
abbrev argX (c : Dev nD) : FVec Ideal S4x4096x2048 .f32 := m ((c : Thread nD τ).loc main_arg0)
/-- The block's gain. -/
abbrev argG (c : Dev nD) : FVec Ideal S2048 .f32 := m ((c : Thread nD τ).loc main_arg1)
/-- The up projection. -/
abbrev argW (c : Dev nD) : FVec Ideal S2048x11264 .f32 := m ((c : Thread nD τ).loc main_arg2)
/-- The taps of the convolution. -/
abbrev argCw (c : Dev nD) : FVec Ideal S3x5632 .f32 := m ((c : Thread nD τ).loc main_arg3)
/-- The bias of the convolution. -/
abbrev argCb (c : Dev nD) : FVec Ideal S5632 .f32 := m ((c : Thread nD τ).loc main_arg4)
/-- The down projection. -/
abbrev argWd (c : Dev nD) : FVec Ideal S5632x2048 .f32 := m ((c : Thread nD τ).loc main_arg5)
/-- The final gain. -/
abbrev argGf (c : Dev nD) : FVec Ideal S2048 .f32 := m ((c : Thread nD τ).loc main_arg6)

theorem blk0 (c : Dev nD) (t : Fin cfg0.N) (q : Fin 1024) (k : Fin 2048) (b : Fin 4) (s : Fin 4096)
    (h : 4096 * b.val + s.val = t.val / 11 * 1024 + q.val) :
    (iblk m c 0 t : FVec Ideal S1024x2048 .f32) (ix2 q k) = argX m c (ix3 b s k) := by
  blk_simp [iblk]
  entry_read
  pointwise
  blk_ext [idx t]
theorem blk1 (c : Dev nD) (t : Fin cfg0.N) (q : Fin 16) (k : Fin 2048) (b : Fin 4) (s : Fin 4096)
    (h : 4096 * b.val + s.val + 16 = t.val / 11 * 1024 + q.val) (h0 : t.val / 11 ≠ 0) :
    (iblk m c 1 t : FVec Ideal S16x2048 .f32) (ix2 q k) = argX m c (ix3 b s k) := by
  blk_simp [iblk]
  entry_read
  pointwise
  blk_ext [idx t]
theorem blk2 (c : Dev nD) (t : Fin cfg0.N) (q : Fin 16) (k : Fin 2048) (b : Fin 4) (s : Fin 4096)
    (h : 4096 * b.val + s.val = (t.val / 11 + 1) * 1024 + q.val) :
    (iblk m c 2 t : FVec Ideal S16x2048 .f32) (ix2 q k) = argX m c (ix3 b s k) := by
  blk_simp [iblk]
  entry_read
  pointwise
  blk_ext [idx t]
theorem blk3 (c : Dev nD) (t : Fin cfg0.N) (k : Fin 2048) :
    (iblk m c 3 t : FVec Ideal S1x2048 .f32) (ix2 0 k) = argG m c (ix1 k) := by
  blk_simp [iblk]
  entry_read
  pointwise
  blk_ext [idx t]
theorem blk4 (c : Dev nD) (t : Fin cfg0.N) (k : Fin 2048) (j : Fin 512) (l : Fin 11264)
    (h : l.val = t.val % 11 * 512 + j.val) :
    (iblk m c 4 t : FVec Ideal S2048x512 .bf16) (ix2 k j) = argW m c (ix2 k l) := by
  blk_simp [iblk]
  entry_read
  pointwise
  blk_ext [idx t]
theorem blk5 (c : Dev nD) (t : Fin cfg0.N) (k : Fin 2048) (j : Fin 512) (l : Fin 11264)
    (h : l.val = 5632 + (t.val % 11 * 512 + j.val)) :
    (iblk m c 5 t : FVec Ideal S2048x512 .bf16) (ix2 k j) = argW m c (ix2 k l) := by
  blk_simp [iblk]
  entry_read
  pointwise
  blk_ext [idx t]
theorem blk6 (c : Dev nD) (t : Fin cfg0.N) (d : Fin 3) (j : Fin 512) (l : Fin 5632)
    (h : l.val = t.val % 11 * 512 + j.val) :
    (iblk m c 6 t : FVec Ideal S3x512 .f32) (ix2 d j) = argCw m c (ix2 d l) := by
  blk_ext [iblk, V, idx t]
theorem blk7 (c : Dev nD) (t : Fin cfg0.N) (j : Fin 512) (l : Fin 5632)
    (h : l.val = t.val % 11 * 512 + j.val) :
    (iblk m c 7 t : FVec Ideal S1x512 .f32) (ix2 0 j) = argCb m c (ix1 l) := by
  blk_simp [iblk]
  entry_read
  pointwise
  blk_ext [idx t]
theorem blk8 (c : Dev nD) (t : Fin cfg0.N) (j : Fin 512) (k : Fin 2048) (l : Fin 5632)
    (h : l.val = t.val % 11 * 512 + j.val) :
    (iblk m c 8 t : FVec Ideal S512x2048 .bf16) (ix2 j k) = argWd m c (ix2 l k) := by
  blk_simp [iblk]
  entry_read
  pointwise
  blk_ext [idx t]
theorem blk9 (c : Dev nD) (t : Fin cfg0.N) (k : Fin 2048) :
    (iblk m c 9 t : FVec Ideal S1x2048 .f32) (ix2 0 k) = argGf m c (ix1 k) := by
  blk_simp [iblk]
  entry_read
  pointwise
  blk_ext [idx t]
end Cert.FfnIdeal.Value
-- ==== Proof.FfnPay.lean ====
module

public import proofs.«01_k».proof.Proof.Gen.FfnIdeal.Frame
public import proofs.«01_k».proof.Proof.FfnSpec

@[expose] public section

set_option maxRecDepth 16384

/-! What the feed-forward kernel's body computes, read at an index. -/

noncomputable section
open Idealize.ShloMosaic Idealize.ShloMosaic.TcCoe Idealize.SL.Sem
namespace Cert.FfnIdeal.Value
open Cert.FfnIdeal Cert.FfnIdeal.Gen

/-- The row above the block is kept unless the block begins a sequence. -/
theorem keep_prev (i : Fin 16) :
    (k0_pay4 (F := Ideal) (BitVec.ofNat 32 i.val) : EReal) = if i.val % 4 = 0 then 0 else 1 := by
  fin_cases i <;> (pointwise [k0_pay4]; unfold Scalar.select; first | exact if_pos (by decide +kernel) | exact if_neg (by decide +kernel))

theorem keep_next (i : Fin 16) :
    (k0_pay5 (F := Ideal) (BitVec.ofNat 32 i.val) : EReal) = if i.val % 4 = 3 then 0 else 1 := by
  fin_cases i <;> (pointwise [k0_pay5]; unfold Scalar.select; first | exact if_pos (by decide +kernel) | exact if_neg (by decide +kernel))

theorem pay9_at (gv : Vec Ideal S1x2048 .f32) (x : Vec Ideal S1024x2048 .f32) (q : Fin 1024) (k : Fin 2048) :
    k0_pay9 (k0_pay3 gv) x (ix2 q k)
      = FfnSpec.rms (fun l => x (ix2 q l)) (fun l => gv (ix2 0 l)) k := by
  pointwise [k0_pay9, k0_pay3, FfnSpec.rms]

theorem pay8_at (gv : Vec Ideal S1x2048 .f32) (x : Vec Ideal S16x2048 .f32) (κ : Ideal .f32) (q : Fin 16)
    (k : Fin 2048) :
    k0_pay8 (k0_pay3 gv) κ (k0_pay6 x) (k0_pay7 x) (ix2 q k)
      = FfnSpec.rms (fun l => x (ix2 q l)) (fun l => gv (ix2 0 l)) k * κ := by
  pointwise [k0_pay8, k0_pay7, k0_pay6, k0_pay3, FfnSpec.rms]

theorem pay12_at (gv : Vec Ideal S1x2048 .f32) (x : Vec Ideal S16x2048 .f32) (κ : Ideal .f32) (q : Fin 16)
    (k : Fin 2048) :
    k0_pay12 (k0_pay10 (k0_pay3 gv) x) (k0_pay11 κ) (ix2 q k)
      = FfnSpec.rms (fun l => x (ix2 q l)) (fun l => gv (ix2 0 l)) k * κ := by
  pointwise [k0_pay12, k0_pay11, k0_pay10, k0_pay3, FfnSpec.rms]

theorem pay2_at (gv : Vec Ideal S1x2048 .f32) (x : Vec Ideal S1024x2048 .f32) (q : Fin 1024) (k : Fin 2048) :
    k0_pay2 x gv (ix2 q k)
      = FfnSpec.rms (fun l => x (ix2 q l)) (fun l => gv (ix2 0 l)) k := by
  pointwise [k0_pay2, FfnSpec.rms]

theorem pay14_at (S : Vec Ideal S1056x2048 .bf16) (wg : Vec Ideal S2048x512 .bf16) (cw : Vec Ideal S3x512 .f32)
    (cb : Vec Ideal S1x512 .f32) (q : Fin 1024) (j : Fin 512) :
    k0_pay14 S wg cw cb (ix2 q j)
      = cw (ix2 0 j) * (∑ k : Fin 2048, S (ix2 ⟨15 + q.val, by omega⟩ k) * wg (ix2 k j))
        + cw (ix2 1 j) * (∑ k : Fin 2048, S (ix2 ⟨16 + q.val, by omega⟩ k) * wg (ix2 k j))
        + cw (ix2 2 j) * (∑ k : Fin 2048, S (ix2 ⟨17 + q.val, by omega⟩ k) * wg (ix2 k j))
        + cb (ix2 0 j) := by
  pointwise [k0_pay14]

/-- One step of the accumulation: the part of the down projection over one block of features. -/
def part (S : Vec Ideal S1056x2048 .bf16) (wg wu : Vec Ideal S2048x512 .bf16) (cw : Vec Ideal S3x512 .f32)
    (cb : Vec Ideal S1x512 .f32) (wd : Vec Ideal S512x2048 .bf16) (q : Fin 1024) (l : Fin 2048) : EReal :=
  ∑ j : Fin 512, FfnSpec.gelu (k0_pay14 S wg cw cb (ix2 q j))
    * (∑ k : Fin 2048, S (ix2 ⟨16 + q.val, by omega⟩ k) * wu (ix2 k j)) * wd (ix2 j l)

/-- The kernel halves the argument of the GELU first; the products are the same. -/
theorem gelu_halved (x : EReal) :
    Ideal.ofBits .f32 0x3F000000#32 * x * (1 + Ideal.tanh (Ideal.ofBits .f32 0x3F4C422A#32
      * (x + Ideal.ofBits .f32 0x3D372713#32 * (x * x * x)))) = FfnSpec.gelu x := by
  unfold FfnSpec.gelu
  rw [mul_comm _ x, mul_assoc]

theorem pay1_at (S : Vec Ideal S1056x2048 .bf16) (T : Vec Ideal S1024x2048 .bf16)
    (hT : ∀ (q : Fin 1024) (k : Fin 2048), T (ix2 q k) = S (ix2 ⟨16 + q.val, by omega⟩ k))
    (wg wu : Vec Ideal S2048x512 .bf16) (cw : Vec Ideal S3x512 .f32)
    (cb : Vec Ideal S1x512 .f32) (acc : Vec Ideal S1024x2048 .f32) (wd : Vec Ideal S512x2048 .bf16)
    (q : Fin 1024) (l : Fin 2048) :
    k0_pay1 (k0_pay15 T wu) (k0_pay16 S wg cw cb) (k0_pay17 S wg cw cb) k0_pay18 acc wd (ix2 q l)
      = acc (ix2 q l) + part S wg wu cw cb wd q l := by
  unfold part
  pointwise [k0_pay1, k0_pay15, k0_pay16, k0_pay17, k0_pay18, hT]
  refine congrArg (_ + ·) (Finset.sum_congr rfl fun j _ => congrArg (· * _) (congrArg (· * _) ?_))
  exact gelu_halved _
end Cert.FfnIdeal.Value
-- ==== Proof.FfnRef.lean ====
module

public import proofs.«01_k».proof.Proof.Gen.FfnRefIdeal.Run
public import proofs.«01_k».proof.Proof.FfnSpec

@[expose] public section

set_option maxRecDepth 16384

/-! The reference of the feed-forward block, read at an index: its composed term in layers, each layer read against
    the plain function of the same name. -/

noncomputable section
open Idealize.ShloMosaic Idealize.ShloMosaic.TcCoe Idealize.SL.Sem
namespace Cert.FfnRefIdeal.Value
open Cert.FfnRefIdeal Cert.FfnRefIdeal.Gen

/-- The normalised rows, as the reference composes them. -/
def nrmT (X : FVec Ideal S4x4096x2048 .f32) (g : FVec Ideal S2048 .f32) : FVec Ideal S4x4096x2048 .f32 :=
  mulf (mulf X (broadcastInDim S4x4096x2048 ![0, 1, 2] bcast_S4x4096x1_S4x4096x2048_0_1_2
    (Host.rsqrt (addf (Host.divf (broadcastInDim S4x4096x1 ![0, 1] bcast_S4x4096_S4x4096x1_0_1
      (Host.reduceAdd (mulf X X) (constant S_ .f32 0x00000000#32) reducesTo_S4x4096x2048_S4x4096_d2 h_S_))
      (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2
      (broadcastInDim S1x1x2048 ![2] bcast_S2048_S1x1x2048_2 g))

/-- The up projection. -/
def upT (Y : FVec Ideal S4x4096x2048 .f32) (W : FVec Ideal S2048x11264 .f32) : FVec Ideal S4x4096x11264 .f32 :=
  Host.dotGeneral dot_S4x4096x2048_S2048x11264_S4x4096x11264_2_0_01_1_n_n none Y W

/-- The gate half with a row of zeros before and after each sequence. -/
def padT (U : FVec Ideal S4x4096x11264 .f32) : FVec Ideal S4x4098x5632 .f32 :=
  pad S4x4098x5632 ![0, 1, 0] ![0, 1, 0] ![0, 0, 0]
    (extractStridedSlice S4x4096x5632 ![0, 0, 0] U slices_S4x4096x11264_S4x4096x5632_0_0_0)
    (sitofp .f32 (constantI S_ 32 0#32)) pads_S4x4096x5632_S4x4098x5632_000_110_000 h_S_

/-- The convolved gate. -/
def gateT (P : FVec Ideal S4x4098x5632 .f32) (cw : FVec Ideal S3x5632 .f32) (cb : FVec Ideal S5632 .f32) :
    FVec Ideal S4x4096x5632 .f32 :=
  addf (addf (addf
    (mulf (broadcastInDim S4x4096x5632 ![0, 1, 2] bcast_S1x1x5632_S4x4096x5632_0_1_2
      (broadcastInDim S1x1x5632 ![2] bcast_S5632_S1x1x5632_2 (shapeCast _ (extractStridedSlice S1x5632 ![0, 0] cw
        slices_S3x5632_S1x5632_0_0) shapeCasts_S1x5632_S5632)))
      (extractStridedSlice S4x4096x5632 ![0, 0, 0] P slices_S4x4098x5632_S4x4096x5632_0_0_0))
    (mulf (broadcastInDim S4x4096x5632 ![0, 1, 2] bcast_S1x1x5632_S4x4096x5632_0_1_2
      (broadcastInDim S1x1x5632 ![2] bcast_S5632_S1x1x5632_2 (shapeCast _ (extractStridedSlice S1x5632 ![1, 0] cw
        slices_S3x5632_S1x5632_1_0) shapeCasts_S1x5632_S5632)))
      (extractStridedSlice S4x4096x5632 ![0, 1, 0] P slices_S4x4098x5632_S4x4096x5632_0_1_0)))
    (mulf (broadcastInDim S4x4096x5632 ![0, 1, 2] bcast_S1x1x5632_S4x4096x5632_0_1_2
      (broadcastInDim S1x1x5632 ![2] bcast_S5632_S1x1x5632_2 (shapeCast _ (extractStridedSlice S1x5632 ![2, 0] cw
        slices_S3x5632_S1x5632_2_0) shapeCasts_S1x5632_S5632)))
      (extractStridedSlice S4x4096x5632 ![0, 2, 0] P slices_S4x4098x5632_S4x4096x5632_0_2_0)))
    (broadcastInDim S4x4096x5632 ![0, 1, 2] bcast_S1x1x5632_S4x4096x5632_0_1_2
      (broadcastInDim S1x1x5632 ![2] bcast_S5632_S1x1x5632_2 cb))

/-- The gated activation. -/
def actT (G : FVec Ideal S4x4096x5632 .f32) (U : FVec Ideal S4x4096x11264 .f32) : FVec Ideal S4x4096x5632 .f32 :=
  mulf (mulf G (mulf (broadcastInDim S4x4096x5632 ![] bcast_S_S4x4096x5632 (constant S_ .f32 0x3F000000#32))
    (addf (broadcastInDim S4x4096x5632 ![] bcast_S_S4x4096x5632 (constant S_ .f32 0x3F800000#32))
      (Host.tanh (mulf (broadcastInDim S4x4096x5632 ![] bcast_S_S4x4096x5632 (constant S_ .f32 0x3F4C422A#32))
        (addf G (mulf (broadcastInDim S4x4096x5632 ![] bcast_S_S4x4096x5632 (constant S_ .f32 0x3D372713#32))
          (mulf (mulf G G) G))))))))
    (extractStridedSlice S4x4096x5632 ![0, 0, 5632] U slices_S4x4096x11264_S4x4096x5632_0_0_5632)

/-- The residual stream after the block. -/
def resT (X : FVec Ideal S4x4096x2048 .f32) (A : FVec Ideal S4x4096x5632 .f32) (Wd : FVec Ideal S5632x2048 .f32) :
    FVec Ideal S4x4096x2048 .f32 :=
  addf X (Host.dotGeneral dot_S4x4096x5632_S5632x2048_S4x4096x2048_2_0_01_1_n_n none A Wd)

theorem nrmT_at (X : FVec Ideal S4x4096x2048 .f32) (g : FVec Ideal S2048 .f32) (b : Fin 4) (s : Fin 4096)
    (k : Fin 2048) :
    nrmT X g (ix3 b s k) = FfnSpec.rms (fun l => X (ix3 b s l)) (fun l => g (ix1 l)) k := by
  pointwise [nrmT, FfnSpec.rms]

theorem upT_at (X : FVec Ideal S4x4096x2048 .f32) (g : FVec Ideal S2048 .f32) (W : FVec Ideal S2048x11264 .f32)
    (b : Fin 4) (s : Fin 4096) (j : Fin 11264) :
    upT (nrmT X g) W (ix3 b s j)
      = FfnSpec.up (fun b s l => X (ix3 b s l)) (fun l => g (ix1 l)) (fun k l => W (ix2 k l)) b s j := by
  pointwise [upT, FfnSpec.up]
  exact Finset.sum_congr rfl fun k _ => congrArg (· * _) (nrmT_at X g b s k)

theorem padT_at (X : FVec Ideal S4x4096x2048 .f32) (g : FVec Ideal S2048 .f32) (W : FVec Ideal S2048x11264 .f32)
    (b : Fin 4) (s : Fin 4098) (j : Fin 5632) :
    padT (upT (nrmT X g) W) (ix3 b s j)
      = FfnSpec.tap (fun b s l => X (ix3 b s l)) (fun l => g (ix1 l)) (fun k l => W (ix2 k l)) b s.val
          ⟨j.val, by omega⟩ := by
  pointwise [padT, FfnSpec.tap]
  by_cases h : 1 ≤ (s : ℕ) ∧ (s : ℕ) - 1 < 4096
  · rw [dif_pos h, dif_pos h]
    exact upT_at X g W b _ _
  · rw [dif_neg h, dif_neg h]
    show (((0#32 : BitVec 32).toInt : ℝ) : EReal) = 0
    simp

theorem gateT_at (P : FVec Ideal S4x4098x5632 .f32) (cw : FVec Ideal S3x5632 .f32) (cb : FVec Ideal S5632 .f32)
    (b : Fin 4) (s : Fin 4096) (j : Fin 5632) :
    gateT P cw cb (ix3 b s j) = cw (ix2 0 j) * P (ix3 b ⟨s.val, by omega⟩ j)
      + cw (ix2 1 j) * P (ix3 b ⟨1 + s.val, by omega⟩ j) + cw (ix2 2 j) * P (ix3 b ⟨2 + s.val, by omega⟩ j)
      + cb (ix1 j) := by
  pointwise [gateT]

theorem actT_at (G : FVec Ideal S4x4096x5632 .f32) (U : FVec Ideal S4x4096x11264 .f32)
    (b : Fin 4) (s : Fin 4096) (j : Fin 5632) :
    actT G U (ix3 b s j) = FfnSpec.gelu (G (ix3 b s j)) * U (ix3 b s ⟨5632 + j.val, by omega⟩) := by
  pointwise [actT, FfnSpec.gelu]

variable (m : (ℓ : Loc nD τ sig) → Buf (Elt Ideal) ℓ)

/-- The composed term is the layers, one over the other. -/
theorem layers (X : FVec Ideal S4x4096x2048 .f32) (g : FVec Ideal S2048 .f32) (W : FVec Ideal S2048x11264 .f32)
    (cw : FVec Ideal S3x5632 .f32) (cb : FVec Ideal S5632 .f32) (Wd : FVec Ideal S5632x2048 .f32)
    (gf : FVec Ideal S2048 .f32) (c : Dev nD)
    (h0 : m ((c.tc : Thread nD τ).loc main_arg0) = X) (h1 : m ((c.tc : Thread nD τ).loc main_arg1) = g)
    (h2 : m ((c.tc : Thread nD τ).loc main_arg2) = W) (h3 : m ((c.tc : Thread nD τ).loc main_arg3) = cw)
    (h4 : m ((c.tc : Thread nD τ).loc main_arg4) = cb) (h5 : m ((c.tc : Thread nD τ).loc main_arg5) = Wd)
    (h6 : m ((c.tc : Thread nD τ).loc main_arg6) = gf) :
    res_out0 m c = shapeCast S16384x2048 (nrmT (resT X (actT (gateT (padT (upT (nrmT X g) W)) cw cb)
      (upT (nrmT X g) W)) Wd) gf) shapeCasts_S4x4096x2048_S16384x2048 := by
  subst h0 h1 h2 h3 h4 h5 h6
  rfl

/-- The reference's result at row `r`, column `l`. -/
theorem result_at (X : FVec Ideal S4x4096x2048 .f32) (g : FVec Ideal S2048 .f32) (W : FVec Ideal S2048x11264 .f32)
    (cw : FVec Ideal S3x5632 .f32) (cb : FVec Ideal S5632 .f32) (Wd : FVec Ideal S5632x2048 .f32)
    (gf : FVec Ideal S2048 .f32) (r : Fin 16384) (l : Fin 2048) :
    shapeCast S16384x2048 (nrmT (resT X (actT (gateT (padT (upT (nrmT X g) W)) cw cb)
      (upT (nrmT X g) W)) Wd) gf) shapeCasts_S4x4096x2048_S16384x2048 (ix2 r l)
      = FfnSpec.out (fun b s l => X (ix3 b s l)) (fun l => g (ix1 l)) (fun k l => W (ix2 k l))
          (fun d j => cw (ix2 d j)) (fun j => cb (ix1 j)) (fun j l => Wd (ix2 j l)) (fun l => gf (ix1 l))
          ⟨r.val / 4096, by omega⟩ ⟨r.val % 4096, by omega⟩ l := by
  have hres : ∀ (b : Fin 4) (s : Fin 4096) (l : Fin 2048),
      resT X (actT (gateT (padT (upT (nrmT X g) W)) cw cb) (upT (nrmT X g) W)) Wd (ix3 b s l)
        = FfnSpec.res (fun b s l => X (ix3 b s l)) (fun l => g (ix1 l)) (fun k l => W (ix2 k l))
          (fun d j => cw (ix2 d j)) (fun j => cb (ix1 j)) (fun j l => Wd (ix2 j l)) b s l := by
    intro b s l
    pointwise [resT, FfnSpec.res]
    refine congrArg (_ + ·) (Finset.sum_congr rfl fun j _ => congrArg (· * _) ?_)
    refine (actT_at _ _ b s j).trans ?_
    rw [gateT_at, padT_at, padT_at, padT_at, upT_at]
    rfl
  pointwise
  refine (nrmT_at _ gf _ _ l).trans ?_
  simp only [hres]
  rfl

end Cert.FfnRefIdeal.Value
-- ==== Proof.FfnKernel.lean ====
module

public import proofs.«01_k».proof.Proof.FfnBlocks
public import proofs.«01_k».proof.Proof.FfnPay
public import proofs.«01_k».proof.Proof.FfnRef
public import Idealize.ShloMosaic.Lib.Pipeline.ReadBack

@[expose] public section

set_option maxRecDepth 16384

/-! The feed-forward kernel's result: what the scratch and the accumulator hold after every point, and the array the
    last points leave. -/

noncomputable section
open Idealize.ShloMosaic Idealize.ShloMosaic.TcCoe Idealize.SL.Sem
open Idealize.ShloMosaic.Pipeline (Dat)
namespace Cert.FfnIdeal.Value
open Cert.FfnIdeal Cert.FfnIdeal.Gen
variable (m : (ℓ : Loc nD τ sig) → Buf (Elt Ideal) ℓ)

/-- Three blocks of rows stacked. -/
def stack (P : Vec Ideal S16x2048 .bf16) (Q : Vec Ideal S1024x2048 .bf16) (R : Vec Ideal S16x2048 .bf16) :
    Vec Ideal S1056x2048 .bf16 := fun y =>
  if h : (y 0).val < 16 then P (ix2 ⟨(y 0).val, h⟩ (y 1))
  else if h' : (y 0).val < 1040 then Q (ix2 ⟨(y 0).val - 16, by omega⟩ (y 1))
  else R (ix2 ⟨(y 0).val - 1040, by have := (y 0).isLt; simp at this; omega⟩ (y 1))

/-- The scratch after a point that opens a block of rows. -/
theorem scratch_A (c : Dev nD) (t : Fin cfg0.N) (h0 : t.val % 11 = 0) (h1 : ¬t.val % 11 = 10) :
    ((outsAt0 m c t.val t.isLt).2 : Vec Ideal S1056x2048 .bf16)
      = stack (k0_pay8 (k0_pay3 (iblk m c 3 t)) (k0_pay4 (BitVec.ofNat 32 (grid0.coords t 0).val)) (k0_pay6 (iblk m c 1 t)) (k0_pay7 (iblk m c 1 t)))
          (k0_pay9 (k0_pay3 (iblk m c 3 t)) (iblk m c 0 t))
          (k0_pay12 (k0_pay10 (k0_pay3 (iblk m c 3 t)) (iblk m c 2 t)) (k0_pay11 (k0_pay5 (BitVec.ofNat 32 (grid0.coords t 0).val)))) := by
  rw [outsAt0_A m c t h0 h1]
  frame_out
  clear h0 h1
  funext y
  have y0_lt : (y 0).val < 1056 := (y 0).isLt
  have y1_lt : (y 1).val < 2048 := (y 1).isLt
  canon_tiles x h using (by
    by_cases a : (y 0).val < 16
    · refine ⟨_, List.mem_cons_of_mem _ (List.mem_cons_of_mem _ List.mem_cons_self), ?_⟩
      simp only [Rect.mem_set_unit]
      refine Fin.forall_fin_two.mpr ⟨⟨?_, ?_⟩, ?_, ?_⟩ <;> simp <;> omega
    · by_cases b : (y 0).val < 1040
      · refine ⟨_, List.mem_cons_of_mem _ List.mem_cons_self, ?_⟩
        simp only [Rect.mem_set_unit]
        refine Fin.forall_fin_two.mpr ⟨⟨?_, ?_⟩, ?_, ?_⟩ <;> simp <;> omega
      · refine ⟨_, List.mem_cons_self, ?_⟩
        simp only [Rect.mem_set_unit]
        refine Fin.forall_fin_two.mpr ⟨⟨?_, ?_⟩, ?_, ?_⟩ <;> simp <;> omega)
  all_goals unfold stack
  · rw [dif_neg (by omega), dif_neg (by omega)]
    refine congrArg _ (funext (Fin.forall_fin_two.mpr ⟨Fin.ext ?_, Fin.ext ?_⟩)) <;> simp <;> omega
  · rw [dif_neg (by omega), dif_pos (by omega)]
    refine congrArg _ (funext (Fin.forall_fin_two.mpr ⟨Fin.ext ?_, Fin.ext ?_⟩)) <;> simp <;> omega
  · rw [dif_pos (by omega)]
    refine congrArg _ (funext (Fin.forall_fin_two.mpr ⟨Fin.ext ?_, Fin.ext ?_⟩)) <;> simp <;> omega

/-- The block of rows of a point. -/
abbrev rows (c : Dev nD) (t : Fin cfg0.N) : FVec Ideal S1024x2048 .f32 := iblk m c 0 t

theorem step_A (c : Dev nD) (t : Fin cfg0.N) (h0 : t.val % 11 = 0) (h1 : ¬t.val % 11 = 10) (q : Fin 1024) (l : Fin 2048) :
    ((outsAt0 m c t.val t.isLt).1 : Vec Ideal S1024x2048 .f32) (ix2 q l)
      = rows m c t (ix2 q l)
        + part (outsAt0 m c t.val t.isLt).2 (iblk m c 4 t) (iblk m c 5 t) (iblk m c 6 t) (iblk m c 7 t) (iblk m c 8 t) q l := by
  rw [outsAt0_A m c t h0 h1]
  frame_out
  rw [View.readCov_eq_canon', View.readCov_eq_canon']
  generalize View.canon (Val := Elt Ideal) _ = S
  have e : (fun j => S ((Rect.unit ![0, 0] ![1056, 2048] inb_S1056x2048_S1056x2048_0_0).toLoadRect.idx j)) = S := by
    funext j
    idx_vars j
    pointwise
  rw [e]
  refine (pay1_at S _ (fun q k => ?_) _ _ _ _ _ _ q l).trans (congrArg (· + _) ?_)
  · pointwise
  · pointwise [k0_pay13]

theorem step_B (c : Dev nD) (t : Fin cfg0.N) (h0 : ¬t.val % 11 = 0) (h1 : ¬t.val % 11 = 10) (q : Fin 1024) (l : Fin 2048) :
    ((outsAt0 m c t.val t.isLt).1 : Vec Ideal S1024x2048 .f32) (ix2 q l)
      = ((outsAt0 m c (t.val - 1) (Nat.lt_of_le_of_lt (Nat.sub_le _ _) t.isLt)).1 : Vec Ideal S1024x2048 .f32) (ix2 q l)
        + part (outsAt0 m c (t.val - 1) (Nat.lt_of_le_of_lt (Nat.sub_le _ _) t.isLt)).2 (iblk m c 4 t) (iblk m c 5 t) (iblk m c 6 t) (iblk m c 7 t) (iblk m c 8 t) q l := by
  rw [outsAt0_B m c t h0 h1]
  frame_out
  rw [read_unread_whole]
  refine pay1_at _ _ (fun q k => ?_) _ _ _ _ _ _ q l
  pointwise

theorem scratch_B (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]
  rfl

theorem step_C (c : Dev nD) (t : Fin cfg0.N) (h0 : ¬t.val % 11 = 0) (h1 : t.val % 11 = 10) (q : Fin 1024) (l : Fin 2048) :
    ((outsAt0 m c t.val t.isLt).1 : Vec Ideal S1024x2048 .f32) (ix2 q l)
      = FfnSpec.rms (fun l => ((outsAt0 m c (t.val - 1) (Nat.lt_of_le_of_lt (Nat.sub_le _ _) t.isLt)).1 : Vec Ideal S1024x2048 .f32) (ix2 q l)
        + part (outsAt0 m c (t.val - 1) (Nat.lt_of_le_of_lt (Nat.sub_le _ _) t.isLt)).2 (iblk m c 4 t) (iblk m c 5 t) (iblk m c 6 t) (iblk m c 7 t) (iblk m c 8 t) q l)
        (fun l => (iblk m c 9 t : Vec Ideal S1x2048 .f32) (ix2 0 l)) l := by
  rw [outsAt0_C m c t h0 h1]
  frame_out
  rw [read_unread_whole]
  refine (pay2_at _ _ q l).trans ?_
  refine congrArg (fun v => FfnSpec.rms v _ l) (funext fun l => ?_)
  refine pay1_at _ _ (fun q k => ?_) _ _ _ _ _ _ q l
  pointwise

theorem scratch_C (c : Dev nD) (t : Fin cfg0.N) (h0 : ¬t.val % 11 = 0) (h1 : t.val % 11 = 10) :
    (outsAt0 m c t.val t.isLt).2 = (outsAt0 m c (t.val - 1) (Nat.lt_of_le_of_lt (Nat.sub_le _ _) t.isLt)).2 := by
  rw [outsAt0_C m c t h0 h1]
  rfl

/-- The arguments as plain functions. -/
abbrev fX (c : Dev nD) (b : Fin 4) (s : Fin 4096) (l : Fin 2048) : EReal := argX m c (ix3 b s l)
abbrev fG (c : Dev nD) (l : Fin 2048) : EReal := argG m c (ix1 l)
abbrev fW (c : Dev nD) (k : Fin 2048) (j : Fin 11264) : EReal := argW m c (ix2 k j)
abbrev fCw (c : Dev nD) (d : Fin 3) (j : Fin 5632) : EReal := argCw m c (ix2 d j)
abbrev fCb (c : Dev nD) (j : Fin 5632) : EReal := argCb m c (ix1 j)
abbrev fWd (c : Dev nD) (j : Fin 5632) (l : Fin 2048) : EReal := argWd m c (ix2 j l)
abbrev fGf (c : Dev nD) (l : Fin 2048) : EReal := argGf m c (ix1 l)

/-- The normalised rows the scratch holds for block `r` of sequence `b`: row `p` is the sequence's row
    `1024 r + p - 16`, zero outside the sequence. -/
def scr (c : Dev nD) (b r : Fin 4) (p : ℕ) (k : Fin 2048) : EReal :=
  if h : 1 ≤ r.val * 1024 + p - 15 ∧ r.val * 1024 + p - 15 - 1 < 4096 then
    FfnSpec.rms (fX m c b ⟨r.val * 1024 + p - 15 - 1, h.2⟩) (fG m c) k else 0

theorem sum_scr (c : Dev nD) (b r : Fin 4) (p s : ℕ) (hs : s = r.val * 1024 + p - 15) (j : Fin 11264) :
    ∑ k : Fin 2048, scr m c b r p k * fW m c k j = FfnSpec.tap (fX m c) (fG m c) (fW m c) b s j := by
  subst hs
  unfold FfnSpec.tap FfnSpec.up scr
  by_cases h : 1 ≤ r.val * 1024 + p - 15 ∧ r.val * 1024 + p - 15 - 1 < 4096
  · simp only [dif_pos h]
  · simp only [dif_neg h, zero_mul, Finset.sum_const_zero]

/-- The scratch, where the taps read it. -/
def Holds (c : Dev nD) (b r : Fin 4) (S : Vec Ideal S1056x2048 .bf16) : Prop :=
  ∀ (p : Fin 1056) (k : Fin 2048), 15 ≤ p.val → p.val ≤ 1040 → S (ix2 p k) = scr m c b r p.val k

theorem coord (t : Fin cfg0.N) : (grid0.coords t 0).val = t.val / 11 :=
  (by decide +kernel : ∀ t : Fin grid0.N, (grid0.coords t 0).val = t.val / 11) t

theorem holds_A (c : Dev nD) (t : Fin cfg0.N) (b r : Fin 4) (hb : t.val / 11 = 4 * b.val + r.val)
    (h0 : t.val % 11 = 0) (h1 : ¬t.val % 11 = 10) : Holds m c b r (outsAt0 m c t.val t.isLt).2 := by
  intro p k hp hp'
  have ec : (grid0.coords t 0).val = (⟨4 * b.val + r.val, by omega⟩ : Fin 16).val := (coord t).trans hb
  have e3 : (fun l : Fin 2048 => (iblk m c 3 t : FVec Ideal S1x2048 .f32) (ix2 0 l)) = fG m c := funext fun l => blk3 m c t l
  rw [scratch_A m c t h0 h1, ec]
  unfold stack scr
  by_cases a : p.val < 16
  · rw [dif_pos (show ((ix2 p k : S1056x2048.Idx) 0).val < 16 from a)]
    refine (pay8_at _ _ _ _ _).trans ?_
    rw [keep_prev]
    by_cases hr : r.val = 0
    · rw [if_pos (by simp; omega), mul_zero, dif_neg (by omega)]
    · rw [if_neg (by simp; omega), mul_one, dif_pos (by omega)]
      exact congrArg₂ (fun v w => FfnSpec.rms v w k)
        (funext fun l => blk1 m c t _ l b ⟨_, _⟩ (by simp; omega) (by omega)) e3
  · rw [dif_neg (show ¬((ix2 p k : S1056x2048.Idx) 0).val < 16 from a)]
    by_cases a' : p.val < 1040
    · rw [dif_pos (show ((ix2 p k : S1056x2048.Idx) 0).val < 1040 from a'), dif_pos (by omega)]
      refine (pay9_at _ _ _ _).trans ?_
      exact congrArg₂ (fun v w => FfnSpec.rms v w k)
        (funext fun l => blk0 m c t _ l b ⟨_, _⟩ (by simp; omega)) e3
    · rw [dif_neg (show ¬((ix2 p k : S1056x2048.Idx) 0).val < 1040 from a')]
      refine (pay12_at _ _ _ _ _).trans ?_
      rw [keep_next]
      by_cases hr : r.val = 3
      · rw [if_pos (by simp; omega), mul_zero, dif_neg (by omega)]
      · rw [if_neg (by simp; omega), mul_one, dif_pos (by omega)]
        exact congrArg₂ (fun v w => FfnSpec.rms v w k)
          (funext fun l => blk2 m c t _ l b ⟨_, _⟩ (by simp; omega)) e3

/-- Feature `j` of the point's block of features. -/
def feat (f : ℕ) (hf : f < 11) (j : Fin 512) : Fin 5632 := ⟨f * 512 + j.val, by omega⟩

/-- One block of features' part of the down projection. -/
def blockSum (c : Dev nD) (b : Fin 4) (s : Fin 4096) (l : Fin 2048) (f : Fin 11) : EReal :=
  ∑ j : Fin 512, FfnSpec.act (fX m c) (fG m c) (fW m c) (fCw m c) (fCb m c) b s (feat f.val f.isLt j)
    * fWd m c (feat f.val f.isLt j) l

theorem part_eq (c : Dev nD) (t : Fin cfg0.N) (b r : Fin 4) (f : Fin 11) (hf : t.val % 11 = f.val)
    (S : Vec Ideal S1056x2048 .bf16) (hS : Holds m c b r S) (q : Fin 1024) (l : Fin 2048) (s : Fin 4096)
    (hs : s.val = r.val * 1024 + q.val) :
    part S (iblk m c 4 t) (iblk m c 5 t) (iblk m c 6 t) (iblk m c 7 t) (iblk m c 8 t) q l
      = blockSum m c b s l f := by
  unfold part blockSum FfnSpec.act
  refine Finset.sum_congr rfl fun j _ => Ideal.mul_congr (Ideal.mul_congr (congrArg FfnSpec.gelu ?_) ?_) ?_
  · rw [pay14_at]
    unfold FfnSpec.gate
    have g (d : Fin 3) (s' : ℕ) (hs' : s' = d.val + s.val) (p : Fin 1056) (hp : p.val = 15 + d.val + q.val) :
        (iblk m c 6 t : FVec Ideal S3x512 .f32) (ix2 d j) = fCw m c d (feat f.val f.isLt j)
        ∧ (∑ k : Fin 2048, S (ix2 p k) * (iblk m c 4 t : FVec Ideal S2048x512 .bf16) (ix2 k j))
          = FfnSpec.tap (fX m c) (fG m c) (fW m c) b s' ⟨(feat f.val f.isLt j).val, by omega⟩ := by
      refine ⟨blk6 m c t d j _ (by simp [feat, hf]), ?_⟩
      rw [← sum_scr m c b r p.val s' (by omega)]
      exact Finset.sum_congr rfl fun k _ => Ideal.mul_congr (hS p k (by omega) (by omega))
        (blk4 m c t k j _ (by simp [feat, hf]))
    have g0 := g 0 s.val (by simp) ⟨15 + q.val, by omega⟩ (by simp)
    have g1 := g 1 (1 + s.val) (by simp) ⟨16 + q.val, by omega⟩ (by simp)
    have g2 := g 2 (2 + s.val) (by simp) ⟨17 + q.val, by omega⟩ (by simp)
    exact Ideal.add_congr (Ideal.add_congr (Ideal.add_congr (Ideal.mul_congr g0.1 g0.2) (Ideal.mul_congr g1.1 g1.2))
      (Ideal.mul_congr g2.1 g2.2)) (blk7 m c t j _ (by simp [feat, hf]))
  · unfold FfnSpec.up
    refine Finset.sum_congr rfl fun k _ => Ideal.mul_congr ?_ (blk5 m c t k j _ (by simp [feat, hf]))
    rw [hS _ k (by simp; omega) (by simp; omega)]
    unfold scr
    rw [dif_pos (by simp; omega)]
    refine congrArg (fun s => FfnSpec.rms (fX m c b s) _ k) (Fin.ext ?_)
    simp; omega
  · exact blk8 m c t j l _ (by simp [feat, hf])

/-- What the scratch and the accumulator hold after point `11 i + f`, for `i = 4 b + r`. -/
theorem inv (c : Dev nD) (b r : Fin 4) : ∀ (f : ℕ) (hf : f < 11) (hn : 11 * (4 * b.val + r.val) + f < cfg0.N),
    Holds m c b r (outsAt0 m c (11 * (4 * b.val + r.val) + f) hn).2
    ∧ (f ≠ 10 → ∀ (q : Fin 1024) (l : Fin 2048) (s : Fin 4096), s.val = r.val * 1024 + q.val →
        ((outsAt0 m c (11 * (4 * b.val + r.val) + f) hn).1 : Vec Ideal S1024x2048 .f32) (ix2 q l)
          = fX m c b s l + ∑ f' : Fin (f + 1), blockSum m c b s l ⟨f'.val, by omega⟩)
    ∧ (f = 10 → ∀ (q : Fin 1024) (l : Fin 2048) (s : Fin 4096), s.val = r.val * 1024 + q.val →
        ((outsAt0 m c (11 * (4 * b.val + r.val) + f) hn).1 : Vec Ideal S1024x2048 .f32) (ix2 q l)
          = FfnSpec.rms (fun l => fX m c b s l + ∑ f' : Fin 11, blockSum m c b s l f') (fGf m c) l) := by
  intro f
  induction f with
  | zero =>
    intro hf hn
    set t : Fin cfg0.N := ⟨11 * (4 * b.val + r.val) + 0, hn⟩ with ht
    have hb : t.val / 11 = 4 * b.val + r.val := by simp [ht]
    have h0 : t.val % 11 = 0 := by simp [ht]
    have hA := holds_A m c t b r hb h0 (by omega)
    refine ⟨hA, fun _ q l s hs => ?_, fun h => absurd h (by decide)⟩
    rw [Fin.sum_univ_one]
    refine (step_A m c t h0 (by omega) q l).trans (Ideal.add_congr (blk0 m c t q l b s (by omega)) ?_)
    exact part_eq m c t b r 0 h0 _ hA q l s hs
  | succ f ih =>
    intro hf hn
    obtain ⟨ihS, ihO, -⟩ := ih (by omega) (by omega)
    set t : Fin cfg0.N := ⟨11 * (4 * b.val + r.val) + (f + 1), hn⟩ with ht
    have hb : t.val / 11 = 4 * b.val + r.val := by simp [ht]; omega
    have h0 : t.val % 11 = f + 1 := by simp [ht]; omega
    by_cases h1 : f + 1 = 10
    · refine ⟨?_, fun h => absurd h1 h, fun _ q l s hs => ?_⟩
      · rw [show outsAt0 m c (11 * (4 * b.val + r.val) + (f + 1)) hn = outsAt0 m c t.val t.isLt from rfl,
          scratch_C m c t (by omega) (by omega)]
        exact ihS
      · refine (step_C m c t (by omega) (by omega) q l).trans ?_
        refine congrArg₂ (fun v w => FfnSpec.rms v w l) (funext fun l => ?_) (funext fun l => blk9 m c t l)
        rw [Fin.sum_univ_castSucc, ← add_assoc]
        refine Ideal.add_congr ?_ (part_eq m c t b r (Fin.last 10) (by simp; omega) _ ihS q l s hs)
        obtain rfl : f = 9 := by omega
        exact ihO (by omega) q l s hs
    · refine ⟨?_, fun _ q l s hs => ?_, fun h => absurd h h1⟩
      · rw [show outsAt0 m c (11 * (4 * b.val + r.val) + (f + 1)) hn = outsAt0 m c t.val t.isLt from rfl,
          scratch_B m c t (by omega) (by omega)]
        exact ihS
      · refine (step_B m c t (by omega) (by omega) q l).trans ?_
        rw [Fin.sum_univ_castSucc, ← add_assoc]
        exact Ideal.add_congr (ihO (by omega) q l s hs)
          (part_eq m c t b r ⟨f + 1, hf⟩ h0 _ ihS q l s hs)

theorem sum_blocks (c : Dev nD) (b : Fin 4) (s : Fin 4096) (l : Fin 2048) :
    ∑ f : Fin 11, blockSum m c b s l f
      = ∑ j : Fin 5632, FfnSpec.act (fX m c) (fG m c) (fW m c) (fCw m c) (fCb m c) b s j * fWd m c j l := by
  unfold blockSum
  exact Fin.sum_mul_add_congr fun f j h => rfl

/-- The array the kernel leaves. -/
def target (c : Dev nD) : FVec Ideal S16384x2048 .f32 := fun y =>
  FfnSpec.out (fX m c) (fG m c) (fW m c) (fCw m c) (fCb m c) (fWd m c) (fGf m c)
    ⟨(y 0).val / 4096, by have := (y 0).isLt; simp at this; omega⟩ ⟨(y 0).val % 4096, by omega⟩ (y 1)

/-- The block a last point leaves is its part of the target. -/
theorem flushed (c : Dev nD) (t : Fin cfg0.N) (h10 : t.val % 11 = 10) (ht : t.val < 176) (y : S1024x2048.Idx) (Y : S16384x2048.Idx)
    (e0 : (Y 0).val = t.val / 11 * 1024 + (y 0).val) (e1 : (Y 1).val = (y 1).val) :
    ((outsAt0 m c t.val t.isLt).1 : Vec Ideal S1024x2048 .f32) y = target m c Y := by
  have l0 : (y 0).val < 1024 := (y 0).isLt
  obtain ⟨n, hn⟩ := t
  simp only at h10 ht e0
  obtain ⟨b, hb⟩ : ∃ b : Fin 4, b.val = n / 44 := ⟨⟨n / 44, by omega⟩, rfl⟩
  obtain ⟨r, hr⟩ : ∃ r : Fin 4, r.val = n / 11 % 4 := ⟨⟨n / 11 % 4, by omega⟩, rfl⟩
  have hq : n = 11 * (4 * b.val + r.val) + 10 := by omega
  clear hb hr
  subst hq
  rw [show y = ix2 (y 0) (y 1) from funext (Fin.forall_fin_two.mpr ⟨rfl, rfl⟩)]
  refine ((inv m c b r 10 (by omega) hn).2.2 rfl (y 0) (y 1) ⟨r.val * 1024 + (y 0).val, by omega⟩ rfl).trans ?_
  unfold target FfnSpec.out FfnSpec.res
  simp only [sum_blocks]
  have i1 : (⟨(Y 0).val / 4096, by have := (Y 0).isLt; simp at this; omega⟩ : Fin 4) = b := Fin.ext (by simp [e0]; omega)
  have i2 : (⟨(Y 0).val % 4096, by omega⟩ : Fin 4096) = ⟨r.val * 1024 + (y 0).val, by omega⟩ := Fin.ext (by simp [e0]; omega)
  have i3 : Y 1 = y 1 := Fin.ext e1
  rw [i1, i2, i3]

theorem final (c : Dev nD) : (dats m 0 c).arrAt 10 cfg0.N = target m c := by
  refine (dats m 0 c).arrAt_eq_of_covers 10 _ (by decide +kernel) fun t hf y => ?_
  blk_simp [idx t]
  rw [after0_10]
  have h10 : t.val % 11 = 10 := (flush0_10 t).mp hf
  have ht : t.val < 176 := (idx t).2.2.2.2.2.2.2.2.2.2.2
  generalize hY : (win0_10.blk t).view.emb y = Y
  have e0 : (Y 0).val = t.val / 11 * 1024 + (y 0).val := by
    rw [← hY]; blk_simp [idx t]
  have e1 : (Y 1).val = (y 1).val := by
    rw [← hY]; blk_simp [idx t]
  exact flushed m c t h10 ht y Y e0 e1

/-- The kernel's array is the reference's result. -/
theorem matches_reference (m' : (ℓ : Loc Cert.FfnRefIdeal.nD Cert.FfnRefIdeal.τ Cert.FfnRefIdeal.sig) → Buf (Elt Ideal) ℓ) (c : Dev nD)
    (h0 : m' ((c.tc : Thread Cert.FfnRefIdeal.nD Cert.FfnRefIdeal.τ).loc Cert.FfnRefIdeal.main_arg0) = argX m c)
    (h1 : m' ((c.tc : Thread Cert.FfnRefIdeal.nD Cert.FfnRefIdeal.τ).loc Cert.FfnRefIdeal.main_arg1) = argG m c)
    (h2 : m' ((c.tc : Thread Cert.FfnRefIdeal.nD Cert.FfnRefIdeal.τ).loc Cert.FfnRefIdeal.main_arg2) = argW m c)
    (h3 : m' ((c.tc : Thread Cert.FfnRefIdeal.nD Cert.FfnRefIdeal.τ).loc Cert.FfnRefIdeal.main_arg3) = argCw m c)
    (h4 : m' ((c.tc : Thread Cert.FfnRefIdeal.nD Cert.FfnRefIdeal.τ).loc Cert.FfnRefIdeal.main_arg4) = argCb m c)
    (h5 : m' ((c.tc : Thread Cert.FfnRefIdeal.nD Cert.FfnRefIdeal.τ).loc Cert.FfnRefIdeal.main_arg5) = argWd m c)
    (h6 : m' ((c.tc : Thread Cert.FfnRefIdeal.nD Cert.FfnRefIdeal.τ).loc Cert.FfnRefIdeal.main_arg6) = argGf m c) :
    (dats m 0 c).arrAt 10 cfg0.N = Cert.FfnRefIdeal.Value.res_out0 m' c := by
  rw [final m c, Cert.FfnRefIdeal.Value.layers m' _ _ _ _ _ _ _ c h0 h1 h2 h3 h4 h5 h6]
  funext y
  rw [show y = ix2 (y 0) (y 1) from funext (Fin.forall_fin_two.mpr ⟨rfl, rfl⟩)]
  exact (Cert.FfnRefIdeal.Value.result_at _ _ _ _ _ _ _ (y 0) (y 1)).symm
end Cert.FfnIdeal.Value
-- ==== Proof.FfnClaim.lean ====
module

public import proofs.«01_k».proof.Defs
public import proofs.«01_k».proof.Proof.FfnKernel
public import Idealize.ShloMosaic.Lib.Claim

@[expose] public section

set_option maxRecDepth 16384

/-! The feed-forward kernel's value claim. -/

noncomputable section
open Idealize.ShloMosaic Idealize.ShloMosaic.TcCoe Idealize.SL.Sem
namespace Cert.FfnIdeal.Value
attribute [local instance] Cert.FfnIdeal.Gen.facts Cert.FfnRefIdeal.Gen.facts

theorem algebraic : Cert.algebraic_FfnIdeal_FfnRefIdeal := by
  pair_intro
  · run_from Cert.FfnIdeal.Gen.run_main m g
  · run_from Cert.FfnRefIdeal.Value.run m' g'
    obtain ⟨a0, a1, a2, a3, a4, a5, a6⟩ := hagree c
    exact (matches_reference m m' c a0 a1 a2 a3 a4 a5 a6).symm
end Cert.FfnIdeal.Value
-- ==== Proof.OutPKernel.lean ====
module

public import proofs.«01_k».proof.Proof.Gen.OutPIdeal.Frame
public import proofs.«01_k».proof.Proof.Gen.OutPRefIdeal.Run
public import Idealize.ShloMosaic.Lib.Pipeline.ValueKit
public import Idealize.ShloMosaic.Lib.Pointwise
public import Idealize.ShloMosaic.Lib.Claim

@[expose] public section

set_option maxRecDepth 16384

/-! The output projection: the array the kernel leaves is the residual stream plus the two halves' product with
    the weights, which is the reference's product over the concatenated halves. -/

noncomputable section
open Idealize.ShloMosaic Idealize.ShloMosaic.TcCoe Idealize.SL.Sem
open Idealize.ShloMosaic.Pipeline (Dat)
namespace Cert.OutPIdeal.Value
open Cert.OutPIdeal Cert.OutPIdeal.Gen
variable (m : (ℓ : Loc nD τ sig) → Buf (Elt Ideal) ℓ)

/-- The index maps of the windows, in the point's number. -/
theorem idx : ∀ t : Fin cfg0.N,
    win0_0.index t = ![t.val, 0] ∧ win0_1.index t = ![t.val, 0] ∧ win0_2.index t = ![0, 0]
    ∧ win0_3.index t = ![t.val, 0] ∧ win0_4.index t = ![t.val, 0] ∧ t.val < 32 :=
  (by decide +kernel : ∀ t : Fin grid0.N, _)

/-- The first half of the attention's output. -/
abbrev argA (c : Dev nD) : FVec Ideal S16384x1024 .bf16 := m ((c : Thread nD τ).loc main_arg0)
/-- The second half. -/
abbrev argB (c : Dev nD) : FVec Ideal S16384x1024 .bf16 := m ((c : Thread nD τ).loc main_arg1)
/-- The weights. -/
abbrev argW (c : Dev nD) : FVec Ideal S2048x2048 .f32 := m ((c : Thread nD τ).loc main_arg2)
/-- The residual stream. -/
abbrev argH (c : Dev nD) : FVec Ideal S16384x2048 .f32 := m ((c : Thread nD τ).loc main_arg3)

theorem blk0 (c : Dev nD) (t : Fin cfg0.N) (q : Fin 512) (k : Fin 1024) (r : Fin 16384) (h : r.val = t.val * 512 + q.val) :
    (iblk m c 0 t : FVec Ideal S512x1024 .bf16) (ix2 q k) = argA m c (ix2 r k) := by
  blk_ext [iblk, V, idx t]
theorem blk1 (c : Dev nD) (t : Fin cfg0.N) (q : Fin 512) (k : Fin 1024) (r : Fin 16384) (h : r.val = t.val * 512 + q.val) :
    (iblk m c 1 t : FVec Ideal S512x1024 .bf16) (ix2 q k) = argB m c (ix2 r k) := by
  blk_ext [iblk, V, idx t]
theorem blk2 (c : Dev nD) (t : Fin cfg0.N) (k l : Fin 2048) :
    (iblk m c 2 t : FVec Ideal S2048x2048 .bf16) (ix2 k l) = argW m c (ix2 k l) := by
  blk_simp [iblk]
  entry_read
  pointwise
  blk_ext [idx t]
theorem blk3 (c : Dev nD) (t : Fin cfg0.N) (q : Fin 512) (k : Fin 2048) (r : Fin 16384) (h : r.val = t.val * 512 + q.val) :
    (iblk m c 3 t : FVec Ideal S512x2048 .f32) (ix2 q k) = argH m c (ix2 r k) := by
  blk_ext [iblk, V, idx t]

/-- One entry of the output projection. -/
def entry (a b : FVec Ideal S16384x1024 .bf16) (w : FVec Ideal S2048x2048 .f32) (h : FVec Ideal S16384x2048 .f32)
    (r : Fin 16384) (l : Fin 2048) : EReal :=
  h (ix2 r l) + ∑ k : Fin 1024, a (ix2 r k) * w (ix2 ⟨k.val, by omega⟩ l)
    + ∑ k : Fin 1024, b (ix2 r k) * w (ix2 ⟨1024 + k.val, by omega⟩ l)

theorem pay1_at (h : FVec Ideal S512x2048 .f32) (a b : FVec Ideal S512x1024 .bf16) (w w' : FVec Ideal S1024x2048 .bf16)
    (q : Fin 512) (l : Fin 2048) :
    k0_pay1 h a w b w' (ix2 q l) = h (ix2 q l) + ∑ k : Fin 1024, a (ix2 q k) * w (ix2 k l)
      + ∑ k : Fin 1024, b (ix2 q k) * w' (ix2 k l) := by
  pointwise [k0_pay1]

/-- The upper half of the weights. -/
theorem ld_upper (w : Vec Ideal S2048x2048 .bf16) (k : Fin 1024) (l : Fin 2048) :
    (View.ld (Val := Elt Ideal) (e' := .bf16) w r0_2 : Vec Ideal S1024x2048 .bf16) (ix2 k l) = w (ix2 ⟨k.val, by omega⟩ l) := by
  exact View.ld_unit_apply_of _ _ _ _ _ _ (Fin.forall_fin_two.mpr ⟨(Nat.zero_add _).symm, (Nat.zero_add _).symm⟩)
/-- The lower half of the weights. -/
theorem ld_lower (w : Vec Ideal S2048x2048 .bf16) (k : Fin 1024) (l : Fin 2048) :
    (View.ld (Val := Elt Ideal) (e' := .bf16) w r0_3 : Vec Ideal S1024x2048 .bf16) (ix2 k l) = w (ix2 ⟨1024 + k.val, by omega⟩ l) := by
  exact View.ld_unit_apply_of _ _ _ _ _ _ (Fin.forall_fin_two.mpr ⟨rfl, (Nat.zero_add _).symm⟩)

/-- A block of the result, from blocks whose entries are those of whole arrays. -/
theorem out_at (a b : FVec Ideal S512x1024 .bf16) (w : FVec Ideal S2048x2048 .bf16) (h : FVec Ideal S512x2048 .f32)
    (A B : FVec Ideal S16384x1024 .bf16) (W : FVec Ideal S2048x2048 .f32) (H : FVec Ideal S16384x2048 .f32)
    (q : Fin 512) (l : Fin 2048) (r : Fin 16384) (ha : ∀ k, a (ix2 q k) = A (ix2 r k)) (hb : ∀ k, b (ix2 q k) = B (ix2 r k))
    (hw : ∀ k, w (ix2 k l) = W (ix2 k l)) (hh : h (ix2 q l) = H (ix2 r l)) :
    (out0_4 (F := Ideal) a b w h : FVec Ideal S512x2048 .f32) (ix2 q l) = entry A B W H r l := by
  unfold out0_4
  frame_out
  refine (pay1_at _ _ _ _ _ q l).trans ?_
  exact congrArg₂ (· + ·) (congrArg₂ (· + ·) hh (Finset.sum_congr rfl fun k _ =>
      congrArg₂ (· * ·) (ha k) ((ld_upper w k l).trans (hw _))))
    (Finset.sum_congr rfl fun k _ => congrArg₂ (· * ·) (hb k) ((ld_lower w k l).trans (hw _)))

/-- The array the kernel leaves. -/
def target (c : Dev nD) : FVec Ideal S16384x2048 .f32 := fun y =>
  entry (argA m c) (argB m c) (argW m c) (argH m c) (y 0) (y 1)

theorem final (c : Dev nD) : (dats m 0 c).arrAt 4 cfg0.N = target m c := by
  refine (dats m 0 c).arrAt_eq_of_covers 4 _ (by decide +kernel) fun t hf y => ?_
  blk_simp [idx t]
  rw [after0_4]
  generalize hY : (win0_4.blk t).view.emb y = Y
  have e0 : (Y 0).val = t.val * 512 + (y 0).val := by
    rw [← hY]; blk_simp [idx t]
  have e1 : Y 1 = y 1 := Fin.ext (by rw [← hY]; blk_simp [idx t])
  rw [show y = ix2 (y 0) (y 1) from funext (Fin.forall_fin_two.mpr ⟨rfl, rfl⟩)]
  unfold target
  rw [e1]
  exact out_at _ _ _ _ _ _ _ _ (y 0) (y 1) (Y 0) (fun k => blk0 m c t _ k _ e0) (fun k => blk1 m c t _ k _ e0)
    (fun k => blk2 m c t k _) (blk3 m c t _ _ _ e0)

end Cert.OutPIdeal.Value

namespace Cert.OutPRefIdeal.Value
open Cert.OutPRefIdeal Cert.OutPRefIdeal.Facts₀ Cert.OutPRefIdeal.Facts
attribute [local instance] Cert.OutPRefIdeal.Gen.facts

/-- The reference's term. -/
def REF (a b : FVec Ideal S16384x1024 .bf16) (w : FVec Ideal S2048x2048 .f32) (h : FVec Ideal S16384x2048 .f32) :
    FVec Ideal S16384x2048 .f32 :=
  addf h (Host.dotGeneral dot_S16384x2048_S2048x2048_S16384x2048_1_0_0_1_n_n none
    (extf .f32 (concatenate S16384x2048 1 [⟨S16384x1024, a⟩, ⟨S16384x1024, b⟩]
      concatenates_S16384x1024_S16384x1024_S16384x2048_d1) bitsLt_bf16_f32) w)

theorem REF_at (a b : FVec Ideal S16384x1024 .bf16) (w : FVec Ideal S2048x2048 .f32) (h : FVec Ideal S16384x2048 .f32)
    (r : Fin 16384) (l : Fin 2048) : REF a b w h (ix2 r l) = Cert.OutPIdeal.Value.entry a b w h r l := by
  unfold Cert.OutPIdeal.Value.entry REF
  rw [add_assoc]
  pointwise
end Cert.OutPRefIdeal.Value

namespace Cert.OutPIdeal.Value
open Cert.OutPIdeal Cert.OutPIdeal.Gen
attribute [local instance] Cert.OutPRefIdeal.Gen.facts
/-- The kernel's array is the reference's result. -/
theorem matches_reference (m : (ℓ : Loc nD τ sig) → Buf (Elt Ideal) ℓ) (c : Dev nD)
    (a b : FVec Ideal S16384x1024 .bf16) (w : FVec Ideal S2048x2048 .f32) (h : FVec Ideal S16384x2048 .f32)
    (ha : a = argA m c) (hb : b = argB m c) (hw : w = argW m c) (hh : h = argH m c) :
    (dats m 0 c).arrAt 4 cfg0.N = Cert.OutPRefIdeal.Value.REF a b w h := by
  subst ha hb hw hh
  rw [final m c]
  funext y
  rw [show y = ix2 (y 0) (y 1) from funext (Fin.forall_fin_two.mpr ⟨rfl, rfl⟩)]
  exact (Cert.OutPRefIdeal.Value.REF_at _ _ _ _ (y 0) (y 1)).symm
end Cert.OutPIdeal.Value
-- ==== Proof.OutPClaim.lean ====
module

public import proofs.«01_k».proof.Defs
public import proofs.«01_k».proof.Proof.OutPKernel
public import Idealize.ShloMosaic.Lib.Claim

@[expose] public section

set_option maxRecDepth 16384

/-! The output projection's value claim. -/

noncomputable section
open Idealize.ShloMosaic Idealize.ShloMosaic.TcCoe Idealize.SL.Sem
namespace Cert.OutPIdeal.Value
attribute [local instance] Cert.OutPIdeal.Gen.facts Cert.OutPRefIdeal.Gen.facts

theorem algebraic : Cert.algebraic_OutPIdeal_OutPRefIdeal := by
  pair_intro
  · run_from Cert.OutPIdeal.Gen.run_main m g
  · run_from Cert.OutPRefIdeal.Value.run m' g'
    exact (matches_reference m c _ _ _ _ rfl rfl rfl rfl).symm
end Cert.OutPIdeal.Value
-- ==== Proof.EvenPIdealConds.lean ====
module

public import proofs.«01_k».proof.Proof.Gen.EvenPIdeal.Frame

@[expose] public section

set_option maxRecDepth 16384

/-! The branch conditions of the even projection's body, in the point's number. -/

noncomputable section

namespace Cert.EvenPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- Branch condition 0: the tile is the first of its row. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)
/-- Branch condition 1: the tile belongs to the first three. -/
abbrev cond0_1 (i : grid0.Coords) : Prop := (k0_cond2 i) = 1#1
theorem hcond0_1 : ∀ t : Fin cfg0.N, cond0_1 (grid0.coords t) ↔ t.val % 12 < 3 :=
  (by decide +kernel : ∀ t : Fin grid0.N, cond0_1 (grid0.coords t) ↔ t.val % 12 < 3)
/-- Branch condition 2: the tile belongs to the second three. -/
abbrev cond0_2 (i : grid0.Coords) : Prop := (k0_cond3 i) = 1#1
theorem hcond0_2 : ∀ t : Fin cfg0.N, cond0_2 (grid0.coords t) ↔ 3 ≤ t.val % 12 ∧ t.val % 12 < 6 :=
  (by decide +kernel : ∀ t : Fin grid0.N, cond0_2 (grid0.coords t) ↔ 3 ≤ t.val % 12 ∧ t.val % 12 < 6)
/-- Branch condition 3: the tile belongs to the third three. -/
abbrev cond0_3 (i : grid0.Coords) : Prop := (k0_cond4 i) = 1#1
theorem hcond0_3 : ∀ t : Fin cfg0.N, cond0_3 (grid0.coords t) ↔ 6 ≤ t.val % 12 ∧ t.val % 12 < 9 :=
  (by decide +kernel : ∀ t : Fin grid0.N, cond0_3 (grid0.coords t) ↔ 6 ≤ t.val % 12 ∧ t.val % 12 < 9)
/-- Branch condition 4: the tile belongs to the last three. -/
abbrev cond0_4 (i : grid0.Coords) : Prop := (k0_cond5 i) = 1#1
theorem hcond0_4 : ∀ t : Fin cfg0.N, cond0_4 (grid0.coords t) ↔ 9 ≤ t.val % 12 :=
  (by decide +kernel : ∀ t : Fin grid0.N, cond0_4 (grid0.coords t) ↔ 9 ≤ t.val % 12)

end Cert.EvenPIdeal.Gen

end
-- ==== Proof.EvenPIdealRunA.lean ====
module

public import proofs.«01_k».proof.Proof.EvenPIdealConds

@[expose] public section

set_option maxRecDepth 16384

/-! The even projection's body at first tile: the row's normalisation is computed and stored. -/

noncomputable section

namespace Cert.EvenPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's run at first tile: the row's normalisation is computed and stored: the pieces each buffer ends with are the witness. -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S8x1024x128 .bf16) (harg5 : arg5.IsWhole) (arg6 : Memref sig .tc .vmem S8x1x4x256x128 .bf16) (harg6 : arg6.IsWhole) (arg7 : Memref sig .tc .vmem S8x1x16x64x128 .bf16) (harg7 : arg7.IsWhole) (arg8 : Memref sig .tc .vmem S1024x2048 .bf16) (harg8 : arg8.IsWhole) (arg9 : Memref sig .tc .vmem S8x1024x128 .f32) (harg9 : arg9.IsWhole) (arg10 : Memref sig .tc .vmem S8x4x256x128 .f32) (harg10 : arg10.IsWhole) (hc0 : cond0_0 i) (hc1 : cond0_1 i) (hc2 : ¬cond0_2 i) (hc3 : ¬cond0_3 i) (hc4 : ¬cond0_4 i)
    (x0 : Vec F S1024x2048 .f32) (x1 : Vec F S1x2048 .f32) (x2 : Vec F S2048x1024 .bf16) :
    Σ' (L5 : List (View.Piece (Elt F) S8x1024x128 .bf16)), { L8 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg8.view.loc (c : Thread nD τ) ↦[arg8.view.set]{fullShare} arg8.view.writes (Elt F) f L8)) -∗ K ⟨⟩))
          ⊢ wp frame (wpE (defs₀ (F := F)) Variants.none c none) E (cc0_even_norm_proj i arg2 harg2 arg3 harg3 arg4 harg4 arg5 harg5 arg6 harg6 arg7 harg7 arg8 harg8 arg9 harg9 arg10 harg10) K } := by
  refine ⟨?_, ?_, fun E K => ?run⟩
  case run =>
    unfold cc0_even_norm_proj
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.EvenPIdeal.Gen

end
-- ==== Proof.EvenPIdealRunB.lean ====
module

public import proofs.«01_k».proof.Proof.EvenPIdealConds

@[expose] public section

set_option maxRecDepth 16384

/-! The even projection's body at a tile stored as it is. -/

noncomputable section

namespace Cert.EvenPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's run at a tile stored as it is: the pieces each buffer ends with are the witness. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S8x1024x128 .bf16) (harg5 : arg5.IsWhole) (arg6 : Memref sig .tc .vmem S8x1x4x256x128 .bf16) (harg6 : arg6.IsWhole) (arg7 : Memref sig .tc .vmem S8x1x16x64x128 .bf16) (harg7 : arg7.IsWhole) (arg8 : Memref sig .tc .vmem S1024x2048 .bf16) (harg8 : arg8.IsWhole) (arg9 : Memref sig .tc .vmem S8x1024x128 .f32) (harg9 : arg9.IsWhole) (arg10 : Memref sig .tc .vmem S8x4x256x128 .f32) (harg10 : arg10.IsWhole) (hc0 : ¬cond0_0 i) (hc1 : cond0_1 i) (hc2 : ¬cond0_2 i) (hc3 : ¬cond0_3 i) (hc4 : ¬cond0_4 i)
    (x2 : Vec F S2048x1024 .bf16) (xs : Vec F S1024x2048 .bf16) :
    { L5 : List (View.Piece (Elt F) S8x1024x128 .bf16) //
      ∀ (E : Set ℕ) (K : PUnit → sProp 𝕄),
        iprop(owns (c : Thread nD τ) arg4 fullShare x2 ∗ owns (c : Thread nD τ) arg8 fullShare xs ∗ (∃ d, owns (c : Thread nD τ) arg5 fullShare d)
            ∗ (iprop(owns (c : Thread nD τ) arg4 fullShare x2 ∗ owns (c : Thread nD τ) arg8 fullShare xs ∗ (∃ f, arg5.view.loc (c : Thread nD τ) ↦[arg5.view.set]{fullShare} arg5.view.writes (Elt F) f L5)) -∗ K ⟨⟩))
          ⊢ wp frame (wpE (defs₀ (F := F)) Variants.none c none) E (cc0_even_norm_proj i arg2 harg2 arg3 harg3 arg4 harg4 arg5 harg5 arg6 harg6 arg7 harg7 arg8 harg8 arg9 harg9 arg10 harg10) K } := by
  refine ⟨?_, fun E K => ?run⟩
  case run =>
    unfold cc0_even_norm_proj
    unfold owns
    iintro ⟨⟨%f0, %hf0, H0⟩, ⟨%f1, %hf1, H1⟩, ⟨%d2, %f2, -, H2⟩, Hk⟩
    obtain rfl := harg4.eq_unread hf0; obtain rfl := harg8.eq_unread hf1
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg8.read_unread _
      iexact H1
    iexists _; iexact H2

end Cert.EvenPIdeal.Gen

end
-- ==== Proof.EvenPIdealRunC.lean ====
module

public import proofs.«01_k».proof.Proof.EvenPIdealConds

@[expose] public section

set_option maxRecDepth 16384

/-! The even projection's body at a tile stored by residues of four. -/

noncomputable section

namespace Cert.EvenPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's run at a tile stored by residues of four: the pieces each buffer ends with are the witness. -/
noncomputable def kernelRun0_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S8x1024x128 .bf16) (harg5 : arg5.IsWhole) (arg6 : Memref sig .tc .vmem S8x1x4x256x128 .bf16) (harg6 : arg6.IsWhole) (arg7 : Memref sig .tc .vmem S8x1x16x64x128 .bf16) (harg7 : arg7.IsWhole) (arg8 : Memref sig .tc .vmem S1024x2048 .bf16) (harg8 : arg8.IsWhole) (arg9 : Memref sig .tc .vmem S8x1024x128 .f32) (harg9 : arg9.IsWhole) (arg10 : Memref sig .tc .vmem S8x4x256x128 .f32) (harg10 : arg10.IsWhole) (hc0 : ¬cond0_0 i) (hc1 : ¬cond0_1 i) (hc2 : cond0_2 i) (hc3 : ¬cond0_3 i) (hc4 : ¬cond0_4 i)
    (x2 : Vec F S2048x1024 .bf16) (xs : Vec F S1024x2048 .bf16) :
    { L6 : List (View.Piece (Elt F) S8x1x4x256x128 .bf16) //
      ∀ (E : Set ℕ) (K : PUnit → sProp 𝕄),
        iprop(owns (c : Thread nD τ) arg4 fullShare x2 ∗ owns (c : Thread nD τ) arg8 fullShare xs ∗ (∃ d, owns (c : Thread nD τ) arg6 fullShare d) ∗ (∃ d, owns (c : Thread nD τ) arg9 fullShare d)
            ∗ (iprop(owns (c : Thread nD τ) arg4 fullShare x2 ∗ owns (c : Thread nD τ) arg8 fullShare xs ∗ (∃ f, arg6.view.loc (c : Thread nD τ) ↦[arg6.view.set]{fullShare} arg6.view.writes (Elt F) f L6) ∗ (∃ d, owns (c : Thread nD τ) arg9 fullShare d)) -∗ K ⟨⟩))
          ⊢ wp frame (wpE (defs₀ (F := F)) Variants.none c none) E (cc0_even_norm_proj i arg2 harg2 arg3 harg3 arg4 harg4 arg5 harg5 arg6 harg6 arg7 harg7 arg8 harg8 arg9 harg9 arg10 harg10) K } := by
  refine ⟨?_, fun E K => ?run⟩
  case run =>
    unfold cc0_even_norm_proj
    unfold owns
    iintro ⟨⟨%f0, %hf0, H0⟩, ⟨%f1, %hf1, H1⟩, ⟨%d2, %f2, -, H2⟩, ⟨%d3, %f3, -, H3⟩, Hk⟩
    obtain rfl := harg4.eq_unread hf0; obtain rfl := harg8.eq_unread hf1
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg8.read_unread _
      iexact H1
    isplitl [H2]
    · iexists _; iexact H2
    iexists _; iexists _; isplitr
    swap; · iexact H3
    ipureintro; exact rfl

end Cert.EvenPIdeal.Gen

end
-- ==== Proof.EvenPIdealRunD.lean ====
module

public import proofs.«01_k».proof.Proof.EvenPIdealConds

@[expose] public section

set_option maxRecDepth 16384

/-! The even projection's body at a tile stored by residues of sixteen. -/

noncomputable section

namespace Cert.EvenPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's run at a tile stored by residues of sixteen: the pieces each buffer ends with are the witness. -/
noncomputable def kernelRun0_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S8x1024x128 .bf16) (harg5 : arg5.IsWhole) (arg6 : Memref sig .tc .vmem S8x1x4x256x128 .bf16) (harg6 : arg6.IsWhole) (arg7 : Memref sig .tc .vmem S8x1x16x64x128 .bf16) (harg7 : arg7.IsWhole) (arg8 : Memref sig .tc .vmem S1024x2048 .bf16) (harg8 : arg8.IsWhole) (arg9 : Memref sig .tc .vmem S8x1024x128 .f32) (harg9 : arg9.IsWhole) (arg10 : Memref sig .tc .vmem S8x4x256x128 .f32) (harg10 : arg10.IsWhole) (hc0 : ¬cond0_0 i) (hc1 : ¬cond0_1 i) (hc2 : ¬cond0_2 i) (hc3 : cond0_3 i) (hc4 : ¬cond0_4 i)
    (x2 : Vec F S2048x1024 .bf16) (xs : Vec F S1024x2048 .bf16) :
    { L7 : List (View.Piece (Elt F) S8x1x16x64x128 .bf16) //
      ∀ (E : Set ℕ) (K : PUnit → sProp 𝕄),
        iprop(owns (c : Thread nD τ) arg4 fullShare x2 ∗ owns (c : Thread nD τ) arg8 fullShare xs ∗ (∃ d, owns (c : Thread nD τ) arg7 fullShare d) ∗ (∃ d, owns (c : Thread nD τ) arg9 fullShare d) ∗ (∃ d, owns (c : Thread nD τ) arg10 fullShare d)
            ∗ (iprop(owns (c : Thread nD τ) arg4 fullShare x2 ∗ owns (c : Thread nD τ) arg8 fullShare xs ∗ (∃ f, arg7.view.loc (c : Thread nD τ) ↦[arg7.view.set]{fullShare} arg7.view.writes (Elt F) f L7) ∗ (∃ d, owns (c : Thread nD τ) arg9 fullShare d) ∗ (∃ d, owns (c : Thread nD τ) arg10 fullShare d)) -∗ K ⟨⟩))
          ⊢ wp frame (wpE (defs₀ (F := F)) Variants.none c none) E (cc0_even_norm_proj i arg2 harg2 arg3 harg3 arg4 harg4 arg5 harg5 arg6 harg6 arg7 harg7 arg8 harg8 arg9 harg9 arg10 harg10) K } := by
  refine ⟨?_, fun E K => ?run⟩
  case run =>
    unfold cc0_even_norm_proj
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg4.eq_unread hf0; obtain rfl := harg8.eq_unread hf1
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg8.read_unread _
      iexact H1
    isplitl [H2]
    · iexists _; iexact H2
    isplitl [H3]
    · iexists _; iexists _; isplitr
      swap; · iexact H3
      ipureintro; exact rfl
    iexists _; iexists _; isplitr
    swap; · iexact H4
    ipureintro; exact rfl

end Cert.EvenPIdeal.Gen

end
-- ==== Proof.EvenPIdealRunE.lean ====
module

public import proofs.«01_k».proof.Proof.EvenPIdealConds

@[expose] public section

set_option maxRecDepth 16384

/-! The even projection's body at a tile of the last three, stored as it is. -/

noncomputable section

namespace Cert.EvenPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's run at a tile of the last three, stored as it is: the pieces each buffer ends with are the witness. -/
noncomputable def kernelRun0_E (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S8x1024x128 .bf16) (harg5 : arg5.IsWhole) (arg6 : Memref sig .tc .vmem S8x1x4x256x128 .bf16) (harg6 : arg6.IsWhole) (arg7 : Memref sig .tc .vmem S8x1x16x64x128 .bf16) (harg7 : arg7.IsWhole) (arg8 : Memref sig .tc .vmem S1024x2048 .bf16) (harg8 : arg8.IsWhole) (arg9 : Memref sig .tc .vmem S8x1024x128 .f32) (harg9 : arg9.IsWhole) (arg10 : Memref sig .tc .vmem S8x4x256x128 .f32) (harg10 : arg10.IsWhole) (hc0 : ¬cond0_0 i) (hc1 : ¬cond0_1 i) (hc2 : ¬cond0_2 i) (hc3 : ¬cond0_3 i) (hc4 : cond0_4 i)
    (x2 : Vec F S2048x1024 .bf16) (xs : Vec F S1024x2048 .bf16) :
    { L5 : List (View.Piece (Elt F) S8x1024x128 .bf16) //
      ∀ (E : Set ℕ) (K : PUnit → sProp 𝕄),
        iprop(owns (c : Thread nD τ) arg4 fullShare x2 ∗ owns (c : Thread nD τ) arg8 fullShare xs ∗ (∃ d, owns (c : Thread nD τ) arg5 fullShare d)
            ∗ (iprop(owns (c : Thread nD τ) arg4 fullShare x2 ∗ owns (c : Thread nD τ) arg8 fullShare xs ∗ (∃ f, arg5.view.loc (c : Thread nD τ) ↦[arg5.view.set]{fullShare} arg5.view.writes (Elt F) f L5)) -∗ K ⟨⟩))
          ⊢ wp frame (wpE (defs₀ (F := F)) Variants.none c none) E (cc0_even_norm_proj i arg2 harg2 arg3 harg3 arg4 harg4 arg5 harg5 arg6 harg6 arg7 harg7 arg8 harg8 arg9 harg9 arg10 harg10) K } := by
  refine ⟨?_, fun E K => ?run⟩
  case run =>
    unfold cc0_even_norm_proj
    unfold owns
    iintro ⟨⟨%f0, %hf0, H0⟩, ⟨%f1, %hf1, H1⟩, ⟨%d2, %f2, -, H2⟩, Hk⟩
    obtain rfl := harg4.eq_unread hf0; obtain rfl := harg8.eq_unread hf1
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg8.read_unread _
      iexact H1
    iexists _; iexact H2

end Cert.EvenPIdeal.Gen

end
-- ==== Proof.EvenPIdealFrame.lean ====
module

public import proofs.«01_k».proof.Proof.EvenPIdealRunA
public import proofs.«01_k».proof.Proof.EvenPIdealRunB
public import proofs.«01_k».proof.Proof.EvenPIdealRunC
public import proofs.«01_k».proof.Proof.EvenPIdealRunD
public import proofs.«01_k».proof.Proof.EvenPIdealRunE
public import Idealize.ShloMosaic.Lib.Pipeline.TableIdle
public import Idealize.ShloMosaic.Lib.Claim

@[expose] public section

set_option maxRecDepth 16384

/-! The even projection's frame: what each buffer holds after each point, the body's triple at every point, the run and the unchanged arguments. -/

noncomputable section

namespace Cert.EvenPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1x4x256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1x16x64x128 .bf16 := win0_5.stage (cfg0.slots t 5)
abbrev hs0_5 (t : Fin cfg0.N) : (ms0_5 t).IsWhole := hstage0_5 ((cfg0.slots t 5).cast nbuf0_5)
abbrev scM0_0 : Memref sig .tc .vmem S1024x2048 .bf16 := Memref.whole cc0_scratch0
abbrev scM0_1 : Memref sig .tc .vmem S8x1024x128 .f32 := Memref.whole cc0_scratch1
abbrev scM0_2 : Memref sig .tc .vmem S8x4x256x128 .f32 := Memref.whole cc0_scratch2
/-- Output 3's block through its first buffer: what a point leaves there is read through this view. -/
abbrev VO0_3 : View sig .tc .vmem S8x1024x128 .bf16 := (Memref.whole cc0_stg3_0 : Memref sig .tc .vmem S8x1024x128 .bf16).view
/-- Output 4's block through its first buffer: what a point leaves there is read through this view. -/
abbrev VO0_4 : View sig .tc .vmem S8x1x4x256x128 .bf16 := (Memref.whole cc0_stg4_0 : Memref sig .tc .vmem S8x1x4x256x128 .bf16).view
/-- Output 5's block through its first buffer: what a point leaves there is read through this view. -/
abbrev VO0_5 : View sig .tc .vmem S8x1x16x64x128 .bf16 := (Memref.whole cc0_stg5_0 : Memref sig .tc .vmem S8x1x16x64x128 .bf16).view
abbrev VS0_0 : View sig .tc .vmem S1024x2048 .bf16 := scM0_0.view

/-- The three scratch buffers at anything and the generator's register. -/
def PhiE (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d) ∗ (∃ r, prngReg c r))

/-- The same with the first scratch, the normalised rows, at `xs`. -/
def PhiX (c : Dev nD) (xs : Vec F S1024x2048 .bf16) : sProp 𝕄 :=
  iprop(owns (c : Thread nD τ) scM0_0 fullShare xs ∗ (∃ d, owns (c : Thread nD τ) scM0_1 fullShare d) ∗ (∃ d, owns (c : Thread nD τ) scM0_2 fullShare d) ∗ (∃ r, prngReg c r))

theorem PhiX_forget (c : Dev nD) (xs : Vec F S1024x2048 .bf16) : (PhiX c xs : sProp 𝕄) ⊢ PhiE c := by
  unfold PhiX PhiE
  iintro ⟨H0, H⟩
  isplitl [H0]
  · iexists _; iexact H0
  iexact H

theorem PhiA_in (c : Dev nD) : (Pipeline.ΦA spec0 c : sProp 𝕄) ⊢ PhiE c := by
  unfold Pipeline.ΦA PhiE; rw [scopedRest0_eq]; simp only [scM0_0, scM0_1, scM0_2, owns_whole]
  iintro ⟨⟨H0, H1, H2⟩, Hg⟩
  isplitl [H0]; · iexact H0
  isplitl [H1]; · iexact H1
  isplitl [H2]; · iexact H2
  iexact Hg

theorem PhiA_out (c : Dev nD) : (PhiE c : sProp 𝕄) ⊢ Pipeline.ΦA spec0 c := by
  unfold Pipeline.ΦA PhiE; rw [scopedRest0_eq]; simp only [scM0_0, scM0_1, scM0_2, owns_whole]
  iintro ⟨H0, H1, H2, Hg⟩
  isplitl [H0 H1 H2]
  · isplitl [H0]; · iexact H0
    isplitl [H1]; · iexact H1
    iexact H2
  iexact Hg

/-! ## What each case's stores leave -/

/-- The body's run at a point of case A. -/
noncomputable abbrev runA (c : Dev nD) (s : Fin cfg0.N) (h : s.val % 12 = 0) :=
  kernelRun0_A c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) scM0_1 (Memref.isWhole_whole _) scM0_2 (Memref.isWhole_whole _) ((hcond0_0 s).mpr (by omega)) ((hcond0_1 s).mpr (by omega)) (fun h' => absurd ((hcond0_2 s).mp h') (by omega)) (fun h' => absurd ((hcond0_3 s).mp h') (by omega)) (fun h' => absurd ((hcond0_4 s).mp h') (by omega)) (iblk m c 0 s) (iblk m c 1 s) (iblk m c 2 s)
/-- What case A leaves through `VO0_3`. -/
def leftA_5 (c : Dev nD) (s : Fin cfg0.N) (h : s.val % 12 = 0) : Vec F S8x1024x128 .bf16 :=
  VO0_3.read (Elt F) (VO0_3.writes (Elt F) VO0_3.junk (runA m c s h).1)
theorem coverA_5 (c : Dev nD) (s : Fin cfg0.N) (h : s.val % 12 = 0) (y : S8x1024x128.Idx) :
    ∃ pc ∈ (runA m c s h).1, y ∈ pc.1.set :=
  View.cover_of_tiledL (runA m c s h).1 S1x1024x128.size (by sl_kernel_rfl) y
/-- What case A leaves through `VS0_0`. -/
def leftA_8 (c : Dev nD) (s : Fin cfg0.N) (h : s.val % 12 = 0) : Vec F S1024x2048 .bf16 :=
  VS0_0.read (Elt F) (VS0_0.writes (Elt F) VS0_0.junk (runA m c s h).2.1)
theorem coverA_8 (c : Dev nD) (s : Fin cfg0.N) (h : s.val % 12 = 0) (y : S1024x2048.Idx) :
    ∃ pc ∈ (runA m c s h).2.1, y ∈ pc.1.set :=
  View.cover_of_tiledL (runA m c s h).2.1 S1024x2048.size (by sl_kernel_rfl) y

/-- The body's run at a point of case B. -/
noncomputable abbrev runB (c : Dev nD) (s : Fin cfg0.N) (h : s.val % 12 ≠ 0 ∧ s.val % 12 < 3) (xs : Vec F S1024x2048 .bf16) :=
  kernelRun0_B c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) scM0_1 (Memref.isWhole_whole _) scM0_2 (Memref.isWhole_whole _) (fun h' => absurd ((hcond0_0 s).mp h') (by omega)) ((hcond0_1 s).mpr (by omega)) (fun h' => absurd ((hcond0_2 s).mp h') (by omega)) (fun h' => absurd ((hcond0_3 s).mp h') (by omega)) (fun h' => absurd ((hcond0_4 s).mp h') (by omega)) (iblk m c 2 s) xs
/-- What case B leaves through `VO0_3`. -/
def leftB_5 (c : Dev nD) (s : Fin cfg0.N) (h : s.val % 12 ≠ 0 ∧ s.val % 12 < 3) (xs : Vec F S1024x2048 .bf16) : Vec F S8x1024x128 .bf16 :=
  VO0_3.read (Elt F) (VO0_3.writes (Elt F) VO0_3.junk (runB m c s h xs).1)
theorem coverB_5 (c : Dev nD) (s : Fin cfg0.N) (h : s.val % 12 ≠ 0 ∧ s.val % 12 < 3) (xs : Vec F S1024x2048 .bf16) (y : S8x1024x128.Idx) :
    ∃ pc ∈ (runB m c s h xs).1, y ∈ pc.1.set :=
  View.cover_of_tiledL (runB m c s h xs).1 S1x1024x128.size (by sl_kernel_rfl) y

/-- The body's run at a point of case C. -/
noncomputable abbrev runC (c : Dev nD) (s : Fin cfg0.N) (h : 3 ≤ s.val % 12 ∧ s.val % 12 < 6) (xs : Vec F S1024x2048 .bf16) :=
  kernelRun0_C c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) scM0_1 (Memref.isWhole_whole _) scM0_2 (Memref.isWhole_whole _) (fun h' => absurd ((hcond0_0 s).mp h') (by omega)) (fun h' => absurd ((hcond0_1 s).mp h') (by omega)) ((hcond0_2 s).mpr (by omega)) (fun h' => absurd ((hcond0_3 s).mp h') (by omega)) (fun h' => absurd ((hcond0_4 s).mp h') (by omega)) (iblk m c 2 s) xs
/-- What case C leaves through `VO0_4`. -/
def leftC_6 (c : Dev nD) (s : Fin cfg0.N) (h : 3 ≤ s.val % 12 ∧ s.val % 12 < 6) (xs : Vec F S1024x2048 .bf16) : Vec F S8x1x4x256x128 .bf16 :=
  VO0_4.read (Elt F) (VO0_4.writes (Elt F) VO0_4.junk (runC m c s h xs).1)
theorem coverC_6 (c : Dev nD) (s : Fin cfg0.N) (h : 3 ≤ s.val % 12 ∧ s.val % 12 < 6) (xs : Vec F S1024x2048 .bf16) (y : S8x1x4x256x128.Idx) :
    ∃ pc ∈ (runC m c s h xs).1, y ∈ pc.1.set :=
  View.cover_of_tiledL (runC m c s h xs).1 S1x1x1x256x128.size (by sl_kernel_rfl) y

/-- The body's run at a point of case D. -/
noncomputable abbrev runD (c : Dev nD) (s : Fin cfg0.N) (h : 6 ≤ s.val % 12 ∧ s.val % 12 < 9) (xs : Vec F S1024x2048 .bf16) :=
  kernelRun0_D c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) scM0_1 (Memref.isWhole_whole _) scM0_2 (Memref.isWhole_whole _) (fun h' => absurd ((hcond0_0 s).mp h') (by omega)) (fun h' => absurd ((hcond0_1 s).mp h') (by omega)) (fun h' => absurd ((hcond0_2 s).mp h') (by omega)) ((hcond0_3 s).mpr (by omega)) (fun h' => absurd ((hcond0_4 s).mp h') (by omega)) (iblk m c 2 s) xs
/-- What case D leaves through `VO0_5`. -/
def leftD_7 (c : Dev nD) (s : Fin cfg0.N) (h : 6 ≤ s.val % 12 ∧ s.val % 12 < 9) (xs : Vec F S1024x2048 .bf16) : Vec F S8x1x16x64x128 .bf16 :=
  VO0_5.read (Elt F) (VO0_5.writes (Elt F) VO0_5.junk (runD m c s h xs).1)
theorem coverD_7 (c : Dev nD) (s : Fin cfg0.N) (h : 6 ≤ s.val % 12 ∧ s.val % 12 < 9) (xs : Vec F S1024x2048 .bf16) (y : S8x1x16x64x128.Idx) :
    ∃ pc ∈ (runD m c s h xs).1, y ∈ pc.1.set :=
  View.cover_of_tiledL (runD m c s h xs).1 S1x1x1x64x128.size (by sl_kernel_rfl) y

/-- The body's run at a point of case E. -/
noncomputable abbrev runE (c : Dev nD) (s : Fin cfg0.N) (h : 9 ≤ s.val % 12) (xs : Vec F S1024x2048 .bf16) :=
  kernelRun0_E c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) scM0_1 (Memref.isWhole_whole _) scM0_2 (Memref.isWhole_whole _) (fun h' => absurd ((hcond0_0 s).mp h') (by omega)) (fun h' => absurd ((hcond0_1 s).mp h') (by omega)) (fun h' => absurd ((hcond0_2 s).mp h') (by omega)) (fun h' => absurd ((hcond0_3 s).mp h') (by omega)) ((hcond0_4 s).mpr (by omega)) (iblk m c 2 s) xs
/-- What case E leaves through `VO0_3`. -/
def leftE_5 (c : Dev nD) (s : Fin cfg0.N) (h : 9 ≤ s.val % 12) (xs : Vec F S1024x2048 .bf16) : Vec F S8x1024x128 .bf16 :=
  VO0_3.read (Elt F) (VO0_3.writes (Elt F) VO0_3.junk (runE m c s h xs).1)
theorem coverE_5 (c : Dev nD) (s : Fin cfg0.N) (h : 9 ≤ s.val % 12) (xs : Vec F S1024x2048 .bf16) (y : S8x1024x128.Idx) :
    ∃ pc ∈ (runE m c s h xs).1, y ∈ pc.1.set :=
  View.cover_of_tiledL (runE m c s h xs).1 S1x1024x128.size (by sl_kernel_rfl) y

/-- The first point of `t`'s row of tiles. -/
def row (t : Fin cfg0.N) : Fin cfg0.N := ⟨t.val / 12 * 12, Nat.lt_of_le_of_lt (Nat.div_mul_le_self _ _) t.isLt⟩

/-- The normalised rows the first scratch holds through `t`'s row of tiles. -/
def xn (c : Dev nD) (t : Fin cfg0.N) : Vec F S1024x2048 .bf16 :=
  leftA_8 m c (row t) (Nat.mul_mod_left _ _)

theorem row_self (t : Fin cfg0.N) (h : t.val % 12 = 0) : row t = t := Fin.ext (by show t.val / 12 * 12 = t.val; omega)

theorem leftA_8_congr (c : Dev nD) (s s' : Fin cfg0.N) (e : s = s') (h : s.val % 12 = 0) (h' : s'.val % 12 = 0) : leftA_8 m c s h = leftA_8 m c s' h' := by
  subst e; rfl

theorem xn_first (c : Dev nD) (t : Fin cfg0.N) (h : t.val % 12 = 0) : xn m c t = leftA_8 m c t h :=
  leftA_8_congr m c _ _ (row_self t h) _ _

theorem xn_row (c : Dev nD) (s t : Fin cfg0.N) (h : s.val / 12 = t.val / 12) : xn m c s = xn m c t :=
  leftA_8_congr m c _ _ (Fin.ext (by show s.val / 12 * 12 = t.val / 12 * 12; rw [h])) _ _

/-- What a point leaves in output 3, where it stores there. -/
def out3 (c : Dev nD) (s : Fin cfg0.N) : Vec F S8x1024x128 .bf16 :=
  if hA : s.val % 12 = 0 then leftA_5 m c s hA
  else if hB : s.val % 12 < 3 then leftB_5 m c s ⟨hA, hB⟩ (xn m c s)
  else if hE : 9 ≤ s.val % 12 then leftE_5 m c s hE (xn m c s)
  else VO0_3.read (Elt F) VO0_3.junk
/-- What a point leaves in output 4, where it stores there. -/
def out4 (c : Dev nD) (s : Fin cfg0.N) : Vec F S8x1x4x256x128 .bf16 :=
  if hC : 3 ≤ s.val % 12 ∧ s.val % 12 < 6 then leftC_6 m c s hC (xn m c s) else VO0_4.read (Elt F) VO0_4.junk
/-- What a point leaves in output 5, where it stores there. -/
def out5 (c : Dev nD) (s : Fin cfg0.N) : Vec F S8x1x16x64x128 .bf16 :=
  if hD : 6 ≤ s.val % 12 ∧ s.val % 12 < 9 then leftD_7 m c s hD (xn m c s) else VO0_5.read (Elt F) VO0_5.junk

theorem out3_A (c : Dev nD) (s : Fin cfg0.N) (h : s.val % 12 = 0) : out3 m c s = leftA_5 m c s h := dif_pos h
theorem out3_B (c : Dev nD) (s : Fin cfg0.N) (h : s.val % 12 ≠ 0 ∧ s.val % 12 < 3) : out3 m c s = leftB_5 m c s h (xn m c s) :=
  (dif_neg h.1).trans (dif_pos h.2)
theorem out3_E (c : Dev nD) (s : Fin cfg0.N) (h : 9 ≤ s.val % 12) : out3 m c s = leftE_5 m c s h (xn m c s) :=
  (dif_neg (by omega)).trans ((dif_neg (by omega)).trans (dif_pos h))
theorem out4_C (c : Dev nD) (s : Fin cfg0.N) (h : 3 ≤ s.val % 12 ∧ s.val % 12 < 6) : out4 m c s = leftC_6 m c s h (xn m c s) := dif_pos h
theorem out5_D (c : Dev nD) (s : Fin cfg0.N) (h : 6 ≤ s.val % 12 ∧ s.val % 12 < 9) : out5 m c s = leftD_7 m c s h (xn m c s) := dif_pos h

/-- The last point at or before `t`, in its row of tiles, that stored into output 3 (`t` itself where it stores). -/
def src3 (t : Fin cfg0.N) : Fin cfg0.N :=
  ⟨if 3 ≤ t.val % 12 ∧ t.val % 12 < 9 then t.val - (t.val % 12 - 2) else t.val, by have := t.isLt; split <;> omega⟩
/-- The same for output 4 (`t` itself before the row's first store there). -/
def src4 (t : Fin cfg0.N) : Fin cfg0.N :=
  ⟨if 6 ≤ t.val % 12 then t.val - (t.val % 12 - 5) else t.val, by have := t.isLt; split <;> omega⟩
/-- The same for output 5. -/
def src5 (t : Fin cfg0.N) : Fin cfg0.N :=
  ⟨if 9 ≤ t.val % 12 then t.val - (t.val % 12 - 8) else t.val, by have := t.isLt; split <;> omega⟩

theorem src3_live (t : Fin cfg0.N) (h : ¬(3 ≤ t.val % 12 ∧ t.val % 12 < 9)) : src3 t = t := Fin.ext (if_neg h)
theorem src4_live (t : Fin cfg0.N) (h : ¬6 ≤ t.val % 12) : src4 t = t := Fin.ext (if_neg h)
theorem src5_live (t : Fin cfg0.N) (h : ¬9 ≤ t.val % 12) : src5 t = t := Fin.ext (if_neg h)

theorem src3_carry (t s : Fin cfg0.N) (hs : s.val = t.val - 1) (h : 3 ≤ t.val % 12 ∧ t.val % 12 < 9) : src3 t = src3 s := by
  refine Fin.ext ?_
  show (if 3 ≤ t.val % 12 ∧ t.val % 12 < 9 then t.val - (t.val % 12 - 2) else t.val) = (if 3 ≤ s.val % 12 ∧ s.val % 12 < 9 then s.val - (s.val % 12 - 2) else s.val)
  rw [if_pos h]; split <;> omega
theorem src4_carry (t s : Fin cfg0.N) (hs : s.val = t.val - 1) (h : 6 ≤ t.val % 12) : src4 t = src4 s := by
  refine Fin.ext ?_
  show (if 6 ≤ t.val % 12 then t.val - (t.val % 12 - 5) else t.val) = (if 6 ≤ s.val % 12 then s.val - (s.val % 12 - 5) else s.val)
  rw [if_pos h]; split <;> omega
theorem src5_carry (t s : Fin cfg0.N) (hs : s.val = t.val - 1) (h : 9 ≤ t.val % 12) : src5 t = src5 s := by
  refine Fin.ext ?_
  show (if 9 ≤ t.val % 12 then t.val - (t.val % 12 - 8) else t.val) = (if 9 ≤ s.val % 12 then s.val - (s.val % 12 - 8) else s.val)
  rw [if_pos h]; split <;> omega

/-! ## The proof data -/

/-- Before position `n`: at the start everything at anything; afterwards the first scratch at the rows the point before worked on. -/
def PhiS (c : Dev nD) : (n : ℕ) → n ≤ cfg0.N → sProp 𝕄
  | 0, _ => PhiE c
  | n + 1, hn => PhiX c (xn m c ⟨n, hn⟩)

theorem PhiS_any (c : Dev nD) : (n : ℕ) → (h : n ≤ cfg0.N) → PhiS m c n h ⊢ PhiE c
  | 0, _ => .rfl
  | n + 1, hn => PhiX_forget c _

theorem PhiS_mid (c : Dev nD) (t : Fin cfg0.N) (h : t.val % 12 ≠ 0) : PhiS m c t.val (Nat.le_of_lt t.isLt) = PhiX c (xn m c t) := by
  obtain ⟨n, hn⟩ := t
  cases n with
  | zero => exact absurd (Nat.zero_mod _) h
  | succ n =>
    show PhiX c (xn m c ⟨n, _⟩) = _
    rw [xn_row m c ⟨n, Nat.lt_of_succ_lt hn⟩ ⟨n + 1, hn⟩ (by show n / 12 = (n + 1) / 12; have h' : (n + 1) % 12 ≠ 0 := h; omega)]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c (src3 t)
    | ⟨4, _⟩ => out4 m c (src4 t)
    | ⟨5, _⟩ => out5 m c (src5 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiX c (xn m c t) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c (src3 t) := by dsimp only [dats]
theorem after0_4 (c : Dev nD) (t : Fin cfg0.N) : (dats m 0 c).after 4 t = out4 m c (src4 t) := by dsimp only [dats]
theorem after0_5 (c : Dev nD) (t : Fin cfg0.N) : (dats m 0 c).after 5 t = out5 m c (src5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Points that store nothing into an output -/

theorem idle0_3 : ∀ t : Fin cfg0.N, cfg0.idle 3 (grid0.coords t) = true ↔ 3 ≤ t.val % 12 ∧ t.val % 12 < 9 :=
  (by decide +kernel : ∀ t : Fin grid0.N, idle0 3 (grid0.coords t) = true ↔ 3 ≤ t.val % 12 ∧ t.val % 12 < 9)
theorem live0_3 (t : Fin cfg0.N) (h : ¬(3 ≤ t.val % 12 ∧ t.val % 12 < 9)) : cfg0.idle 3 (grid0.coords t) = false :=
  Bool.eq_false_iff.mpr fun e => h ((idle0_3 t).mp e)
/-- Where output 3's buffer holds nothing the row has stored yet. -/
def tab3 (n : ℕ) : Bool := !decide (3 ≤ n % 12 ∧ n % 12 < 9)
theorem fresh0_3 (t : Fin cfg0.N) : cfg0.fresh 3 t.val = tab3 t.val :=
  Pipeline.Cfg.fresh_tab cfg0 3 tab3 (by decide)
    (by decide +kernel : ∀ t : Fin grid0.N, tab3 (t.val + 1) = (win0_3.flush t || (idle0 3 (grid0.coords t) && tab3 t.val))) t.val (Nat.le_of_lt t.isLt)
theorem flush_idle0_3 (t : Fin cfg0.N) : (cfg0.win 3).flush t = true → cfg0.idle 3 (grid0.coords t) = true → 3 ≤ t.val % 12 ∧ t.val % 12 < 9 :=
  (by decide +kernel : ∀ t : Fin grid0.N, win0_3.flush t = true → idle0 3 (grid0.coords t) = true → 3 ≤ t.val % 12 ∧ t.val % 12 < 9) t
theorem old_of_fresh0_3 (t : Fin cfg0.N) (h : cfg0.fresh 3 t.val = false) : 3 ≤ t.val % 12 ∧ t.val % 12 < 9 := by
  rw [fresh0_3] at h; unfold tab3 at h; simpa using h
theorem fresh0_3_old (t : Fin cfg0.N) (h : 3 ≤ t.val % 12 ∧ t.val % 12 < 9) : cfg0.fresh 3 t.val = false := by
  rw [fresh0_3]; unfold tab3; simpa using h

/-- At a point that stores nothing into output 3 its buffer is handed back as found. -/
theorem leaves_idle0_3 (c : Dev nD) (t : Fin cfg0.N) (h : 3 ≤ t.val % 12 ∧ t.val % 12 < 9) :
    iprop(∃ d, owns (c : Thread nD τ) (ms0_3 t) fullShare ((dats m 0 c).before 3 t d)) ⊢ (dats m 0 c).leavesExact 3 t := by
  have hi : cfg0.idle 3 (grid0.coords t) = true := (idle0_3 t).mpr h
  cases hf : (cfg0.win 3).flush t
  · rw [(dats m 0 c).leavesExact_idle 3 t hi hf]
  · rw [show (dats m 0 c).leavesExact 3 t = owns (c : Thread nD τ) (ms0_3 t) fullShare ((dats m 0 c).after 3 t) from by
      unfold Dat.leavesExact; rw [hi, hf]]
    have ho := flush_idle0_3 t hf hi
    have hb : ∀ d, (dats m 0 c).before 3 t d = (dats m 0 c).after 3 t := fun d => by
      rw [(dats m 0 c).before_out_traj 3 rfl (fun _ _ => rfl) (fun t' _ hi' hf' => by
        rw [after0_3, after0_3]; exact congrArg (out3 m c) (src3_carry t' _ rfl (old_of_fresh0_3 t' hf'))) t.val t rfl d,
        if_neg (by rw [fresh0_3_old t ho]; exact Bool.false_ne_true), after0_3, after0_3]
      exact congrArg (out3 m c) (src3_carry t _ rfl ho).symm
    simp only [hb]
    iintro ⟨%d, H⟩
    iexact H
theorem leaves_live0_3 (c : Dev nD) (t : Fin cfg0.N) (h : ¬(3 ≤ t.val % 12 ∧ t.val % 12 < 9)) :
    (dats m 0 c).leavesExact 3 t = owns (c : Thread nD τ) (ms0_3 t) fullShare ((dats m 0 c).after 3 t) := by
  unfold Dat.leavesExact; rw [live0_3 t h]

theorem idle0_4 : ∀ t : Fin cfg0.N, cfg0.idle 4 (grid0.coords t) = true ↔ ¬(3 ≤ t.val % 12 ∧ t.val % 12 < 6) :=
  (by decide +kernel : ∀ t : Fin grid0.N, idle0 4 (grid0.coords t) = true ↔ ¬(3 ≤ t.val % 12 ∧ t.val % 12 < 6))
theorem live0_4 (t : Fin cfg0.N) (h : ¬(¬(3 ≤ t.val % 12 ∧ t.val % 12 < 6))) : cfg0.idle 4 (grid0.coords t) = false :=
  Bool.eq_false_iff.mpr fun e => h ((idle0_4 t).mp e)
/-- Where output 4's buffer holds nothing the row has stored yet. -/
def tab4 (n : ℕ) : Bool := !decide (6 ≤ n % 12)
theorem fresh0_4 (t : Fin cfg0.N) : cfg0.fresh 4 t.val = tab4 t.val :=
  Pipeline.Cfg.fresh_tab cfg0 4 tab4 (by decide)
    (by decide +kernel : ∀ t : Fin grid0.N, tab4 (t.val + 1) = (win0_4.flush t || (idle0 4 (grid0.coords t) && tab4 t.val))) t.val (Nat.le_of_lt t.isLt)
theorem flush_idle0_4 (t : Fin cfg0.N) : (cfg0.win 4).flush t = true → cfg0.idle 4 (grid0.coords t) = true → 6 ≤ t.val % 12 :=
  (by decide +kernel : ∀ t : Fin grid0.N, win0_4.flush t = true → idle0 4 (grid0.coords t) = true → 6 ≤ t.val % 12) t
theorem old_of_fresh0_4 (t : Fin cfg0.N) (h : cfg0.fresh 4 t.val = false) : 6 ≤ t.val % 12 := by
  rw [fresh0_4] at h; unfold tab4 at h; simpa using h
theorem fresh0_4_old (t : Fin cfg0.N) (h : 6 ≤ t.val % 12) : cfg0.fresh 4 t.val = false := by
  rw [fresh0_4]; unfold tab4; simpa using h

/-- At a point that stores nothing into output 4 its buffer is handed back as found. -/
theorem leaves_idle0_4 (c : Dev nD) (t : Fin cfg0.N) (h : ¬(3 ≤ t.val % 12 ∧ t.val % 12 < 6)) :
    iprop(∃ d, owns (c : Thread nD τ) (ms0_4 t) fullShare ((dats m 0 c).before 4 t d)) ⊢ (dats m 0 c).leavesExact 4 t := by
  have hi : cfg0.idle 4 (grid0.coords t) = true := (idle0_4 t).mpr h
  cases hf : (cfg0.win 4).flush t
  · rw [(dats m 0 c).leavesExact_idle 4 t hi hf]
  · rw [show (dats m 0 c).leavesExact 4 t = owns (c : Thread nD τ) (ms0_4 t) fullShare ((dats m 0 c).after 4 t) from by
      unfold Dat.leavesExact; rw [hi, hf]]
    have ho := flush_idle0_4 t hf hi
    have hb : ∀ d, (dats m 0 c).before 4 t d = (dats m 0 c).after 4 t := fun d => by
      rw [(dats m 0 c).before_out_traj 4 rfl (fun _ _ => rfl) (fun t' _ hi' hf' => by
        rw [after0_4, after0_4]; exact congrArg (out4 m c) (src4_carry t' _ rfl (old_of_fresh0_4 t' hf'))) t.val t rfl d,
        if_neg (by rw [fresh0_4_old t ho]; exact Bool.false_ne_true), after0_4, after0_4]
      exact congrArg (out4 m c) (src4_carry t _ rfl ho).symm
    simp only [hb]
    iintro ⟨%d, H⟩
    iexact H
theorem leaves_live0_4 (c : Dev nD) (t : Fin cfg0.N) (h : ¬(¬(3 ≤ t.val % 12 ∧ t.val % 12 < 6))) :
    (dats m 0 c).leavesExact 4 t = owns (c : Thread nD τ) (ms0_4 t) fullShare ((dats m 0 c).after 4 t) := by
  unfold Dat.leavesExact; rw [live0_4 t h]

theorem idle0_5 : ∀ t : Fin cfg0.N, cfg0.idle 5 (grid0.coords t) = true ↔ ¬(6 ≤ t.val % 12 ∧ t.val % 12 < 9) :=
  (by decide +kernel : ∀ t : Fin grid0.N, idle0 5 (grid0.coords t) = true ↔ ¬(6 ≤ t.val % 12 ∧ t.val % 12 < 9))
theorem live0_5 (t : Fin cfg0.N) (h : ¬(¬(6 ≤ t.val % 12 ∧ t.val % 12 < 9))) : cfg0.idle 5 (grid0.coords t) = false :=
  Bool.eq_false_iff.mpr fun e => h ((idle0_5 t).mp e)
/-- Where output 5's buffer holds nothing the row has stored yet. -/
def tab5 (n : ℕ) : Bool := !decide (9 ≤ n % 12)
theorem fresh0_5 (t : Fin cfg0.N) : cfg0.fresh 5 t.val = tab5 t.val :=
  Pipeline.Cfg.fresh_tab cfg0 5 tab5 (by decide)
    (by decide +kernel : ∀ t : Fin grid0.N, tab5 (t.val + 1) = (win0_5.flush t || (idle0 5 (grid0.coords t) && tab5 t.val))) t.val (Nat.le_of_lt t.isLt)
theorem flush_idle0_5 (t : Fin cfg0.N) : (cfg0.win 5).flush t = true → cfg0.idle 5 (grid0.coords t) = true → 9 ≤ t.val % 12 :=
  (by decide +kernel : ∀ t : Fin grid0.N, win0_5.flush t = true → idle0 5 (grid0.coords t) = true → 9 ≤ t.val % 12) t
theorem old_of_fresh0_5 (t : Fin cfg0.N) (h : cfg0.fresh 5 t.val = false) : 9 ≤ t.val % 12 := by
  rw [fresh0_5] at h; unfold tab5 at h; simpa using h
theorem fresh0_5_old (t : Fin cfg0.N) (h : 9 ≤ t.val % 12) : cfg0.fresh 5 t.val = false := by
  rw [fresh0_5]; unfold tab5; simpa using h

/-- At a point that stores nothing into output 5 its buffer is handed back as found. -/
theorem leaves_idle0_5 (c : Dev nD) (t : Fin cfg0.N) (h : ¬(6 ≤ t.val % 12 ∧ t.val % 12 < 9)) :
    iprop(∃ d, owns (c : Thread nD τ) (ms0_5 t) fullShare ((dats m 0 c).before 5 t d)) ⊢ (dats m 0 c).leavesExact 5 t := by
  have hi : cfg0.idle 5 (grid0.coords t) = true := (idle0_5 t).mpr h
  cases hf : (cfg0.win 5).flush t
  · rw [(dats m 0 c).leavesExact_idle 5 t hi hf]
  · rw [show (dats m 0 c).leavesExact 5 t = owns (c : Thread nD τ) (ms0_5 t) fullShare ((dats m 0 c).after 5 t) from by
      unfold Dat.leavesExact; rw [hi, hf]]
    have ho := flush_idle0_5 t hf hi
    have hb : ∀ d, (dats m 0 c).before 5 t d = (dats m 0 c).after 5 t := fun d => by
      rw [(dats m 0 c).before_out_traj 5 rfl (fun _ _ => rfl) (fun t' _ hi' hf' => by
        rw [after0_5, after0_5]; exact congrArg (out5 m c) (src5_carry t' _ rfl (old_of_fresh0_5 t' hf'))) t.val t rfl d,
        if_neg (by rw [fresh0_5_old t ho]; exact Bool.false_ne_true), after0_5, after0_5]
      exact congrArg (out5 m c) (src5_carry t _ rfl ho).symm
    simp only [hb]
    iintro ⟨%d, H⟩
    iexact H
theorem leaves_live0_5 (c : Dev nD) (t : Fin cfg0.N) (h : ¬(¬(6 ≤ t.val % 12 ∧ t.val % 12 < 9))) :
    (dats m 0 c).leavesExact 5 t = owns (c : Thread nD τ) (ms0_5 t) fullShare ((dats m 0 c).after 5 t) := by
  unfold Dat.leavesExact; rw [live0_5 t h]

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [show cfg0.idle 0 (cfg0.grid.coords t) = false from rfl], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [show cfg0.idle 1 (cfg0.grid.coords t) = false from rfl], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [show cfg0.idle 2 (cfg0.grid.coords t) = false from rfl], after0_2]

/-! ## The body at every point -/

/-- What the body finds at point `t`, the first scratch's invariant being `P`, -/
def bodyPre (P : sProp 𝕄) (c : Dev nD) (t : Fin cfg0.N) : sProp 𝕄 :=
  iprop(P ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
theorem sound_A (c : Dev nD) (t : Fin cfg0.N) (h : t.val % 12 = 0) :
    bodyPre m (PhiE c) c t ⊢ wp frame (wpE (defs₀ (F := F)) Variants.none c none) Set.univ (bodyAt0 t) (fun _ => bodyPost m c t) := by
  unfold bodyPre bodyPost bodyAt0 PhiE
  simp only [before0_0, before0_1, before0_2]
  rw [show (dats m 0 c).owesAt () t.succ = (dats m 0 c).owesAt () t.castSucc from rfl, Phi_succ, leaves0_0, leaves0_1, leaves0_2]
  rw [leaves_live0_3 m c t (by omega), after0_3, src3_live t (by omega), out3_A m c t h]
  rw [xn_first m c t h]
  unfold PhiX
  unfold leftA_5 leftA_8
  iintro ⟨⟨HS0, HS1, HS2, Hg⟩, Ho, ⟨%d0, H0⟩, ⟨%d1, H1⟩, ⟨%d2, H2⟩, ⟨%d3, H3⟩, H4, H5⟩
  iapply ((runA m c t h).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%eH3, H3⟩, ⟨%eHS0, HS0⟩⟩
  isplitl [HS0 HS1 HS2 Hg]
  · isplitl [HS0]
    · unfold owns; iexists _; isplitr
      swap; · iexact HS0
      ipureintro; exact View.read_writes_of_cover _ _ _ _ _ (coverA_8 m c t h)
    isplitl [HS1]; · iexact HS1
    isplitl [HS2]; · iexact HS2
    iexact Hg
  isplitl [Ho]; · iexact Ho
  isplitl [H0]
  · iexact H0
  isplitl [H1]
  · iexact H1
  isplitl [H2]
  · iexact H2
  isplitl [H3]
  · unfold owns; iexists _; isplitr
    swap; · iexact H3
    ipureintro; exact View.read_writes_of_cover _ _ _ _ _ (coverA_5 m c t h)
  isplitl [H4]
  · iapply (leaves_idle0_4 m c t (by omega)); iexact H4
  iapply (leaves_idle0_5 m c t (by omega)); iexact H5

set_option maxHeartbeats 4000000 in
theorem sound_B (c : Dev nD) (t : Fin cfg0.N) (h : t.val % 12 ≠ 0 ∧ t.val % 12 < 3) :
    bodyPre m (PhiX c (xn m c t)) c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, Phi_succ, leaves0_0, leaves0_1, leaves0_2]
  rw [leaves_live0_3 m c t (by omega), after0_3, src3_live t (by omega), out3_B m c t h]
  unfold PhiX
  unfold leftB_5
  iintro ⟨⟨HS0, HS1, HS2, Hg⟩, Ho, ⟨%d0, H0⟩, ⟨%d1, H1⟩, ⟨%d2, H2⟩, ⟨%d3, H3⟩, H4, H5⟩
  iapply ((runB m c t h (xn m c t)).2 Set.univ _)
  isplitl [H2]; · iexact H2
  isplitl [HS0]; · iexact HS0
  isplitl [H3]; · iexists _; iexact H3
  iintro ⟨H2, HS0, ⟨%eH3, H3⟩⟩
  isplitl [HS0 HS1 HS2 Hg]
  · isplitl [HS0]
    · iexact HS0
    isplitl [HS1]; · iexact HS1
    isplitl [HS2]; · iexact HS2
    iexact Hg
  isplitl [Ho]; · iexact Ho
  isplitl [H0]
  · iexact H0
  isplitl [H1]
  · iexact H1
  isplitl [H2]
  · iexact H2
  isplitl [H3]
  · unfold owns; iexists _; isplitr
    swap; · iexact H3
    ipureintro; exact View.read_writes_of_cover _ _ _ _ _ (coverB_5 m c t h (xn m c t))
  isplitl [H4]
  · iapply (leaves_idle0_4 m c t (by omega)); iexact H4
  iapply (leaves_idle0_5 m c t (by omega)); iexact H5

set_option maxHeartbeats 4000000 in
theorem sound_C (c : Dev nD) (t : Fin cfg0.N) (h : 3 ≤ t.val % 12 ∧ t.val % 12 < 6) :
    bodyPre m (PhiX c (xn m c t)) c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, Phi_succ, leaves0_0, leaves0_1, leaves0_2]
  rw [leaves_live0_4 m c t (by omega), after0_4, src4_live t (by omega), out4_C m c t h]
  unfold PhiX
  unfold leftC_6
  iintro ⟨⟨HS0, HS1, HS2, Hg⟩, Ho, ⟨%d0, H0⟩, ⟨%d1, H1⟩, ⟨%d2, H2⟩, H3, ⟨%d4, H4⟩, H5⟩
  iapply ((runC m c t h (xn m c t)).2 Set.univ _)
  isplitl [H2]; · iexact H2
  isplitl [HS0]; · iexact HS0
  isplitl [H4]; · iexists _; iexact H4
  isplitl [HS1]; · iexact HS1
  iintro ⟨H2, HS0, ⟨%eH4, H4⟩, HS1⟩
  isplitl [HS0 HS1 HS2 Hg]
  · isplitl [HS0]
    · iexact HS0
    isplitl [HS1]; · iexact HS1
    isplitl [HS2]; · iexact HS2
    iexact Hg
  isplitl [Ho]; · iexact Ho
  isplitl [H0]
  · iexact H0
  isplitl [H1]
  · iexact H1
  isplitl [H2]
  · iexact H2
  isplitl [H3]
  · iapply (leaves_idle0_3 m c t (by omega)); iexact H3
  isplitl [H4]
  · unfold owns; iexists _; isplitr
    swap; · iexact H4
    ipureintro; exact View.read_writes_of_cover _ _ _ _ _ (coverC_6 m c t h (xn m c t))
  iapply (leaves_idle0_5 m c t (by omega)); iexact H5

set_option maxHeartbeats 4000000 in
theorem sound_D (c : Dev nD) (t : Fin cfg0.N) (h : 6 ≤ t.val % 12 ∧ t.val % 12 < 9) :
    bodyPre m (PhiX c (xn m c t)) c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, Phi_succ, leaves0_0, leaves0_1, leaves0_2]
  rw [leaves_live0_5 m c t (by omega), after0_5, src5_live t (by omega), out5_D m c t h]
  unfold PhiX
  unfold leftD_7
  iintro ⟨⟨HS0, HS1, HS2, Hg⟩, Ho, ⟨%d0, H0⟩, ⟨%d1, H1⟩, ⟨%d2, H2⟩, H3, H4, ⟨%d5, H5⟩⟩
  iapply ((runD m c t h (xn m c t)).2 Set.univ _)
  isplitl [H2]; · iexact H2
  isplitl [HS0]; · iexact HS0
  isplitl [H5]; · iexists _; iexact H5
  isplitl [HS1]; · iexact HS1
  isplitl [HS2]; · iexact HS2
  iintro ⟨H2, HS0, ⟨%eH5, H5⟩, HS1, HS2⟩
  isplitl [HS0 HS1 HS2 Hg]
  · isplitl [HS0]
    · iexact HS0
    isplitl [HS1]; · iexact HS1
    isplitl [HS2]; · iexact HS2
    iexact Hg
  isplitl [Ho]; · iexact Ho
  isplitl [H0]
  · iexact H0
  isplitl [H1]
  · iexact H1
  isplitl [H2]
  · iexact H2
  isplitl [H3]
  · iapply (leaves_idle0_3 m c t (by omega)); iexact H3
  isplitl [H4]
  · iapply (leaves_idle0_4 m c t (by omega)); iexact H4
  unfold owns; iexists _; isplitr
  swap; · iexact H5
  ipureintro; exact View.read_writes_of_cover _ _ _ _ _ (coverD_7 m c t h (xn m c t))

set_option maxHeartbeats 4000000 in
theorem sound_E (c : Dev nD) (t : Fin cfg0.N) (h : 9 ≤ t.val % 12) :
    bodyPre m (PhiX c (xn m c t)) c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, Phi_succ, leaves0_0, leaves0_1, leaves0_2]
  rw [leaves_live0_3 m c t (by omega), after0_3, src3_live t (by omega), out3_E m c t h]
  unfold PhiX
  unfold leftE_5
  iintro ⟨⟨HS0, HS1, HS2, Hg⟩, Ho, ⟨%d0, H0⟩, ⟨%d1, H1⟩, ⟨%d2, H2⟩, ⟨%d3, H3⟩, H4, H5⟩
  iapply ((runE m c t h (xn m c t)).2 Set.univ _)
  isplitl [H2]; · iexact H2
  isplitl [HS0]; · iexact HS0
  isplitl [H3]; · iexists _; iexact H3
  iintro ⟨H2, HS0, ⟨%eH3, H3⟩⟩
  isplitl [HS0 HS1 HS2 Hg]
  · isplitl [HS0]
    · iexact HS0
    isplitl [HS1]; · iexact HS1
    isplitl [HS2]; · iexact HS2
    iexact Hg
  isplitl [Ho]; · iexact Ho
  isplitl [H0]
  · iexact H0
  isplitl [H1]
  · iexact H1
  isplitl [H2]
  · iexact H2
  isplitl [H3]
  · unfold owns; iexists _; isplitr
    swap; · iexact H3
    ipureintro; exact View.read_writes_of_cover _ _ _ _ _ (coverE_5 m c t h (xn m c t))
  isplitl [H4]
  · iapply (leaves_idle0_4 m c t (by omega)); iexact H4
  iapply (leaves_idle0_5 m c t (by omega)); iexact H5

/-- The body at any point. -/
theorem sound_body (c : Dev nD) (t : Fin cfg0.N) :
    bodyPre m ((dats m 0 c).Φ t.castSucc) c t ⊢ wp frame (wpE (defs₀ (F := F)) Variants.none c none) Set.univ (bodyAt0 t) (fun _ => bodyPost m c t) := by
  rw [Phi_castSucc]
  by_cases hA : t.val % 12 = 0
  · refine BIBase.Entails.trans ?_ (sound_A m c t hA)
    unfold bodyPre
    exact sep_mono (PhiS_any m c _ _) .rfl
  rw [PhiS_mid m c t hA]
  by_cases hB : t.val % 12 < 3
  · exact sound_B m c t ⟨hA, hB⟩
  by_cases hC : t.val % 12 < 6
  · exact sound_C m c t ⟨by omega, hC⟩
  by_cases hD : t.val % 12 < 9
  · exact sound_D m c t ⟨by omega, hD⟩
  exact sound_E m c t (by omega)

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := PhiA_in c

theorem hout (c : Dev nD) : (dats m 0 c).Φ (Fin.last cfg0.N) ⊢ Pipeline.ΦA spec0 c :=
  (show PhiS m c (Fin.last cfg0.N).val (Nat.le_of_lt_succ (Fin.last cfg0.N).isLt) ⊢ _ from PhiS_any m c _ _).trans (PhiA_out c)

/-! ## The run and the frame -/

set_option backward.isDefEq.respectTransparency.types false in
/-- Every execution ends, with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The program leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.EvenPIdeal.Gen

end
-- ==== Proof.EvenPIdealTiles.lean ====
module

public import proofs.«01_k».proof.Proof.EvenPIdealFrame
public import Idealize.ShloMosaic.Lib.Pipeline.ValueKit
public import Idealize.ShloMosaic.Lib.Pointwise

@[expose] public section

set_option maxRecDepth 16384

/-! The pieces the even projection stores: a tile of the product in chunks of 128 columns, as it is, by residues of
    four, or by residues of sixteen. -/

noncomputable section
open Idealize.ShloMosaic Idealize.ShloMosaic.TcCoe Idealize.SL.Sem
namespace Cert.EvenPIdeal.Value
open Cert.EvenPIdeal Cert.EvenPIdeal.Gen

/-- A tile of 1024 rows and 1024 columns as eight chunks of 128 columns. -/
def chunks (P : FVec Ideal S1024x1024 .f32) (y : S8x1024x128.Idx) : EReal :=
  P (ix2 (⟨(y 1).val, (y 1).isLt⟩ : Fin 1024)
    (⟨(y 0).val * 128 + (y 2).val, by
      have h0 : (y 0).val < 8 := (y 0).isLt
      have h2 : (y 2).val < 128 := (y 2).isLt
      omega⟩ : Fin 1024))

/-- The chunks' rows by their residues modulo four. -/
def byFour (G : S8x1024x128.Idx → EReal) (y : S8x1x4x256x128.Idx) : EReal :=
  G (ix3 (⟨(y 0).val, (y 0).isLt⟩ : Fin 8)
    (⟨(y 2).val + 4 * (y 3).val, by
      have h2 : (y 2).val < 4 := (y 2).isLt
      have h3 : (y 3).val < 256 := (y 3).isLt
      omega⟩ : Fin 1024) (⟨(y 4).val, (y 4).isLt⟩ : Fin 128))

/-- The same as the intermediate buffer holds it. -/
def residues (G : S8x1024x128.Idx → EReal) (y : S8x4x256x128.Idx) : EReal :=
  G (ix3 (⟨(y 0).val, (y 0).isLt⟩ : Fin 8)
    (⟨(y 1).val + 4 * (y 2).val, by
      have h2 : (y 1).val < 4 := (y 1).isLt
      have h3 : (y 2).val < 256 := (y 2).isLt
      omega⟩ : Fin 1024) (⟨(y 3).val, (y 3).isLt⟩ : Fin 128))

/-- The chunks' rows by their residues modulo sixteen. -/
def bySixteen (G : S8x1024x128.Idx → EReal) (y : S8x1x16x64x128.Idx) : EReal :=
  G (ix3 (⟨(y 0).val, (y 0).isLt⟩ : Fin 8)
    (⟨(y 2).val + 16 * (y 3).val, by
      have h2 : (y 2).val < 16 := (y 2).isLt
      have h3 : (y 3).val < 64 := (y 3).isLt
      omega⟩ : Fin 1024) (⟨(y 4).val, (y 4).isLt⟩ : Fin 128))

theorem slice_at (P : FVec Ideal S1024x1024 .f32) (o : ℕ) (hs) (q : Fin 1024) (l : Fin 128) (ho : o + l.val < 1024) :
    (extractStridedSlice S1024x128 ![0, o] P hs : FVec Ideal S1024x128 .f32) (ix2 q l) = P (ix2 q ⟨o + l.val, ho⟩) := by
  pointwise

theorem cast_chunk {e : FTy} (Q : FVec Ideal S1024x128 e) (hsc) (x : S1x1024x128.Idx) :
    (shapeCast S1x1024x128 Q hsc : FVec Ideal S1x1024x128 e) x = Q (ix2 (⟨(x 1).val, (x 1).isLt⟩ : Fin 1024) (⟨(x 2).val, (x 2).isLt⟩ : Fin 128)) := by
  obtain ⟨a, q, l, rfl⟩ : ∃ (a : Fin 1) (q : Fin 1024) (l : Fin 128), x = ix3 a q l :=
    ⟨x 0, x 1, x 2, by funext a; fin_cases a <;> rfl⟩
  pointwise

theorem cast_quarter (Q : FVec Ideal S256x128 .bf16) (hsc) (x : S1x1x1x256x128.Idx) :
    (shapeCast S1x1x1x256x128 Q hsc : FVec Ideal S1x1x1x256x128 .bf16) x = Q (ix2 (⟨(x 3).val, (x 3).isLt⟩ : Fin 256) (⟨(x 4).val, (x 4).isLt⟩ : Fin 128)) := by
  obtain ⟨a, b, d, q, l, rfl⟩ : ∃ (a b d : Fin 1) (q : Fin 256) (l : Fin 128), x = ix5 a b d q l :=
    ⟨x 0, x 1, x 2, x 3, x 4, by funext a; fin_cases a <;> rfl⟩
  pointwise

theorem cast_residue (Q : FVec Ideal S256x128 .f32) (hsc) (x : S1x1x256x128.Idx) :
    (shapeCast S1x1x256x128 Q hsc : FVec Ideal S1x1x256x128 .f32) x = Q (ix2 (⟨(x 2).val, (x 2).isLt⟩ : Fin 256) (⟨(x 3).val, (x 3).isLt⟩ : Fin 128)) := by
  obtain ⟨a, b, q, l, rfl⟩ : ∃ (a b : Fin 1) (q : Fin 256) (l : Fin 128), x = ix4 a b q l :=
    ⟨x 0, x 1, x 2, x 3, by funext a; fin_cases a <;> rfl⟩
  pointwise

theorem cast_sixteenth (Q : FVec Ideal S64x128 .bf16) (hsc) (x : S1x1x1x64x128.Idx) :
    (shapeCast S1x1x1x64x128 Q hsc : FVec Ideal S1x1x1x64x128 .bf16) x = Q (ix2 (⟨(x 3).val, (x 3).isLt⟩ : Fin 64) (⟨(x 4).val, (x 4).isLt⟩ : Fin 128)) := by
  obtain ⟨a, b, d, q, l, rfl⟩ : ∃ (a b d : Fin 1) (q : Fin 64) (l : Fin 128), x = ix5 a b d q l :=
    ⟨x 0, x 1, x 2, x 3, x 4, by funext a; fin_cases a <;> rfl⟩
  pointwise

theorem trunc_at {s : Shape} (Q : FVec Ideal s .f32) (ht) (i : s.Idx) : (truncf .bf16 Q ht : FVec Ideal s .bf16) i = Q i := rfl

theorem flat_quarter (Q : FVec Ideal S1x256x128 .f32) (hsc) (q : Fin 256) (l : Fin 128) :
    (shapeCast S256x128 Q hsc : FVec Ideal S256x128 .f32) (ix2 q l) = Q (ix3 (0 : Fin 1) q l) := by
  pointwise

theorem flat_sixteenth (Q : FVec Ideal S1x1x64x128 .f32) (hsc) (q : Fin 64) (l : Fin 128) :
    (shapeCast S64x128 Q hsc : FVec Ideal S64x128 .f32) (ix2 q l) = Q (ix4 (0 : Fin 1) (0 : Fin 1) q l) := by
  pointwise

/-- A chunk stored in 32 bits. -/
theorem slab_piece (P : FVec Ideal S1024x1024 .f32) (c o : ℕ) (ho : o = c * 128) (hs) (hsc) (inb) (x : S1x1024x128.Idx) :
    (shapeCast S1x1024x128 (extractStridedSlice S1024x128 ![0, o] P hs : FVec Ideal S1024x128 .f32) hsc : FVec Ideal S1x1024x128 .f32) x
      = chunks P ((Rect.unit (s := S8x1024x128) ![c, 0, 0] S1x1024x128.size inb).emb x) := by
  subst ho
  have hc : c + 1 ≤ 8 := inb 0
  have h0 : (x 0).val < 1 := (x 0).isLt
  have h2 : (x 2).val < 128 := (x 2).isLt
  rw [cast_chunk, slice_at P _ hs _ _ (by show c * 128 + (x 2).val < 1024; omega)]
  unfold chunks
  refine congrArg P (congrArg₂ ix2 (Fin.ext ?_) (Fin.ext ?_))
  · show (x 1).val = 0 + 1 * (x 1).val; omega
  · show c * 128 + (x 2).val = (c + 1 * (x 0).val) * 128 + (0 + 1 * (x 2).val)
    rw [show (x 0).val = 0 by omega]; omega

/-- A chunk stored in 16 bits. -/
theorem chunk_piece (P : FVec Ideal S1024x1024 .f32) (c o : ℕ) (ho : o = c * 128) (hs) (ht) (hsc) (inb) (x : S1x1024x128.Idx) :
    (shapeCast S1x1024x128 (truncf .bf16 (extractStridedSlice S1024x128 ![0, o] P hs : FVec Ideal S1024x128 .f32) ht) hsc : FVec Ideal S1x1024x128 .bf16) x
      = chunks P ((Rect.unit (s := S8x1024x128) ![c, 0, 0] S1x1024x128.size inb).emb x) :=
  slab_piece P c o ho hs _ inb x

/-- Every fourth row of a chunk. -/
theorem strided_row (G : S8x1024x128.Idx → EReal) (v : View sig .tc .vmem S8x1024x128 .f32) (L : List (View.Piece (Elt Ideal) S8x1024x128 .f32))
    (hL : ∀ y, View.canon (Val := Elt Ideal) L y = G y) (c s : ℕ) (inb) (hc : c < 8) (hs : s < 4) (q : Fin 256) (l : Fin 128) :
    (v.readCov L { off := ![c, s, 0], size := S1x256x128.size, stride := ![1, 4, 1], inb := inb } : FVec Ideal S1x256x128 .f32) (ix3 (0 : Fin 1) q l)
      = G (ix3 (⟨c, hc⟩ : Fin 8) (⟨s + 4 * q.val, by omega⟩ : Fin 1024) l) := by
  rw [View.readCov_eq_canon']
  refine (hL _).trans (congrArg G (funext fun a => Fin.ext ?_))
  fin_cases a
  · rfl
  · rfl
  · show 0 + 1 * l.val = l.val; omega

theorem quarter_piece (G : S8x1024x128.Idx → EReal) (v : View sig .tc .vmem S8x1024x128 .f32) (L : List (View.Piece (Elt Ideal) S8x1024x128 .f32))
    (hL : ∀ y, View.canon (Val := Elt Ideal) L y = G y) (c s : ℕ) (inb) (hf) (ht) (hsc) (inb') (x : S1x1x1x256x128.Idx) :
    (shapeCast S1x1x1x256x128 (truncf .bf16 (shapeCast S256x128 (v.readCov L { off := ![c, s, 0], size := S1x256x128.size, stride := ![1, 4, 1], inb := inb } : FVec Ideal S1x256x128 .f32) hf : FVec Ideal S256x128 .f32) ht) hsc : FVec Ideal S1x1x1x256x128 .bf16) x
      = byFour G ((Rect.unit (s := S8x1x4x256x128) ![c, 0, s, 0, 0] S1x1x1x256x128.size inb').emb x) := by
  have hc : c + 1 ≤ 8 := inb' 0
  have hs : s + 1 ≤ 4 := inb' 2
  have h0 : (x 0).val < 1 := (x 0).isLt
  have h2 : (x 2).val < 1 := (x 2).isLt
  rw [cast_quarter]
  refine (flat_quarter _ hf _ _).trans ((strided_row G v L hL c s inb (by omega) (by omega) _ _).trans ?_)
  unfold byFour
  refine congrArg G (congr (congrArg₂ ix3 (Fin.ext ?_) (Fin.ext ?_)) (Fin.ext ?_))
  · show c = c + 1 * (x 0).val; omega
  · show s + 4 * (x 3).val = (s + 1 * (x 2).val) + 4 * (0 + 1 * (x 3).val); omega
  · show (x 4).val = 0 + 1 * (x 4).val; omega

theorem residue_piece (G : S8x1024x128.Idx → EReal) (v : View sig .tc .vmem S8x1024x128 .f32) (L : List (View.Piece (Elt Ideal) S8x1024x128 .f32))
    (hL : ∀ y, View.canon (Val := Elt Ideal) L y = G y) (c s : ℕ) (inb) (hf) (hsc) (inb') (x : S1x1x256x128.Idx) :
    (shapeCast S1x1x256x128 (shapeCast S256x128 (v.readCov L { off := ![c, s, 0], size := S1x256x128.size, stride := ![1, 4, 1], inb := inb } : FVec Ideal S1x256x128 .f32) hf : FVec Ideal S256x128 .f32) hsc : FVec Ideal S1x1x256x128 .f32) x
      = residues G ((Rect.unit (s := S8x4x256x128) ![c, s, 0, 0] S1x1x256x128.size inb').emb x) := by
  have hc : c + 1 ≤ 8 := inb' 0
  have hs : s + 1 ≤ 4 := inb' 1
  have h0 : (x 0).val < 1 := (x 0).isLt
  have h2 : (x 1).val < 1 := (x 1).isLt
  rw [cast_residue]
  refine (flat_quarter _ hf _ _).trans ((strided_row G v L hL c s inb (by omega) (by omega) _ _).trans ?_)
  unfold residues
  refine congrArg G (congr (congrArg₂ ix3 (Fin.ext ?_) (Fin.ext ?_)) (Fin.ext ?_))
  · show c = c + 1 * (x 0).val; omega
  · show s + 4 * (x 2).val = (s + 1 * (x 1).val) + 4 * (0 + 1 * (x 2).val); omega
  · show (x 3).val = 0 + 1 * (x 3).val; omega

/-- The intermediate buffer's pieces are the residues of `G`. -/
def Good (G : S8x1024x128.Idx → EReal) (L : List (View.Piece (Elt Ideal) S8x4x256x128 .f32)) : Prop :=
  ∀ p ∈ L, ∀ x : p.1.shape.Idx, p.2 x = residues G (p.1.emb x)

theorem good_cons (G : S8x1024x128.Idx → EReal) (p) (L) (hp : ∀ x : p.1.shape.Idx, p.2 x = residues G (p.1.emb x)) (hL : Good G L) : Good G (p :: L) := by
  intro q hq
  rcases List.mem_cons.mp hq with rfl | h
  · exact hp
  · exact hL q h

/-- Sixteenths of a chunk, read off the four pieces last stored. -/
theorem sixteenth_piece (G : S8x1024x128.Idx → EReal) (v : View sig .tc .vmem S8x4x256x128 .f32) (c s k : ℕ)
    (i0 i1 i2 i3) (w0 w1 w2 w3 : S1x1x256x128.Idx → Elt Ideal .f32) (L : List (View.Piece (Elt Ideal) S8x4x256x128 .f32))
    (hL : Good G ((⟨Rect.unit ![c, 3, 0, 0] S1x1x256x128.size i3, w3⟩ : View.Piece (Elt Ideal) S8x4x256x128 .f32) :: ⟨Rect.unit ![c, 2, 0, 0] S1x1x256x128.size i2, w2⟩ :: ⟨Rect.unit ![c, 1, 0, 0] S1x1x256x128.size i1, w1⟩ :: ⟨Rect.unit ![c, 0, 0, 0] S1x1x256x128.size i0, w0⟩ :: L))
    (o : ℕ) (ho : o = s + 4 * k) (inb) (hf) (ht) (hsc) (inb') (hs : s < 4) (hk : k < 4) (x : S1x1x1x64x128.Idx) :
    (shapeCast S1x1x1x64x128 (truncf .bf16 (shapeCast S64x128 (v.readCov ((⟨Rect.unit ![c, 3, 0, 0] S1x1x256x128.size i3, w3⟩ : View.Piece (Elt Ideal) S8x4x256x128 .f32) :: ⟨Rect.unit ![c, 2, 0, 0] S1x1x256x128.size i2, w2⟩ :: ⟨Rect.unit ![c, 1, 0, 0] S1x1x256x128.size i1, w1⟩ :: ⟨Rect.unit ![c, 0, 0, 0] S1x1x256x128.size i0, w0⟩ :: L) { off := ![c, s, k, 0], size := S1x1x64x128.size, stride := ![1, 1, 4, 1], inb := inb } : FVec Ideal S1x1x64x128 .f32) hf : FVec Ideal S64x128 .f32) ht) hsc : FVec Ideal S1x1x1x64x128 .bf16) x
      = bySixteen G ((Rect.unit (s := S8x1x16x64x128) ![c, 0, o, 0, 0] S1x1x1x64x128.size inb').emb x) := by
  subst ho
  have hc : c + 1 ≤ 8 := inb' 0
  have h0 : (x 0).val < 1 := (x 0).isLt
  have h2 : (x 2).val < 1 := (x 2).isLt
  have h3 : (x 3).val < 64 := (x 3).isLt
  have h4 : (x 4).val < 128 := (x 4).isLt
  rw [cast_sixteenth, trunc_at]
  refine (flat_sixteenth _ hf _ _).trans ?_
  rw [View.readCov_eq_canon']
  refine (View.canon_apply_of_pieces (residues G) _ (fun p hp x => hL p hp x) _ ?_).trans ?_
  · have key : ∀ (s' : ℕ) (i'), s' = s → ∀ j : S8x4x256x128.Idx, (j 0).val = c → (j 1).val = s → j ∈ (Rect.unit (s := S8x4x256x128) ![c, s', 0, 0] S1x1x256x128.size i').set := by
      intro s' i' e j e0 e1
      subst e
      refine Rect.mem_set_unit.mpr fun a => ?_
      have j2 : (j 2).val < 256 := (j 2).isLt
      have j3 : (j 3).val < 128 := (j 3).isLt
      fin_cases a
      · show c ≤ (j 0).val ∧ (j 0).val < c + 1; omega
      · show s' ≤ (j 1).val ∧ (j 1).val < s' + 1; omega
      · show 0 ≤ (j 2).val ∧ (j 2).val < 0 + 256; omega
      · show 0 ≤ (j 3).val ∧ (j 3).val < 0 + 128; omega
    have hcase : s = 3 ∨ s = 2 ∨ s = 1 ∨ s = 0 := by omega
    rcases hcase with h | h | h | h
    · exact ⟨_, List.mem_cons_self, key 3 i3 h.symm _ rfl rfl⟩
    · exact ⟨_, List.mem_cons_of_mem _ List.mem_cons_self, key 2 i2 h.symm _ rfl rfl⟩
    · exact ⟨_, List.mem_cons_of_mem _ (List.mem_cons_of_mem _ List.mem_cons_self), key 1 i1 h.symm _ rfl rfl⟩
    · exact ⟨_, List.mem_cons_of_mem _ (List.mem_cons_of_mem _ (List.mem_cons_of_mem _ List.mem_cons_self)), key 0 i0 h.symm _ rfl rfl⟩
  · unfold residues bySixteen
    refine congrArg G (congr (congrArg₂ ix3 (Fin.ext ?_) (Fin.ext ?_)) (Fin.ext ?_))
    · show c + 1 * 0 = c + 1 * (x 0).val; omega
    · show (s + 1 * 0) + 4 * (k + 4 * (x 3).val) = (s + 4 * k + 1 * (x 2).val) + 16 * (0 + 1 * (x 3).val); omega
    · show 0 + 1 * (x 4).val = 0 + 1 * (x 4).val; rfl

end Cert.EvenPIdeal.Value
-- ==== Proof.EvenPIdealLeft.lean ====
module

public import proofs.«01_k».proof.Proof.EvenPIdealTiles
public import Idealize.ShloMosaic.Lib.WholeRead

@[expose] public section

set_option maxRecDepth 16384

/-! What the points of the plain and by-four column tiles leave: the product's tile in the stored order. -/

noncomputable section
open Idealize.ShloMosaic Idealize.ShloMosaic.TcCoe Idealize.SL.Sem
namespace Cert.EvenPIdeal.Value
open Cert.EvenPIdeal Cert.EvenPIdeal.Gen

variable (m : (ℓ : Loc nD τ sig) → Buf (Elt Ideal) ℓ)

theorem whole_rows {a : Memref sig .tc .vmem S1024x2048 .bf16} (h : a.IsWhole) (X : Vec Ideal S1024x2048 .bf16) (inb) :
    View.readAt (Elt Ideal) a.view (Rect.unit (s := S1024x2048) ![0, 0] S1024x2048.size inb).toLoadRect (h.unread X) = X := by
  funext x
  refine (h.readAt_unread X _ x).trans (congrArg X (funext fun a => Fin.ext ?_))
  fin_cases a <;> exact (Nat.zero_add _).trans (Nat.one_mul _)

theorem whole_weight {a : Memref sig .tc .vmem S2048x1024 .bf16} (h : a.IsWhole) (X : Vec Ideal S2048x1024 .bf16) (inb) :
    View.readAt (Elt Ideal) a.view (Rect.unit (s := S2048x1024) ![0, 0] S2048x1024.size inb).toLoadRect (h.unread X) = X := by
  funext x
  refine (h.readAt_unread X _ x).trans (congrArg X (funext fun a => Fin.ext ?_))
  fin_cases a <;> exact (Nat.zero_add _).trans (Nat.one_mul _)

/-- The tile of the product a point forms: normalised rows by a tile of the weight, scaled where the tile holds queries. -/
def tile (i : grid0.Coords) (w : FVec Ideal S2048x1024 .bf16) (xs : FVec Ideal S1024x2048 .bf16) : FVec Ideal S1024x1024 .f32 :=
  mulf (matmul dot_S1024x2048_S2048x1024_S1024x1024_1_0_0_1_n_n none xs w (constant S1024x1024 .f32 0x00000000#32))
    (broadcast S1024x1024 (kernelRun0_B.sl.v14 (F := Ideal) i))

theorem tile_B (c : Dev nD) (i : grid0.Coords) (a4 : Memref sig .tc .vmem S2048x1024 .bf16) (h4 : a4.IsWhole) (a8 : Memref sig .tc .vmem S1024x2048 .bf16) (h8 : a8.IsWhole) (w : FVec Ideal S2048x1024 .bf16) (xs : FVec Ideal S1024x2048 .bf16) :
    kernelRun0_B.sl.v40 (F := Ideal) c i a4 h4 a8 h8 w xs = tile i w xs := by
  unfold kernelRun0_B.sl.v40 kernelRun0_B.sl.v38 kernelRun0_B.sl.v37 tile
  rw [whole_rows h8 xs, whole_weight h4 w, shapeCast_self]
  rfl

theorem tile_C (c : Dev nD) (i : grid0.Coords) (a4 : Memref sig .tc .vmem S2048x1024 .bf16) (h4 : a4.IsWhole) (a8 : Memref sig .tc .vmem S1024x2048 .bf16) (h8 : a8.IsWhole) (w : FVec Ideal S2048x1024 .bf16) (xs : FVec Ideal S1024x2048 .bf16) :
    kernelRun0_C.sl.v40 (F := Ideal) c i a4 h4 a8 h8 w xs = tile i w xs := by
  unfold kernelRun0_C.sl.v40 kernelRun0_C.sl.v38 kernelRun0_C.sl.v37 tile
  rw [whole_rows h8 xs, whole_weight h4 w, shapeCast_self]
  rfl

theorem tile_D (c : Dev nD) (i : grid0.Coords) (a4 : Memref sig .tc .vmem S2048x1024 .bf16) (h4 : a4.IsWhole) (a8 : Memref sig .tc .vmem S1024x2048 .bf16) (h8 : a8.IsWhole) (w : FVec Ideal S2048x1024 .bf16) (xs : FVec Ideal S1024x2048 .bf16) :
    kernelRun0_D.sl.v40 (F := Ideal) c i a4 h4 a8 h8 w xs = tile i w xs := by
  unfold kernelRun0_D.sl.v40 kernelRun0_D.sl.v38 kernelRun0_D.sl.v37 tile
  rw [whole_rows h8 xs, whole_weight h4 w, shapeCast_self]
  rfl

theorem tile_E (c : Dev nD) (i : grid0.Coords) (a4 : Memref sig .tc .vmem S2048x1024 .bf16) (h4 : a4.IsWhole) (a8 : Memref sig .tc .vmem S1024x2048 .bf16) (h8 : a8.IsWhole) (w : FVec Ideal S2048x1024 .bf16) (xs : FVec Ideal S1024x2048 .bf16) :
    kernelRun0_E.sl.v40 (F := Ideal) c i a4 h4 a8 h8 w xs = tile i w xs := by
  unfold kernelRun0_E.sl.v40 kernelRun0_E.sl.v38 kernelRun0_E.sl.v37 tile
  rw [whole_rows h8 xs, whole_weight h4 w, shapeCast_self]
  rfl

theorem leftB_at (c : Dev nD) (s : Fin cfg0.N) (h : s.val % 12 ≠ 0 ∧ s.val % 12 < 3) (xs : FVec Ideal S1024x2048 .bf16) (y : S8x1024x128.Idx) :
    leftB_5 m c s h xs y = chunks (tile (grid0.coords s) (iblk m c 2 s) xs) y := by
  unfold leftB_5
  rw [View.read_writes_junk_apply_eq_canon, ← tile_B c (grid0.coords s) (ms0_2 s) (hs0_2 s) scM0_0 (Memref.isWhole_whole _)]
  refine View.canon_apply_of_pieces (chunks (kernelRun0_B.sl.v40 (F := Ideal) c (grid0.coords s) (ms0_2 s) (hs0_2 s) scM0_0 (Memref.isWhole_whole _) (iblk m c 2 s) xs)) _ ?_ y (coverB_5 m c s h xs y)
  unfold runB kernelRun0_B
  dsimp only
  refine List.forall_mem_cons.mpr ⟨fun x => by dsimp only; exact chunk_piece (kernelRun0_B.sl.v40 (F := Ideal) c (grid0.coords s) (ms0_2 s) (hs0_2 s) scM0_0 (Memref.isWhole_whole _) (iblk m c 2 s) xs) 7 896 rfl _ _ _ (by decide +kernel) x, ?_⟩
  refine List.forall_mem_cons.mpr ⟨fun x => by dsimp only; exact chunk_piece (kernelRun0_B.sl.v40 (F := Ideal) c (grid0.coords s) (ms0_2 s) (hs0_2 s) scM0_0 (Memref.isWhole_whole _) (iblk m c 2 s) xs) 6 768 rfl _ _ _ (by decide +kernel) x, ?_⟩
  refine List.forall_mem_cons.mpr ⟨fun x => by dsimp only; exact chunk_piece (kernelRun0_B.sl.v40 (F := Ideal) c (grid0.coords s) (ms0_2 s) (hs0_2 s) scM0_0 (Memref.isWhole_whole _) (iblk m c 2 s) xs) 5 640 rfl _ _ _ (by decide +kernel) x, ?_⟩
  refine List.forall_mem_cons.mpr ⟨fun x => by dsimp only; exact chunk_piece (kernelRun0_B.sl.v40 (F := Ideal) c (grid0.coords s) (ms0_2 s) (hs0_2 s) scM0_0 (Memref.isWhole_whole _) (iblk m c 2 s) xs) 4 512 rfl _ _ _ (by decide +kernel) x, ?_⟩
  refine List.forall_mem_cons.mpr ⟨fun x => by dsimp only; exact chunk_piece (kernelRun0_B.sl.v40 (F := Ideal) c (grid0.coords s) (ms0_2 s) (hs0_2 s) scM0_0 (Memref.isWhole_whole _) (iblk m c 2 s) xs) 3 384 rfl _ _ _ (by decide +kernel) x, ?_⟩
  refine List.forall_mem_cons.mpr ⟨fun x => by dsimp only; exact chunk_piece (kernelRun0_B.sl.v40 (F := Ideal) c (grid0.coords s) (ms0_2 s) (hs0_2 s) scM0_0 (Memref.isWhole_whole _) (iblk m c 2 s) xs) 2 256 rfl _ _ _ (by decide +kernel) x, ?_⟩
  refine List.forall_mem_cons.mpr ⟨fun x => by dsimp only; exact chunk_piece (kernelRun0_B.sl.v40 (F := Ideal) c (grid0.coords s) (ms0_2 s) (hs0_2 s) scM0_0 (Memref.isWhole_whole _) (iblk m c 2 s) xs) 1 128 rfl _ _ _ (by decide +kernel) x, ?_⟩
  refine List.forall_mem_cons.mpr ⟨fun x => by dsimp only; exact chunk_piece (kernelRun0_B.sl.v40 (F := Ideal) c (grid0.coords s) (ms0_2 s) (hs0_2 s) scM0_0 (Memref.isWhole_whole _) (iblk m c 2 s) xs) 0 0 rfl _ _ _ (by decide +kernel) x, ?_⟩
  exact fun _ h => absurd h List.not_mem_nil

theorem leftE_at (c : Dev nD) (s : Fin cfg0.N) (h : 9 ≤ s.val % 12) (xs : FVec Ideal S1024x2048 .bf16) (y : S8x1024x128.Idx) :
    leftE_5 m c s h xs y = chunks (tile (grid0.coords s) (iblk m c 2 s) xs) y := by
  unfold leftE_5
  rw [View.read_writes_junk_apply_eq_canon, ← tile_E c (grid0.coords s) (ms0_2 s) (hs0_2 s) scM0_0 (Memref.isWhole_whole _)]
  refine View.canon_apply_of_pieces (chunks (kernelRun0_E.sl.v40 (F := Ideal) c (grid0.coords s) (ms0_2 s) (hs0_2 s) scM0_0 (Memref.isWhole_whole _) (iblk m c 2 s) xs)) _ ?_ y (coverE_5 m c s h xs y)
  unfold runE kernelRun0_E
  dsimp only
  refine List.forall_mem_cons.mpr ⟨fun x => by dsimp only; exact chunk_piece (kernelRun0_E.sl.v40 (F := Ideal) c (grid0.coords s) (ms0_2 s) (hs0_2 s) scM0_0 (Memref.isWhole_whole _) (iblk m c 2 s) xs) 7 896 rfl _ _ _ (by decide +kernel) x, ?_⟩
  refine List.forall_mem_cons.mpr ⟨fun x => by dsimp only; exact chunk_piece (kernelRun0_E.sl.v40 (F := Ideal) c (grid0.coords s) (ms0_2 s) (hs0_2 s) scM0_0 (Memref.isWhole_whole _) (iblk m c 2 s) xs) 6 768 rfl _ _ _ (by decide +kernel) x, ?_⟩
  refine List.forall_mem_cons.mpr ⟨fun x => by dsimp only; exact chunk_piece (kernelRun0_E.sl.v40 (F := Ideal) c (grid0.coords s) (ms0_2 s) (hs0_2 s) scM0_0 (Memref.isWhole_whole _) (iblk m c 2 s) xs) 5 640 rfl _ _ _ (by decide +kernel) x, ?_⟩
  refine List.forall_mem_cons.mpr ⟨fun x => by dsimp only; exact chunk_piece (kernelRun0_E.sl.v40 (F := Ideal) c (grid0.coords s) (ms0_2 s) (hs0_2 s) scM0_0 (Memref.isWhole_whole _) (iblk m c 2 s) xs) 4 512 rfl _ _ _ (by decide +kernel) x, ?_⟩
  refine List.forall_mem_cons.mpr ⟨fun x => by dsimp only; exact chunk_piece (kernelRun0_E.sl.v40 (F := Ideal) c (grid0.coords s) (ms0_2 s) (hs0_2 s) scM0_0 (Memref.isWhole_whole _) (iblk m c 2 s) xs) 3 384 rfl _ _ _ (by decide +kernel) x, ?_⟩
  refine List.forall_mem_cons.mpr ⟨fun x => by dsimp only; exact chunk_piece (kernelRun0_E.sl.v40 (F := Ideal) c (grid0.coords s) (ms0_2 s) (hs0_2 s) scM0_0 (Memref.isWhole_whole _) (iblk m c 2 s) xs) 2 256 rfl _ _ _ (by decide +kernel) x, ?_⟩
  refine List.forall_mem_cons.mpr ⟨fun x => by dsimp only; exact chunk_piece (kernelRun0_E.sl.v40 (F := Ideal) c (grid0.coords s) (ms0_2 s) (hs0_2 s) scM0_0 (Memref.isWhole_whole _) (iblk m c 2 s) xs) 1 128 rfl _ _ _ (by decide +kernel) x, ?_⟩
  refine List.forall_mem_cons.mpr ⟨fun x => by dsimp only; exact chunk_piece (kernelRun0_E.sl.v40 (F := Ideal) c (grid0.coords s) (ms0_2 s) (hs0_2 s) scM0_0 (Memref.isWhole_whole _) (iblk m c 2 s) xs) 0 0 rfl _ _ _ (by decide +kernel) x, ?_⟩
  exact fun _ h => absurd h List.not_mem_nil

/-- The 32-bit chunks the later reads see. -/
theorem slabC (c : Dev nD) (i : grid0.Coords) (a4 : Memref sig .tc .vmem S2048x1024 .bf16) (h4 : a4.IsWhole) (a8 : Memref sig .tc .vmem S1024x2048 .bf16) (h8 : a8.IsWhole) (w : FVec Ideal S2048x1024 .bf16) (xs : FVec Ideal S1024x2048 .bf16) (y : S8x1024x128.Idx) :
    View.canon (Val := Elt Ideal) (kernelRun0_C.sl.H3_8 (F := Ideal) c i a4 h4 a8 h8 w xs) y = chunks (kernelRun0_C.sl.v40 (F := Ideal) c i a4 h4 a8 h8 w xs) y := by
  refine View.canon_apply_of_pieces (chunks (kernelRun0_C.sl.v40 (F := Ideal) c i a4 h4 a8 h8 w xs)) _ ?_ y
    (View.cover_of_tiledL (kernelRun0_C.sl.H3_8 (F := Ideal) c i a4 h4 a8 h8 w xs) S1x1024x128.size (by sl_kernel_rfl) y)
  unfold kernelRun0_C.sl.H3_8
  refine List.forall_mem_cons.mpr ⟨fun x => by dsimp only; exact slab_piece (kernelRun0_C.sl.v40 (F := Ideal) c i a4 h4 a8 h8 w xs) 7 896 rfl _ _ (by decide +kernel) x, ?_⟩
  refine List.forall_mem_cons.mpr ⟨fun x => by dsimp only; exact slab_piece (kernelRun0_C.sl.v40 (F := Ideal) c i a4 h4 a8 h8 w xs) 6 768 rfl _ _ (by decide +kernel) x, ?_⟩
  refine List.forall_mem_cons.mpr ⟨fun x => by dsimp only; exact slab_piece (kernelRun0_C.sl.v40 (F := Ideal) c i a4 h4 a8 h8 w xs) 5 640 rfl _ _ (by decide +kernel) x, ?_⟩
  refine List.forall_mem_cons.mpr ⟨fun x => by dsimp only; exact slab_piece (kernelRun0_C.sl.v40 (F := Ideal) c i a4 h4 a8 h8 w xs) 4 512 rfl _ _ (by decide +kernel) x, ?_⟩
  refine List.forall_mem_cons.mpr ⟨fun x => by dsimp only; exact slab_piece (kernelRun0_C.sl.v40 (F := Ideal) c i a4 h4 a8 h8 w xs) 3 384 rfl _ _ (by decide +kernel) x, ?_⟩
  refine List.forall_mem_cons.mpr ⟨fun x => by dsimp only; exact slab_piece (kernelRun0_C.sl.v40 (F := Ideal) c i a4 h4 a8 h8 w xs) 2 256 rfl _ _ (by decide +kernel) x, ?_⟩
  refine List.forall_mem_cons.mpr ⟨fun x => by dsimp only; exact slab_piece (kernelRun0_C.sl.v40 (F := Ideal) c i a4 h4 a8 h8 w xs) 1 128 rfl _ _ (by decide +kernel) x, ?_⟩
  refine List.forall_mem_cons.mpr ⟨fun x => by dsimp only; exact slab_piece (kernelRun0_C.sl.v40 (F := Ideal) c i a4 h4 a8 h8 w xs) 0 0 rfl _ _ (by decide +kernel) x, ?_⟩
  exact fun _ h => absurd h List.not_mem_nil

theorem leftC_at (c : Dev nD) (s : Fin cfg0.N) (h : 3 ≤ s.val % 12 ∧ s.val % 12 < 6) (xs : FVec Ideal S1024x2048 .bf16) (y : S8x1x4x256x128.Idx) :
    leftC_6 m c s h xs y = byFour (chunks (tile (grid0.coords s) (iblk m c 2 s) xs)) y := by
  unfold leftC_6
  rw [View.read_writes_junk_apply_eq_canon, ← tile_C c (grid0.coords s) (ms0_2 s) (hs0_2 s) scM0_0 (Memref.isWhole_whole _)]
  refine View.canon_apply_of_pieces (byFour (chunks (kernelRun0_C.sl.v40 (F := Ideal) c (grid0.coords s) (ms0_2 s) (hs0_2 s) scM0_0 (Memref.isWhole_whole _) (iblk m c 2 s) xs))) _ ?_ y (coverC_6 m c s h xs y)
  have hL := slabC c (grid0.coords s) (ms0_2 s) (hs0_2 s) scM0_0 (Memref.isWhole_whole _) (iblk m c 2 s) xs
  unfold runC kernelRun0_C
  dsimp only
  refine List.forall_mem_cons.mpr ⟨fun x => by dsimp only; exact quarter_piece _ scM0_1.view _ hL 7 3 _ _ _ _ (by decide +kernel) x, ?_⟩
  refine List.forall_mem_cons.mpr ⟨fun x => by dsimp only; exact quarter_piece _ scM0_1.view _ hL 7 2 _ _ _ _ (by decide +kernel) x, ?_⟩
  refine List.forall_mem_cons.mpr ⟨fun x => by dsimp only; exact quarter_piece _ scM0_1.view _ hL 7 1 _ _ _ _ (by decide +kernel) x, ?_⟩
  refine List.forall_mem_cons.mpr ⟨fun x => by dsimp only; exact quarter_piece _ scM0_1.view _ hL 7 0 _ _ _ _ (by decide +kernel) x, ?_⟩
  refine List.forall_mem_cons.mpr ⟨fun x => by dsimp only; exact quarter_piece _ scM0_1.view _ hL 6 3 _ _ _ _ (by decide +kernel) x, ?_⟩
  refine List.forall_mem_cons.mpr ⟨fun x => by dsimp only; exact quarter_piece _ scM0_1.view _ hL 6 2 _ _ _ _ (by decide +kernel) x, ?_⟩
  refine List.forall_mem_cons.mpr ⟨fun x => by dsimp only; exact quarter_piece _ scM0_1.view _ hL 6 1 _ _ _ _ (by decide +kernel) x, ?_⟩
  refine List.forall_mem_cons.mpr ⟨fun x => by dsimp only; exact quarter_piece _ scM0_1.view _ hL 6 0 _ _ _ _ (by decide +kernel) x, ?_⟩
  refine List.forall_mem_cons.mpr ⟨fun x => by dsimp only; exact quarter_piece _ scM0_1.view _ hL 5 3 _ _ _ _ (by decide +kernel) x, ?_⟩
  refine List.forall_mem_cons.mpr ⟨fun x => by dsimp only; exact quarter_piece _ scM0_1.view _ hL 5 2 _ _ _ _ (by decide +kernel) x, ?_⟩
  refine List.forall_mem_cons.mpr ⟨fun x => by dsimp only; exact quarter_piece _ scM0_1.view _ hL 5 1 _ _ _ _ (by decide +kernel) x, ?_⟩
  refine List.forall_mem_cons.mpr ⟨fun x => by dsimp only; exact quarter_piece _ scM0_1.view _ hL 5 0 _ _ _ _ (by decide +kernel) x, ?_⟩
  refine List.forall_mem_cons.mpr ⟨fun x => by dsimp only; exact quarter_piece _ scM0_1.view _ hL 4 3 _ _ _ _ (by decide +kernel) x, ?_⟩
  refine List.forall_mem_cons.mpr ⟨fun x => by dsimp only; exact quarter_piece _ scM0_1.view _ hL 4 2 _ _ _ _ (by decide +kernel) x, ?_⟩
  refine List.forall_mem_cons.mpr ⟨fun x => by dsimp only; exact quarter_piece _ scM0_1.view _ hL 4 1 _ _ _ _ (by decide +kernel) x, ?_⟩
  refine List.forall_mem_cons.mpr ⟨fun x => by dsimp only; exact quarter_piece _ scM0_1.view _ hL 4 0 _ _ _ _ (by decide +kernel) x, ?_⟩
  refine List.forall_mem_cons.mpr ⟨fun x => by dsimp only; exact quarter_piece _ scM0_1.view _ hL 3 3 _ _ _ _ (by decide +kernel) x, ?_⟩
  refine List.forall_mem_cons.mpr ⟨fun x => by dsimp only; exact quarter_piece _ scM0_1.view _ hL 3 2 _ _ _ _ (by decide +kernel) x, ?_⟩
  refine List.forall_mem_cons.mpr ⟨fun x => by dsimp only; exact quarter_piece _ scM0_1.view _ hL 3 1 _ _ _ _ (by decide +kernel) x, ?_⟩
  refine List.forall_mem_cons.mpr ⟨fun x => by dsimp only; exact quarter_piece _ scM0_1.view _ hL 3 0 _ _ _ _ (by decide +kernel) x, ?_⟩
  refine List.forall_mem_cons.mpr ⟨fun x => by dsimp only; exact quarter_piece _ scM0_1.view _ hL 2 3 _ _ _ _ (by decide +kernel) x, ?_⟩
  refine List.forall_mem_cons.mpr ⟨fun x => by dsimp only; exact quarter_piece _ scM0_1.view _ hL 2 2 _ _ _ _ (by decide +kernel) x, ?_⟩
  refine List.forall_mem_cons.mpr ⟨fun x => by dsimp only; exact quarter_piece _ scM0_1.view _ hL 2 1 _ _ _ _ (by decide +kernel) x, ?_⟩
  refine List.forall_mem_cons.mpr ⟨fun x => by dsimp only; exact quarter_piece _ scM0_1.view _ hL 2 0 _ _ _ _ (by decide +kernel) x, ?_⟩
  refine List.forall_mem_cons.mpr ⟨fun x => by dsimp only; exact quarter_piece _ scM0_1.view _ hL 1 3 _ _ _ _ (by decide +kernel) x, ?_⟩
  refine List.forall_mem_cons.mpr ⟨fun x => by dsimp only; exact quarter_piece _ scM0_1.view _ hL 1 2 _ _ _ _ (by decide +kernel) x, ?_⟩
  refine List.forall_mem_cons.mpr ⟨fun x => by dsimp only; exact quarter_piece _ scM0_1.view _ hL 1 1 _ _ _ _ (by decide +kernel) x, ?_⟩
  refine List.forall_mem_cons.mpr ⟨fun x => by dsimp only; exact quarter_piece _ scM0_1.view _ hL 1 0 _ _ _ _ (by decide +kernel) x, ?_⟩
  refine List.forall_mem_cons.mpr ⟨fun x => by dsimp only; exact quarter_piece _ scM0_1.view _ hL 0 3 _ _ _ _ (by decide +kernel) x, ?_⟩
  refine List.forall_mem_cons.mpr ⟨fun x => by dsimp only; exact quarter_piece _ scM0_1.view _ hL 0 2 _ _ _ _ (by decide +kernel) x, ?_⟩
  refine List.forall_mem_cons.mpr ⟨fun x => by dsimp only; exact quarter_piece _ scM0_1.view _ hL 0 1 _ _ _ _ (by decide +kernel) x, ?_⟩
  refine List.forall_mem_cons.mpr ⟨fun x => by dsimp only; exact quarter_piece _ scM0_1.view _ hL 0 0 _ _ _ _ (by decide +kernel) x, ?_⟩
  exact fun _ h => absurd h List.not_mem_nil

end Cert.EvenPIdeal.Value
-- ==== Proof.EvenPSpec.lean ====
module

public import proofs.«01_k».proof.Proof.FfnSpec

@[expose] public section

/-! The even layers' projection as a plain function: an entry of the normalised rows' product with the weights, scaled
    in the columns that hold queries, and the three arrays it is laid out in. -/

noncomputable section
open Idealize.ShloMosaic

namespace Cert.EvenPSpec
open Cert.FfnSpec

/-- The factor of a group of 1024 columns: every third group, from the first on, holds queries. -/
def factor (u : ℕ) : EReal := if u % 3 = 0 then Ideal.ofBits .f32 0x3E0293EE#32 else Ideal.ofBits .f32 0x3F800000#32

variable (X : Fin 16384 → Fin 2048 → EReal) (g : Fin 2048 → EReal) (W : Fin 2048 → Fin 12288 → EReal)

/-- Row `r`, column `e` of the scaled projection. -/
def val (r : Fin 16384) (e : Fin 12288) : EReal := (∑ k : Fin 2048, rms (X r) g k * W k e) * factor (e.val / 1024)

/-- The first and the last quarter of the columns, head by head. -/
def plain (n : Fin 48) (r : Fin 16384) (l : Fin 128) : EReal :=
  val X g W r ⟨(if n.val < 24 then n.val else n.val + 48) * 128 + l.val, by split <;> omega⟩
/-- The second quarter, head by head, the positions by residue modulo four. -/
def fours (n : Fin 24) (b : Fin 4) (o : Fin 4) (q : Fin 1024) (l : Fin 128) : EReal :=
  val X g W ⟨b.val * 4096 + q.val * 4 + o.val, by omega⟩ ⟨3072 + n.val * 128 + l.val, by omega⟩
/-- The third quarter, head by head, the positions by residue modulo sixteen. -/
def sixteens (n : Fin 24) (b : Fin 4) (o : Fin 16) (q : Fin 256) (l : Fin 128) : EReal :=
  val X g W ⟨b.val * 4096 + q.val * 16 + o.val, by omega⟩ ⟨6144 + n.val * 128 + l.val, by omega⟩

end Cert.EvenPSpec
-- ==== Proof.EvenPIdealLeftA.lean ====
module

public import proofs.«01_k».proof.Proof.EvenPIdealLeft
public import proofs.«01_k».proof.Proof.EvenPSpec
public import Idealize.ShloMosaic.Lib.WholeRead
public import Idealize.ShloMosaic.Lib.Pointwise

@[expose] public section

set_option maxRecDepth 16384

/-! What the first point of a row of tiles leaves: the normalised rows and the product's first tile; and an entry of a tile. -/

noncomputable section
open Idealize.ShloMosaic Idealize.ShloMosaic.TcCoe Idealize.SL.Sem
namespace Cert.EvenPIdeal.Value
open Cert.EvenPIdeal Cert.EvenPIdeal.Gen Cert.FfnSpec Cert.EvenPSpec

variable (m : (ℓ : Loc nD τ sig) → Buf (Elt Ideal) ℓ)

theorem whole_block {a : Memref sig .tc .vmem S1024x2048 .f32} (h : a.IsWhole) (X : Vec Ideal S1024x2048 .f32) (inb) :
    View.readAt (Elt Ideal) a.view (Rect.unit (s := S1024x2048) ![0, 0] S1024x2048.size inb).toLoadRect (h.unread X) = X := by
  funext x
  refine (h.readAt_unread X _ x).trans (congrArg X (funext fun a => Fin.ext ?_))
  fin_cases a <;> exact (Nat.zero_add _).trans (Nat.one_mul _)

theorem whole_gain {a : Memref sig .tc .vmem S1x2048 .f32} (h : a.IsWhole) (X : Vec Ideal S1x2048 .f32) (inb) :
    View.readAt (Elt Ideal) a.view (Rect.unit (s := S1x2048) ![0, 0] S1x2048.size inb).toLoadRect (h.unread X) = X := by
  funext x
  refine (h.readAt_unread X _ x).trans (congrArg X (funext fun a => Fin.ext ?_))
  fin_cases a <;> exact (Nat.zero_add _).trans (Nat.one_mul _)

theorem normed_at (c : Dev nD) (a2 : Memref sig .tc .vmem S1024x2048 .f32) (h2 : a2.IsWhole) (a3 : Memref sig .tc .vmem S1x2048 .f32) (h3 : a3.IsWhole)
    (x : FVec Ideal S1024x2048 .f32) (g : FVec Ideal S1x2048 .f32) (q : Fin 1024) (k : Fin 2048) :
    (kernelRun0_A.sl.v53 (F := Ideal) c a2 h2 a3 h3 x g : FVec Ideal S1024x2048 .bf16) (ix2 q k)
      = rms (fun k => x (ix2 q k)) (fun k => g (ix2 (0 : Fin 1) k)) k := by
  unfold kernelRun0_A.sl.v53 kernelRun0_A.sl.v50 kernelRun0_A.sl.v49 kernelRun0_A.sl.v48 kernelRun0_A.sl.v47 kernelRun0_A.sl.v46 kernelRun0_A.sl.v45 kernelRun0_A.sl.v44
    kernelRun0_A.sl.v43 kernelRun0_A.sl.v42 kernelRun0_A.sl.v41 kernelRun0_A.sl.v40 kernelRun0_A.sl.v39 kernelRun0_A.sl.v38 kernelRun0_A.sl.v37
    kernelRun0_A.sl.cst_20 kernelRun0_A.sl.cst_21 rms
  rw [whole_block h2 x, whole_gain h3 g, shapeCast_self, shapeCast_self]
  pointwise

theorem rows_canon (c : Dev nD) (a2 : Memref sig .tc .vmem S1024x2048 .f32) (h2 : a2.IsWhole) (a3 : Memref sig .tc .vmem S1x2048 .f32) (h3 : a3.IsWhole)
    (x : FVec Ideal S1024x2048 .f32) (g : FVec Ideal S1x2048 .f32) (y : S1024x2048.Idx) :
    View.canon (Val := Elt Ideal) (kernelRun0_A.sl.H4_1 (F := Ideal) c a2 h2 a3 h3 x g) y = kernelRun0_A.sl.v53 (F := Ideal) c a2 h2 a3 h3 x g y := by
  refine View.canon_apply_of_pieces (kernelRun0_A.sl.v53 (F := Ideal) c a2 h2 a3 h3 x g) _ ?_ y
    (View.cover_of_tiledL (kernelRun0_A.sl.H4_1 (F := Ideal) c a2 h2 a3 h3 x g) S1024x2048.size (by sl_kernel_rfl) y)
  unfold kernelRun0_A.sl.H4_1
  refine List.forall_mem_cons.mpr ⟨fun x' => congrArg (kernelRun0_A.sl.v53 (F := Ideal) c a2 h2 a3 h3 x g) (funext fun a => Fin.ext ?_), fun _ h => absurd h List.not_mem_nil⟩
  fin_cases a <;> exact ((Nat.zero_add _).trans (Nat.one_mul _)).symm

theorem leftA_rows (c : Dev nD) (s : Fin cfg0.N) (h : s.val % 12 = 0) (q : Fin 1024) (k : Fin 2048) :
    (leftA_8 m c s h : FVec Ideal S1024x2048 .bf16) (ix2 q k)
      = rms (fun k => (iblk m c 0 s : FVec Ideal S1024x2048 .f32) (ix2 q k)) (fun k => (iblk m c 1 s : FVec Ideal S1x2048 .f32) (ix2 (0 : Fin 1) k)) k := by
  unfold leftA_8
  rw [View.read_writes_junk_apply_eq_canon]
  refine (rows_canon c (ms0_0 s) (hs0_0 s) (ms0_1 s) (hs0_1 s) (iblk m c 0 s) (iblk m c 1 s) (ix2 q k)).trans ?_
  exact normed_at c _ _ _ _ _ _ q k

theorem tile_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a8 : Memref sig .tc .vmem S1024x2048 .bf16)
    (x : FVec Ideal S1024x2048 .f32) (g : FVec Ideal S1x2048 .f32) (w : FVec Ideal S2048x1024 .bf16) :
    kernelRun0_A.sl.v40_1 (F := Ideal) c i a2 h2 a3 h3 a4 h4 a8 x g w = tile i w (kernelRun0_A.sl.v53 (F := Ideal) c a2 h2 a3 h3 x g) := by
  have e : kernelRun0_A.sl.v35 (F := Ideal) c a2 h2 a3 h3 a8 x g = kernelRun0_A.sl.v53 (F := Ideal) c a2 h2 a3 h3 x g := by
    unfold kernelRun0_A.sl.v35
    rw [View.readCov_eq_canon']
    funext y
    refine (rows_canon c a2 h2 a3 h3 x g _).trans (congrArg _ (funext fun a => Fin.ext ?_))
    fin_cases a <;> exact (Nat.zero_add _).trans (Nat.one_mul _)
  unfold kernelRun0_A.sl.v40_1 kernelRun0_A.sl.v38_1 kernelRun0_A.sl.v37_1 tile
  rw [e, whole_weight h4 w, shapeCast_self]
  rfl

theorem leftA_rows_eq (c : Dev nD) (s : Fin cfg0.N) (h : s.val % 12 = 0) :
    (leftA_8 m c s h : FVec Ideal S1024x2048 .bf16) = kernelRun0_A.sl.v53 (F := Ideal) c (ms0_0 s) (hs0_0 s) (ms0_1 s) (hs0_1 s) (iblk m c 0 s) (iblk m c 1 s) := by
  funext y
  unfold leftA_8
  rw [View.read_writes_junk_apply_eq_canon]
  exact rows_canon c (ms0_0 s) (hs0_0 s) (ms0_1 s) (hs0_1 s) (iblk m c 0 s) (iblk m c 1 s) y

theorem leftA_at (c : Dev nD) (s : Fin cfg0.N) (h : s.val % 12 = 0) (y : S8x1024x128.Idx) :
    leftA_5 m c s h y = chunks (tile (grid0.coords s) (iblk m c 2 s) (leftA_8 m c s h)) y := by
  rw [leftA_rows_eq, ← tile_A c (grid0.coords s) (ms0_0 s) (hs0_0 s) (ms0_1 s) (hs0_1 s) (ms0_2 s) (hs0_2 s) scM0_0]
  unfold leftA_5
  rw [View.read_writes_junk_apply_eq_canon]
  refine View.canon_apply_of_pieces (chunks (kernelRun0_A.sl.v40_1 (F := Ideal) c (grid0.coords s) (ms0_0 s) (hs0_0 s) (ms0_1 s) (hs0_1 s) (ms0_2 s) (hs0_2 s) scM0_0 (iblk m c 0 s) (iblk m c 1 s) (iblk m c 2 s))) _ ?_ y (coverA_5 m c s h y)
  unfold runA kernelRun0_A
  dsimp only
  refine List.forall_mem_cons.mpr ⟨fun x => by dsimp only; exact chunk_piece (kernelRun0_A.sl.v40_1 (F := Ideal) c (grid0.coords s) (ms0_0 s) (hs0_0 s) (ms0_1 s) (hs0_1 s) (ms0_2 s) (hs0_2 s) scM0_0 (iblk m c 0 s) (iblk m c 1 s) (iblk m c 2 s)) 7 896 rfl _ _ _ (by decide +kernel) x, ?_⟩
  refine List.forall_mem_cons.mpr ⟨fun x => by dsimp only; exact chunk_piece (kernelRun0_A.sl.v40_1 (F := Ideal) c (grid0.coords s) (ms0_0 s) (hs0_0 s) (ms0_1 s) (hs0_1 s) (ms0_2 s) (hs0_2 s) scM0_0 (iblk m c 0 s) (iblk m c 1 s) (iblk m c 2 s)) 6 768 rfl _ _ _ (by decide +kernel) x, ?_⟩
  refine List.forall_mem_cons.mpr ⟨fun x => by dsimp only; exact chunk_piece (kernelRun0_A.sl.v40_1 (F := Ideal) c (grid0.coords s) (ms0_0 s) (hs0_0 s) (ms0_1 s) (hs0_1 s) (ms0_2 s) (hs0_2 s) scM0_0 (iblk m c 0 s) (iblk m c 1 s) (iblk m c 2 s)) 5 640 rfl _ _ _ (by decide +kernel) x, ?_⟩
  refine List.forall_mem_cons.mpr ⟨fun x => by dsimp only; exact chunk_piece (kernelRun0_A.sl.v40_1 (F := Ideal) c (grid0.coords s) (ms0_0 s) (hs0_0 s) (ms0_1 s) (hs0_1 s) (ms0_2 s) (hs0_2 s) scM0_0 (iblk m c 0 s) (iblk m c 1 s) (iblk m c 2 s)) 4 512 rfl _ _ _ (by decide +kernel) x, ?_⟩
  refine List.forall_mem_cons.mpr ⟨fun x => by dsimp only; exact chunk_piece (kernelRun0_A.sl.v40_1 (F := Ideal) c (grid0.coords s) (ms0_0 s) (hs0_0 s) (ms0_1 s) (hs0_1 s) (ms0_2 s) (hs0_2 s) scM0_0 (iblk m c 0 s) (iblk m c 1 s) (iblk m c 2 s)) 3 384 rfl _ _ _ (by decide +kernel) x, ?_⟩
  refine List.forall_mem_cons.mpr ⟨fun x => by dsimp only; exact chunk_piece (kernelRun0_A.sl.v40_1 (F := Ideal) c (grid0.coords s) (ms0_0 s) (hs0_0 s) (ms0_1 s) (hs0_1 s) (ms0_2 s) (hs0_2 s) scM0_0 (iblk m c 0 s) (iblk m c 1 s) (iblk m c 2 s)) 2 256 rfl _ _ _ (by decide +kernel) x, ?_⟩
  refine List.forall_mem_cons.mpr ⟨fun x => by dsimp only; exact chunk_piece (kernelRun0_A.sl.v40_1 (F := Ideal) c (grid0.coords s) (ms0_0 s) (hs0_0 s) (ms0_1 s) (hs0_1 s) (ms0_2 s) (hs0_2 s) scM0_0 (iblk m c 0 s) (iblk m c 1 s) (iblk m c 2 s)) 1 128 rfl _ _ _ (by decide +kernel) x, ?_⟩
  refine List.forall_mem_cons.mpr ⟨fun x => by dsimp only; exact chunk_piece (kernelRun0_A.sl.v40_1 (F := Ideal) c (grid0.coords s) (ms0_0 s) (hs0_0 s) (ms0_1 s) (hs0_1 s) (ms0_2 s) (hs0_2 s) scM0_0 (iblk m c 0 s) (iblk m c 1 s) (iblk m c 2 s)) 0 0 rfl _ _ _ (by decide +kernel) x, ?_⟩
  exact fun _ h => absurd h List.not_mem_nil

theorem factor_bit : ∀ t : Fin cfg0.N, kernelRun0_B.sl.v13 (grid0.coords t) = if t.val % 12 % 3 = 0 then 1#1 else 0#1 :=
  (by decide +kernel : ∀ t : Fin grid0.N, _)

theorem factor_at (t : Fin cfg0.N) : kernelRun0_B.sl.v14 (F := Ideal) (grid0.coords t) = factor (t.val % 12) := by
  unfold kernelRun0_B.sl.v14 factor kernelRun0_B.sl.cst kernelRun0_B.sl.cst_6
  rw [factor_bit]
  by_cases h : t.val % 12 % 3 = 0
  · rw [if_pos h, if_pos h]; rfl
  · rw [if_neg h, if_neg h]; rfl

theorem tile_at (t : Fin cfg0.N) (w : FVec Ideal S2048x1024 .bf16) (xs : FVec Ideal S1024x2048 .bf16) (q l : Fin 1024) :
    tile (grid0.coords t) w xs (ix2 q l) = (∑ k : Fin 2048, xs (ix2 q k) * w (ix2 k l)) * factor (t.val % 12) := by
  rw [← factor_at]
  unfold tile
  pointwise

end Cert.EvenPIdeal.Value
-- ==== Proof.EvenPIdealLeftD.lean ====
module

public import proofs.«01_k».proof.Proof.EvenPIdealLeft
public import Idealize.ShloMosaic.Lib.WholeRead

@[expose] public section

set_option maxRecDepth 16384

/-! What the points of the by-sixteen column tiles leave. -/

noncomputable section
open Idealize.ShloMosaic Idealize.ShloMosaic.TcCoe Idealize.SL.Sem
namespace Cert.EvenPIdeal.Value
open Cert.EvenPIdeal Cert.EvenPIdeal.Gen

variable (m : (ℓ : Loc nD τ sig) → Buf (Elt Ideal) ℓ)

/-- The 32-bit chunks the later reads see. -/
theorem slabD (c : Dev nD) (i : grid0.Coords) (a4 : Memref sig .tc .vmem S2048x1024 .bf16) (h4 : a4.IsWhole) (a8 : Memref sig .tc .vmem S1024x2048 .bf16) (h8 : a8.IsWhole) (w : FVec Ideal S2048x1024 .bf16) (xs : FVec Ideal S1024x2048 .bf16) (y : S8x1024x128.Idx) :
    View.canon (Val := Elt Ideal) (kernelRun0_D.sl.H3_8 (F := Ideal) c i a4 h4 a8 h8 w xs) y = chunks (kernelRun0_D.sl.v40 (F := Ideal) c i a4 h4 a8 h8 w xs) y := by
  refine View.canon_apply_of_pieces (chunks (kernelRun0_D.sl.v40 (F := Ideal) c i a4 h4 a8 h8 w xs)) _ ?_ y
    (View.cover_of_tiledL (kernelRun0_D.sl.H3_8 (F := Ideal) c i a4 h4 a8 h8 w xs) S1x1024x128.size (by sl_kernel_rfl) y)
  unfold kernelRun0_D.sl.H3_8
  refine List.forall_mem_cons.mpr ⟨fun x => by dsimp only; exact slab_piece (kernelRun0_D.sl.v40 (F := Ideal) c i a4 h4 a8 h8 w xs) 7 896 rfl _ _ (by decide +kernel) x, ?_⟩
  refine List.forall_mem_cons.mpr ⟨fun x => by dsimp only; exact slab_piece (kernelRun0_D.sl.v40 (F := Ideal) c i a4 h4 a8 h8 w xs) 6 768 rfl _ _ (by decide +kernel) x, ?_⟩
  refine List.forall_mem_cons.mpr ⟨fun x => by dsimp only; exact slab_piece (kernelRun0_D.sl.v40 (F := Ideal) c i a4 h4 a8 h8 w xs) 5 640 rfl _ _ (by decide +kernel) x, ?_⟩
  refine List.forall_mem_cons.mpr ⟨fun x => by dsimp only; exact slab_piece (kernelRun0_D.sl.v40 (F := Ideal) c i a4 h4 a8 h8 w xs) 4 512 rfl _ _ (by decide +kernel) x, ?_⟩
  refine List.forall_mem_cons.mpr ⟨fun x => by dsimp only; exact slab_piece (kernelRun0_D.sl.v40 (F := Ideal) c i a4 h4 a8 h8 w xs) 3 384 rfl _ _ (by decide +kernel) x, ?_⟩
  refine List.forall_mem_cons.mpr ⟨fun x => by dsimp only; exact slab_piece (kernelRun0_D.sl.v40 (F := Ideal) c i a4 h4 a8 h8 w xs) 2 256 rfl _ _ (by decide +kernel) x, ?_⟩
  refine List.forall_mem_cons.mpr ⟨fun x => by dsimp only; exact slab_piece (kernelRun0_D.sl.v40 (F := Ideal) c i a4 h4 a8 h8 w xs) 1 128 rfl _ _ (by decide +kernel) x, ?_⟩
  refine List.forall_mem_cons.mpr ⟨fun x => by dsimp only; exact slab_piece (kernelRun0_D.sl.v40 (F := Ideal) c i a4 h4 a8 h8 w xs) 0 0 rfl _ _ (by decide +kernel) x, ?_⟩
  exact fun _ h => absurd h List.not_mem_nil

theorem good0 (c : Dev nD) (i : grid0.Coords) (a4 : Memref sig .tc .vmem S2048x1024 .bf16) (h4 : a4.IsWhole) (a8 : Memref sig .tc .vmem S1024x2048 .bf16) (h8 : a8.IsWhole) (a9 : Memref sig .tc .vmem S8x1024x128 .f32) (w : FVec Ideal S2048x1024 .bf16) (xs : FVec Ideal S1024x2048 .bf16) :
    Good (chunks (kernelRun0_D.sl.v40 (F := Ideal) c i a4 h4 a8 h8 w xs)) (kernelRun0_D.sl.H4_4 (F := Ideal) c i a4 h4 a8 h8 a9 w xs) :=
  (good_cons _ _ _ (fun x => by dsimp only; exact residue_piece _ a9.view _ (slabD c i a4 h4 a8 h8 w xs) 0 3 _ _ _ (by decide +kernel) x)
    (good_cons _ _ _ (fun x => by dsimp only; exact residue_piece _ a9.view _ (slabD c i a4 h4 a8 h8 w xs) 0 2 _ _ _ (by decide +kernel) x)
    (good_cons _ _ _ (fun x => by dsimp only; exact residue_piece _ a9.view _ (slabD c i a4 h4 a8 h8 w xs) 0 1 _ _ _ (by decide +kernel) x)
    (good_cons _ _ _ (fun x => by dsimp only; exact residue_piece _ a9.view _ (slabD c i a4 h4 a8 h8 w xs) 0 0 _ _ _ (by decide +kernel) x)
    ((fun _ h => absurd h List.not_mem_nil))))))

theorem good1 (c : Dev nD) (i : grid0.Coords) (a4 : Memref sig .tc .vmem S2048x1024 .bf16) (h4 : a4.IsWhole) (a8 : Memref sig .tc .vmem S1024x2048 .bf16) (h8 : a8.IsWhole) (a9 : Memref sig .tc .vmem S8x1024x128 .f32) (w : FVec Ideal S2048x1024 .bf16) (xs : FVec Ideal S1024x2048 .bf16) :
    Good (chunks (kernelRun0_D.sl.v40 (F := Ideal) c i a4 h4 a8 h8 w xs)) (kernelRun0_D.sl.H4_8 (F := Ideal) c i a4 h4 a8 h8 a9 w xs) :=
  (good_cons _ _ _ (fun x => by dsimp only; exact residue_piece _ a9.view _ (slabD c i a4 h4 a8 h8 w xs) 1 3 _ _ _ (by decide +kernel) x)
    (good_cons _ _ _ (fun x => by dsimp only; exact residue_piece _ a9.view _ (slabD c i a4 h4 a8 h8 w xs) 1 2 _ _ _ (by decide +kernel) x)
    (good_cons _ _ _ (fun x => by dsimp only; exact residue_piece _ a9.view _ (slabD c i a4 h4 a8 h8 w xs) 1 1 _ _ _ (by decide +kernel) x)
    (good_cons _ _ _ (fun x => by dsimp only; exact residue_piece _ a9.view _ (slabD c i a4 h4 a8 h8 w xs) 1 0 _ _ _ (by decide +kernel) x)
    (good0 c i a4 h4 a8 h8 a9 w xs)))))

theorem good2 (c : Dev nD) (i : grid0.Coords) (a4 : Memref sig .tc .vmem S2048x1024 .bf16) (h4 : a4.IsWhole) (a8 : Memref sig .tc .vmem S1024x2048 .bf16) (h8 : a8.IsWhole) (a9 : Memref sig .tc .vmem S8x1024x128 .f32) (w : FVec Ideal S2048x1024 .bf16) (xs : FVec Ideal S1024x2048 .bf16) :
    Good (chunks (kernelRun0_D.sl.v40 (F := Ideal) c i a4 h4 a8 h8 w xs)) (kernelRun0_D.sl.H4_12 (F := Ideal) c i a4 h4 a8 h8 a9 w xs) :=
  (good_cons _ _ _ (fun x => by dsimp only; exact residue_piece _ a9.view _ (slabD c i a4 h4 a8 h8 w xs) 2 3 _ _ _ (by decide +kernel) x)
    (good_cons _ _ _ (fun x => by dsimp only; exact residue_piece _ a9.view _ (slabD c i a4 h4 a8 h8 w xs) 2 2 _ _ _ (by decide +kernel) x)
    (good_cons _ _ _ (fun x => by dsimp only; exact residue_piece _ a9.view _ (slabD c i a4 h4 a8 h8 w xs) 2 1 _ _ _ (by decide +kernel) x)
    (good_cons _ _ _ (fun x => by dsimp only; exact residue_piece _ a9.view _ (slabD c i a4 h4 a8 h8 w xs) 2 0 _ _ _ (by decide +kernel) x)
    (good1 c i a4 h4 a8 h8 a9 w xs)))))

theorem good3 (c : Dev nD) (i : grid0.Coords) (a4 : Memref sig .tc .vmem S2048x1024 .bf16) (h4 : a4.IsWhole) (a8 : Memref sig .tc .vmem S1024x2048 .bf16) (h8 : a8.IsWhole) (a9 : Memref sig .tc .vmem S8x1024x128 .f32) (w : FVec Ideal S2048x1024 .bf16) (xs : FVec Ideal S1024x2048 .bf16) :
    Good (chunks (kernelRun0_D.sl.v40 (F := Ideal) c i a4 h4 a8 h8 w xs)) (kernelRun0_D.sl.H4_16 (F := Ideal) c i a4 h4 a8 h8 a9 w xs) :=
  (good_cons _ _ _ (fun x => by dsimp only; exact residue_piece _ a9.view _ (slabD c i a4 h4 a8 h8 w xs) 3 3 _ _ _ (by decide +kernel) x)
    (good_cons _ _ _ (fun x => by dsimp only; exact residue_piece _ a9.view _ (slabD c i a4 h4 a8 h8 w xs) 3 2 _ _ _ (by decide +kernel) x)
    (good_cons _ _ _ (fun x => by dsimp only; exact residue_piece _ a9.view _ (slabD c i a4 h4 a8 h8 w xs) 3 1 _ _ _ (by decide +kernel) x)
    (good_cons _ _ _ (fun x => by dsimp only; exact residue_piece _ a9.view _ (slabD c i a4 h4 a8 h8 w xs) 3 0 _ _ _ (by decide +kernel) x)
    (good2 c i a4 h4 a8 h8 a9 w xs)))))

theorem good4 (c : Dev nD) (i : grid0.Coords) (a4 : Memref sig .tc .vmem S2048x1024 .bf16) (h4 : a4.IsWhole) (a8 : Memref sig .tc .vmem S1024x2048 .bf16) (h8 : a8.IsWhole) (a9 : Memref sig .tc .vmem S8x1024x128 .f32) (w : FVec Ideal S2048x1024 .bf16) (xs : FVec Ideal S1024x2048 .bf16) :
    Good (chunks (kernelRun0_D.sl.v40 (F := Ideal) c i a4 h4 a8 h8 w xs)) (kernelRun0_D.sl.H4_20 (F := Ideal) c i a4 h4 a8 h8 a9 w xs) :=
  (good_cons _ _ _ (fun x => by dsimp only; exact residue_piece _ a9.view _ (slabD c i a4 h4 a8 h8 w xs) 4 3 _ _ _ (by decide +kernel) x)
    (good_cons _ _ _ (fun x => by dsimp only; exact residue_piece _ a9.view _ (slabD c i a4 h4 a8 h8 w xs) 4 2 _ _ _ (by decide +kernel) x)
    (good_cons _ _ _ (fun x => by dsimp only; exact residue_piece _ a9.view _ (slabD c i a4 h4 a8 h8 w xs) 4 1 _ _ _ (by decide +kernel) x)
    (good_cons _ _ _ (fun x => by dsimp only; exact residue_piece _ a9.view _ (slabD c i a4 h4 a8 h8 w xs) 4 0 _ _ _ (by decide +kernel) x)
    (good3 c i a4 h4 a8 h8 a9 w xs)))))

theorem good5 (c : Dev nD) (i : grid0.Coords) (a4 : Memref sig .tc .vmem S2048x1024 .bf16) (h4 : a4.IsWhole) (a8 : Memref sig .tc .vmem S1024x2048 .bf16) (h8 : a8.IsWhole) (a9 : Memref sig .tc .vmem S8x1024x128 .f32) (w : FVec Ideal S2048x1024 .bf16) (xs : FVec Ideal S1024x2048 .bf16) :
    Good (chunks (kernelRun0_D.sl.v40 (F := Ideal) c i a4 h4 a8 h8 w xs)) (kernelRun0_D.sl.H4_24 (F := Ideal) c i a4 h4 a8 h8 a9 w xs) :=
  (good_cons _ _ _ (fun x => by dsimp only; exact residue_piece _ a9.view _ (slabD c i a4 h4 a8 h8 w xs) 5 3 _ _ _ (by decide +kernel) x)
    (good_cons _ _ _ (fun x => by dsimp only; exact residue_piece _ a9.view _ (slabD c i a4 h4 a8 h8 w xs) 5 2 _ _ _ (by decide +kernel) x)
    (good_cons _ _ _ (fun x => by dsimp only; exact residue_piece _ a9.view _ (slabD c i a4 h4 a8 h8 w xs) 5 1 _ _ _ (by decide +kernel) x)
    (good_cons _ _ _ (fun x => by dsimp only; exact residue_piece _ a9.view _ (slabD c i a4 h4 a8 h8 w xs) 5 0 _ _ _ (by decide +kernel) x)
    (good4 c i a4 h4 a8 h8 a9 w xs)))))

theorem good6 (c : Dev nD) (i : grid0.Coords) (a4 : Memref sig .tc .vmem S2048x1024 .bf16) (h4 : a4.IsWhole) (a8 : Memref sig .tc .vmem S1024x2048 .bf16) (h8 : a8.IsWhole) (a9 : Memref sig .tc .vmem S8x1024x128 .f32) (w : FVec Ideal S2048x1024 .bf16) (xs : FVec Ideal S1024x2048 .bf16) :
    Good (chunks (kernelRun0_D.sl.v40 (F := Ideal) c i a4 h4 a8 h8 w xs)) (kernelRun0_D.sl.H4_28 (F := Ideal) c i a4 h4 a8 h8 a9 w xs) :=
  (good_cons _ _ _ (fun x => by dsimp only; exact residue_piece _ a9.view _ (slabD c i a4 h4 a8 h8 w xs) 6 3 _ _ _ (by decide +kernel) x)
    (good_cons _ _ _ (fun x => by dsimp only; exact residue_piece _ a9.view _ (slabD c i a4 h4 a8 h8 w xs) 6 2 _ _ _ (by decide +kernel) x)
    (good_cons _ _ _ (fun x => by dsimp only; exact residue_piece _ a9.view _ (slabD c i a4 h4 a8 h8 w xs) 6 1 _ _ _ (by decide +kernel) x)
    (good_cons _ _ _ (fun x => by dsimp only; exact residue_piece _ a9.view _ (slabD c i a4 h4 a8 h8 w xs) 6 0 _ _ _ (by decide +kernel) x)
    (good5 c i a4 h4 a8 h8 a9 w xs)))))

theorem good7 (c : Dev nD) (i : grid0.Coords) (a4 : Memref sig .tc .vmem S2048x1024 .bf16) (h4 : a4.IsWhole) (a8 : Memref sig .tc .vmem S1024x2048 .bf16) (h8 : a8.IsWhole) (a9 : Memref sig .tc .vmem S8x1024x128 .f32) (w : FVec Ideal S2048x1024 .bf16) (xs : FVec Ideal S1024x2048 .bf16) :
    Good (chunks (kernelRun0_D.sl.v40 (F := Ideal) c i a4 h4 a8 h8 w xs)) (kernelRun0_D.sl.H4_32 (F := Ideal) c i a4 h4 a8 h8 a9 w xs) :=
  (good_cons _ _ _ (fun x => by dsimp only; exact residue_piece _ a9.view _ (slabD c i a4 h4 a8 h8 w xs) 7 3 _ _ _ (by decide +kernel) x)
    (good_cons _ _ _ (fun x => by dsimp only; exact residue_piece _ a9.view _ (slabD c i a4 h4 a8 h8 w xs) 7 2 _ _ _ (by decide +kernel) x)
    (good_cons _ _ _ (fun x => by dsimp only; exact residue_piece _ a9.view _ (slabD c i a4 h4 a8 h8 w xs) 7 1 _ _ _ (by decide +kernel) x)
    (good_cons _ _ _ (fun x => by dsimp only; exact residue_piece _ a9.view _ (slabD c i a4 h4 a8 h8 w xs) 7 0 _ _ _ (by decide +kernel) x)
    (good6 c i a4 h4 a8 h8 a9 w xs)))))

theorem leftD_at (c : Dev nD) (s : Fin cfg0.N) (h : 6 ≤ s.val % 12 ∧ s.val % 12 < 9) (xs : FVec Ideal S1024x2048 .bf16) (y : S8x1x16x64x128.Idx) :
    leftD_7 m c s h xs y = bySixteen (chunks (tile (grid0.coords s) (iblk m c 2 s) xs)) y := by
  unfold leftD_7
  rw [View.read_writes_junk_apply_eq_canon, ← tile_D c (grid0.coords s) (ms0_2 s) (hs0_2 s) scM0_0 (Memref.isWhole_whole _)]
  refine View.canon_apply_of_pieces (bySixteen (chunks (kernelRun0_D.sl.v40 (F := Ideal) c (grid0.coords s) (ms0_2 s) (hs0_2 s) scM0_0 (Memref.isWhole_whole _) (iblk m c 2 s) xs))) _ ?_ y (coverD_7 m c s h xs y)
  have g0 := good0 c (grid0.coords s) (ms0_2 s) (hs0_2 s) scM0_0 (Memref.isWhole_whole _) scM0_1 (iblk m c 2 s) xs
  have g1 := good1 c (grid0.coords s) (ms0_2 s) (hs0_2 s) scM0_0 (Memref.isWhole_whole _) scM0_1 (iblk m c 2 s) xs
  have g2 := good2 c (grid0.coords s) (ms0_2 s) (hs0_2 s) scM0_0 (Memref.isWhole_whole _) scM0_1 (iblk m c 2 s) xs
  have g3 := good3 c (grid0.coords s) (ms0_2 s) (hs0_2 s) scM0_0 (Memref.isWhole_whole _) scM0_1 (iblk m c 2 s) xs
  have g4 := good4 c (grid0.coords s) (ms0_2 s) (hs0_2 s) scM0_0 (Memref.isWhole_whole _) scM0_1 (iblk m c 2 s) xs
  have g5 := good5 c (grid0.coords s) (ms0_2 s) (hs0_2 s) scM0_0 (Memref.isWhole_whole _) scM0_1 (iblk m c 2 s) xs
  have g6 := good6 c (grid0.coords s) (ms0_2 s) (hs0_2 s) scM0_0 (Memref.isWhole_whole _) scM0_1 (iblk m c 2 s) xs
  have g7 := good7 c (grid0.coords s) (ms0_2 s) (hs0_2 s) scM0_0 (Memref.isWhole_whole _) scM0_1 (iblk m c 2 s) xs
  unfold runD kernelRun0_D
  dsimp only
  refine List.forall_mem_cons.mpr ⟨fun x => by dsimp only; exact sixteenth_piece _ scM0_2.view 7 3 3 _ _ _ _ _ _ _ _ _ g7 15 rfl _ _ _ _ (by decide +kernel) (by decide) (by decide) x, ?_⟩
  refine List.forall_mem_cons.mpr ⟨fun x => by dsimp only; exact sixteenth_piece _ scM0_2.view 7 2 3 _ _ _ _ _ _ _ _ _ g7 14 rfl _ _ _ _ (by decide +kernel) (by decide) (by decide) x, ?_⟩
  refine List.forall_mem_cons.mpr ⟨fun x => by dsimp only; exact sixteenth_piece _ scM0_2.view 7 1 3 _ _ _ _ _ _ _ _ _ g7 13 rfl _ _ _ _ (by decide +kernel) (by decide) (by decide) x, ?_⟩
  refine List.forall_mem_cons.mpr ⟨fun x => by dsimp only; exact sixteenth_piece _ scM0_2.view 7 0 3 _ _ _ _ _ _ _ _ _ g7 12 rfl _ _ _ _ (by decide +kernel) (by decide) (by decide) x, ?_⟩
  refine List.forall_mem_cons.mpr ⟨fun x => by dsimp only; exact sixteenth_piece _ scM0_2.view 7 3 2 _ _ _ _ _ _ _ _ _ g7 11 rfl _ _ _ _ (by decide +kernel) (by decide) (by decide) x, ?_⟩
  refine List.forall_mem_cons.mpr ⟨fun x => by dsimp only; exact sixteenth_piece _ scM0_2.view 7 2 2 _ _ _ _ _ _ _ _ _ g7 10 rfl _ _ _ _ (by decide +kernel) (by decide) (by decide) x, ?_⟩
  refine List.forall_mem_cons.mpr ⟨fun x => by dsimp only; exact sixteenth_piece _ scM0_2.view 7 1 2 _ _ _ _ _ _ _ _ _ g7 9 rfl _ _ _ _ (by decide +kernel) (by decide) (by decide) x, ?_⟩
  refine List.forall_mem_cons.mpr ⟨fun x => by dsimp only; exact sixteenth_piece _ scM0_2.view 7 0 2 _ _ _ _ _ _ _ _ _ g7 8 rfl _ _ _ _ (by decide +kernel) (by decide) (by decide) x, ?_⟩
  refine List.forall_mem_cons.mpr ⟨fun x => by dsimp only; exact sixteenth_piece _ scM0_2.view 7 3 1 _ _ _ _ _ _ _ _ _ g7 7 rfl _ _ _ _ (by decide +kernel) (by decide) (by decide) x, ?_⟩
  refine List.forall_mem_cons.mpr ⟨fun x => by dsimp only; exact sixteenth_piece _ scM0_2.view 7 2 1 _ _ _ _ _ _ _ _ _ g7 6 rfl _ _ _ _ (by decide +kernel) (by decide) (by decide) x, ?_⟩
  refine List.forall_mem_cons.mpr ⟨fun x => by dsimp only; exact sixteenth_piece _ scM0_2.view 7 1 1 _ _ _ _ _ _ _ _ _ g7 5 rfl _ _ _ _ (by decide +kernel) (by decide) (by decide) x, ?_⟩
  refine List.forall_mem_cons.mpr ⟨fun x => by dsimp only; exact sixteenth_piece _ scM0_2.view 7 0 1 _ _ _ _ _ _ _ _ _ g7 4 rfl _ _ _ _ (by decide +kernel) (by decide) (by decide) x, ?_⟩
  refine List.forall_mem_cons.mpr ⟨fun x => by dsimp only; exact sixteenth_piece _ scM0_2.view 7 3 0 _ _ _ _ _ _ _ _ _ g7 3 rfl _ _ _ _ (by decide +kernel) (by decide) (by decide) x, ?_⟩
  refine List.forall_mem_cons.mpr ⟨fun x => by dsimp only; exact sixteenth_piece _ scM0_2.view 7 2 0 _ _ _ _ _ _ _ _ _ g7 2 rfl _ _ _ _ (by decide +kernel) (by decide) (by decide) x, ?_⟩
  refine List.forall_mem_cons.mpr ⟨fun x => by dsimp only; exact sixteenth_piece _ scM0_2.view 7 1 0 _ _ _ _ _ _ _ _ _ g7 1 rfl _ _ _ _ (by decide +kernel) (by decide) (by decide) x, ?_⟩
  refine List.forall_mem_cons.mpr ⟨fun x => by dsimp only; exact sixteenth_piece _ scM0_2.view 7 0 0 _ _ _ _ _ _ _ _ _ g7 0 rfl _ _ _ _ (by decide +kernel) (by decide) (by decide) x, ?_⟩
  refine List.forall_mem_cons.mpr ⟨fun x => by dsimp only; exact sixteenth_piece _ scM0_2.view 6 3 3 _ _ _ _ _ _ _ _ _ g6 15 rfl _ _ _ _ (by decide +kernel) (by decide) (by decide) x, ?_⟩
  refine List.forall_mem_cons.mpr ⟨fun x => by dsimp only; exact sixteenth_piece _ scM0_2.view 6 2 3 _ _ _ _ _ _ _ _ _ g6 14 rfl _ _ _ _ (by decide +kernel) (by decide) (by decide) x, ?_⟩
  refine List.forall_mem_cons.mpr ⟨fun x => by dsimp only; exact sixteenth_piece _ scM0_2.view 6 1 3 _ _ _ _ _ _ _ _ _ g6 13 rfl _ _ _ _ (by decide +kernel) (by decide) (by decide) x, ?_⟩
  refine List.forall_mem_cons.mpr ⟨fun x => by dsimp only; exact sixteenth_piece _ scM0_2.view 6 0 3 _ _ _ _ _ _ _ _ _ g6 12 rfl _ _ _ _ (by decide +kernel) (by decide) (by decide) x, ?_⟩
  refine List.forall_mem_cons.mpr ⟨fun x => by dsimp only; exact sixteenth_piece _ scM0_2.view 6 3 2 _ _ _ _ _ _ _ _ _ g6 11 rfl _ _ _ _ (by decide +kernel) (by decide) (by decide) x, ?_⟩
  refine List.forall_mem_cons.mpr ⟨fun x => by dsimp only; exact sixteenth_piece _ scM0_2.view 6 2 2 _ _ _ _ _ _ _ _ _ g6 10 rfl _ _ _ _ (by decide +kernel) (by decide) (by decide) x, ?_⟩
  refine List.forall_mem_cons.mpr ⟨fun x => by dsimp only; exact sixteenth_piece _ scM0_2.view 6 1 2 _ _ _ _ _ _ _ _ _ g6 9 rfl _ _ _ _ (by decide +kernel) (by decide) (by decide) x, ?_⟩
  refine List.forall_mem_cons.mpr ⟨fun x => by dsimp only; exact sixteenth_piece _ scM0_2.view 6 0 2 _ _ _ _ _ _ _ _ _ g6 8 rfl _ _ _ _ (by decide +kernel) (by decide) (by decide) x, ?_⟩
  refine List.forall_mem_cons.mpr ⟨fun x => by dsimp only; exact sixteenth_piece _ scM0_2.view 6 3 1 _ _ _ _ _ _ _ _ _ g6 7 rfl _ _ _ _ (by decide +kernel) (by decide) (by decide) x, ?_⟩
  refine List.forall_mem_cons.mpr ⟨fun x => by dsimp only; exact sixteenth_piece _ scM0_2.view 6 2 1 _ _ _ _ _ _ _ _ _ g6 6 rfl _ _ _ _ (by decide +kernel) (by decide) (by decide) x, ?_⟩
  refine List.forall_mem_cons.mpr ⟨fun x => by dsimp only; exact sixteenth_piece _ scM0_2.view 6 1 1 _ _ _ _ _ _ _ _ _ g6 5 rfl _ _ _ _ (by decide +kernel) (by decide) (by decide) x, ?_⟩
  refine List.forall_mem_cons.mpr ⟨fun x => by dsimp only; exact sixteenth_piece _ scM0_2.view 6 0 1 _ _ _ _ _ _ _ _ _ g6 4 rfl _ _ _ _ (by decide +kernel) (by decide) (by decide) x, ?_⟩
  refine List.forall_mem_cons.mpr ⟨fun x => by dsimp only; exact sixteenth_piece _ scM0_2.view 6 3 0 _ _ _ _ _ _ _ _ _ g6 3 rfl _ _ _ _ (by decide +kernel) (by decide) (by decide) x, ?_⟩
  refine List.forall_mem_cons.mpr ⟨fun x => by dsimp only; exact sixteenth_piece _ scM0_2.view 6 2 0 _ _ _ _ _ _ _ _ _ g6 2 rfl _ _ _ _ (by decide +kernel) (by decide) (by decide) x, ?_⟩
  refine List.forall_mem_cons.mpr ⟨fun x => by dsimp only; exact sixteenth_piece _ scM0_2.view 6 1 0 _ _ _ _ _ _ _ _ _ g6 1 rfl _ _ _ _ (by decide +kernel) (by decide) (by decide) x, ?_⟩
  refine List.forall_mem_cons.mpr ⟨fun x => by dsimp only; exact sixteenth_piece _ scM0_2.view 6 0 0 _ _ _ _ _ _ _ _ _ g6 0 rfl _ _ _ _ (by decide +kernel) (by decide) (by decide) x, ?_⟩
  refine List.forall_mem_cons.mpr ⟨fun x => by dsimp only; exact sixteenth_piece _ scM0_2.view 5 3 3 _ _ _ _ _ _ _ _ _ g5 15 rfl _ _ _ _ (by decide +kernel) (by decide) (by decide) x, ?_⟩
  refine List.forall_mem_cons.mpr ⟨fun x => by dsimp only; exact sixteenth_piece _ scM0_2.view 5 2 3 _ _ _ _ _ _ _ _ _ g5 14 rfl _ _ _ _ (by decide +kernel) (by decide) (by decide) x, ?_⟩
  refine List.forall_mem_cons.mpr ⟨fun x => by dsimp only; exact sixteenth_piece _ scM0_2.view 5 1 3 _ _ _ _ _ _ _ _ _ g5 13 rfl _ _ _ _ (by decide +kernel) (by decide) (by decide) x, ?_⟩
  refine List.forall_mem_cons.mpr ⟨fun x => by dsimp only; exact sixteenth_piece _ scM0_2.view 5 0 3 _ _ _ _ _ _ _ _ _ g5 12 rfl _ _ _ _ (by decide +kernel) (by decide) (by decide) x, ?_⟩
  refine List.forall_mem_cons.mpr ⟨fun x => by dsimp only; exact sixteenth_piece _ scM0_2.view 5 3 2 _ _ _ _ _ _ _ _ _ g5 11 rfl _ _ _ _ (by decide +kernel) (by decide) (by decide) x, ?_⟩
  refine List.forall_mem_cons.mpr ⟨fun x => by dsimp only; exact sixteenth_piece _ scM0_2.view 5 2 2 _ _ _ _ _ _ _ _ _ g5 10 rfl _ _ _ _ (by decide +kernel) (by decide) (by decide) x, ?_⟩
  refine List.forall_mem_cons.mpr ⟨fun x => by dsimp only; exact sixteenth_piece _ scM0_2.view 5 1 2 _ _ _ _ _ _ _ _ _ g5 9 rfl _ _ _ _ (by decide +kernel) (by decide) (by decide) x, ?_⟩
  refine List.forall_mem_cons.mpr ⟨fun x => by dsimp only; exact sixteenth_piece _ scM0_2.view 5 0 2 _ _ _ _ _ _ _ _ _ g5 8 rfl _ _ _ _ (by decide +kernel) (by decide) (by decide) x, ?_⟩
  refine List.forall_mem_cons.mpr ⟨fun x => by dsimp only; exact sixteenth_piece _ scM0_2.view 5 3 1 _ _ _ _ _ _ _ _ _ g5 7 rfl _ _ _ _ (by decide +kernel) (by decide) (by decide) x, ?_⟩
  refine List.forall_mem_cons.mpr ⟨fun x => by dsimp only; exact sixteenth_piece _ scM0_2.view 5 2 1 _ _ _ _ _ _ _ _ _ g5 6 rfl _ _ _ _ (by decide +kernel) (by decide) (by decide) x, ?_⟩
  refine List.forall_mem_cons.mpr ⟨fun x => by dsimp only; exact sixteenth_piece _ scM0_2.view 5 1 1 _ _ _ _ _ _ _ _ _ g5 5 rfl _ _ _ _ (by decide +kernel) (by decide) (by decide) x, ?_⟩
  refine List.forall_mem_cons.mpr ⟨fun x => by dsimp only; exact sixteenth_piece _ scM0_2.view 5 0 1 _ _ _ _ _ _ _ _ _ g5 4 rfl _ _ _ _ (by decide +kernel) (by decide) (by decide) x, ?_⟩
  refine List.forall_mem_cons.mpr ⟨fun x => by dsimp only; exact sixteenth_piece _ scM0_2.view 5 3 0 _ _ _ _ _ _ _ _ _ g5 3 rfl _ _ _ _ (by decide +kernel) (by decide) (by decide) x, ?_⟩
  refine List.forall_mem_cons.mpr ⟨fun x => by dsimp only; exact sixteenth_piece _ scM0_2.view 5 2 0 _ _ _ _ _ _ _ _ _ g5 2 rfl _ _ _ _ (by decide +kernel) (by decide) (by decide) x, ?_⟩
  refine List.forall_mem_cons.mpr ⟨fun x => by dsimp only; exact sixteenth_piece _ scM0_2.view 5 1 0 _ _ _ _ _ _ _ _ _ g5 1 rfl _ _ _ _ (by decide +kernel) (by decide) (by decide) x, ?_⟩
  refine List.forall_mem_cons.mpr ⟨fun x => by dsimp only; exact sixteenth_piece _ scM0_2.view 5 0 0 _ _ _ _ _ _ _ _ _ g5 0 rfl _ _ _ _ (by decide +kernel) (by decide) (by decide) x, ?_⟩
  refine List.forall_mem_cons.mpr ⟨fun x => by dsimp only; exact sixteenth_piece _ scM0_2.view 4 3 3 _ _ _ _ _ _ _ _ _ g4 15 rfl _ _ _ _ (by decide +kernel) (by decide) (by decide) x, ?_⟩
  refine List.forall_mem_cons.mpr ⟨fun x => by dsimp only; exact sixteenth_piece _ scM0_2.view 4 2 3 _ _ _ _ _ _ _ _ _ g4 14 rfl _ _ _ _ (by decide +kernel) (by decide) (by decide) x, ?_⟩
  refine List.forall_mem_cons.mpr ⟨fun x => by dsimp only; exact sixteenth_piece _ scM0_2.view 4 1 3 _ _ _ _ _ _ _ _ _ g4 13 rfl _ _ _ _ (by decide +kernel) (by decide) (by decide) x, ?_⟩
  refine List.forall_mem_cons.mpr ⟨fun x => by dsimp only; exact sixteenth_piece _ scM0_2.view 4 0 3 _ _ _ _ _ _ _ _ _ g4 12 rfl _ _ _ _ (by decide +kernel) (by decide) (by decide) x, ?_⟩
  refine List.forall_mem_cons.mpr ⟨fun x => by dsimp only; exact sixteenth_piece _ scM0_2.view 4 3 2 _ _ _ _ _ _ _ _ _ g4 11 rfl _ _ _ _ (by decide +kernel) (by decide) (by decide) x, ?_⟩
  refine List.forall_mem_cons.mpr ⟨fun x => by dsimp only; exact sixteenth_piece _ scM0_2.view 4 2 2 _ _ _ _ _ _ _ _ _ g4 10 rfl _ _ _ _ (by decide +kernel) (by decide) (by decide) x, ?_⟩
  refine List.forall_mem_cons.mpr ⟨fun x => by dsimp only; exact sixteenth_piece _ scM0_2.view 4 1 2 _ _ _ _ _ _ _ _ _ g4 9 rfl _ _ _ _ (by decide +kernel) (by decide) (by decide) x, ?_⟩
  refine List.forall_mem_cons.mpr ⟨fun x => by dsimp only; exact sixteenth_piece _ scM0_2.view 4 0 2 _ _ _ _ _ _ _ _ _ g4 8 rfl _ _ _ _ (by decide +kernel) (by decide) (by decide) x, ?_⟩
  refine List.forall_mem_cons.mpr ⟨fun x => by dsimp only; exact sixteenth_piece _ scM0_2.view 4 3 1 _ _ _ _ _ _ _ _ _ g4 7 rfl _ _ _ _ (by decide +kernel) (by decide) (by decide) x, ?_⟩
  refine List.forall_mem_cons.mpr ⟨fun x => by dsimp only; exact sixteenth_piece _ scM0_2.view 4 2 1 _ _ _ _ _ _ _ _ _ g4 6 rfl _ _ _ _ (by decide +kernel) (by decide) (by decide) x, ?_⟩
  refine List.forall_mem_cons.mpr ⟨fun x => by dsimp only; exact sixteenth_piece _ scM0_2.view 4 1 1 _ _ _ _ _ _ _ _ _ g4 5 rfl _ _ _ _ (by decide +kernel) (by decide) (by decide) x, ?_⟩
  refine List.forall_mem_cons.mpr ⟨fun x => by dsimp only; exact sixteenth_piece _ scM0_2.view 4 0 1 _ _ _ _ _ _ _ _ _ g4 4 rfl _ _ _ _ (by decide +kernel) (by decide) (by decide) x, ?_⟩
  refine List.forall_mem_cons.mpr ⟨fun x => by dsimp only; exact sixteenth_piece _ scM0_2.view 4 3 0 _ _ _ _ _ _ _ _ _ g4 3 rfl _ _ _ _ (by decide +kernel) (by decide) (by decide) x, ?_⟩
  refine List.forall_mem_cons.mpr ⟨fun x => by dsimp only; exact sixteenth_piece _ scM0_2.view 4 2 0 _ _ _ _ _ _ _ _ _ g4 2 rfl _ _ _ _ (by decide +kernel) (by decide) (by decide) x, ?_⟩
  refine List.forall_mem_cons.mpr ⟨fun x => by dsimp only; exact sixteenth_piece _ scM0_2.view 4 1 0 _ _ _ _ _ _ _ _ _ g4 1 rfl _ _ _ _ (by decide +kernel) (by decide) (by decide) x, ?_⟩
  refine List.forall_mem_cons.mpr ⟨fun x => by dsimp only; exact sixteenth_piece _ scM0_2.view 4 0 0 _ _ _ _ _ _ _ _ _ g4 0 rfl _ _ _ _ (by decide +kernel) (by decide) (by decide) x, ?_⟩
  refine List.forall_mem_cons.mpr ⟨fun x => by dsimp only; exact sixteenth_piece _ scM0_2.view 3 3 3 _ _ _ _ _ _ _ _ _ g3 15 rfl _ _ _ _ (by decide +kernel) (by decide) (by decide) x, ?_⟩
  refine List.forall_mem_cons.mpr ⟨fun x => by dsimp only; exact sixteenth_piece _ scM0_2.view 3 2 3 _ _ _ _ _ _ _ _ _ g3 14 rfl _ _ _ _ (by decide +kernel) (by decide) (by decide) x, ?_⟩
  refine List.forall_mem_cons.mpr ⟨fun x => by dsimp only; exact sixteenth_piece _ scM0_2.view 3 1 3 _ _ _ _ _ _ _ _ _ g3 13 rfl _ _ _ _ (by decide +kernel) (by decide) (by decide) x, ?_⟩
  refine List.forall_mem_cons.mpr ⟨fun x => by dsimp only; exact sixteenth_piece _ scM0_2.view 3 0 3 _ _ _ _ _ _ _ _ _ g3 12 rfl _ _ _ _ (by decide +kernel) (by decide) (by decide) x, ?_⟩
  refine List.forall_mem_cons.mpr ⟨fun x => by dsimp only; exact sixteenth_piece _ scM0_2.view 3 3 2 _ _ _ _ _ _ _ _ _ g3 11 rfl _ _ _ _ (by decide +kernel) (by decide) (by decide) x, ?_⟩
  refine List.forall_mem_cons.mpr ⟨fun x => by dsimp only; exact sixteenth_piece _ scM0_2.view 3 2 2 _ _ _ _ _ _ _ _ _ g3 10 rfl _ _ _ _ (by decide +kernel) (by decide) (by decide) x, ?_⟩
  refine List.forall_mem_cons.mpr ⟨fun x => by dsimp only; exact sixteenth_piece _ scM0_2.view 3 1 2 _ _ _ _ _ _ _ _ _ g3 9 rfl _ _ _ _ (by decide +kernel) (by decide) (by decide) x, ?_⟩
  refine List.forall_mem_cons.mpr ⟨fun x => by dsimp only; exact sixteenth_piece _ scM0_2.view 3 0 2 _ _ _ _ _ _ _ _ _ g3 8 rfl _ _ _ _ (by decide +kernel) (by decide) (by decide) x, ?_⟩
  refine List.forall_mem_cons.mpr ⟨fun x => by dsimp only; exact sixteenth_piece _ scM0_2.view 3 3 1 _ _ _ _ _ _ _ _ _ g3 7 rfl _ _ _ _ (by decide +kernel) (by decide) (by decide) x, ?_⟩
  refine List.forall_mem_cons.mpr ⟨fun x => by dsimp only; exact sixteenth_piece _ scM0_2.view 3 2 1 _ _ _ _ _ _ _ _ _ g3 6 rfl _ _ _ _ (by decide +kernel) (by decide) (by decide) x, ?_⟩
  refine List.forall_mem_cons.mpr ⟨fun x => by dsimp only; exact sixteenth_piece _ scM0_2.view 3 1 1 _ _ _ _ _ _ _ _ _ g3 5 rfl _ _ _ _ (by decide +kernel) (by decide) (by decide) x, ?_⟩
  refine List.forall_mem_cons.mpr ⟨fun x => by dsimp only; exact sixteenth_piece _ scM0_2.view 3 0 1 _ _ _ _ _ _ _ _ _ g3 4 rfl _ _ _ _ (by decide +kernel) (by decide) (by decide) x, ?_⟩
  refine List.forall_mem_cons.mpr ⟨fun x => by dsimp only; exact sixteenth_piece _ scM0_2.view 3 3 0 _ _ _ _ _ _ _ _ _ g3 3 rfl _ _ _ _ (by decide +kernel) (by decide) (by decide) x, ?_⟩
  refine List.forall_mem_cons.mpr ⟨fun x => by dsimp only; exact sixteenth_piece _ scM0_2.view 3 2 0 _ _ _ _ _ _ _ _ _ g3 2 rfl _ _ _ _ (by decide +kernel) (by decide) (by decide) x, ?_⟩
  refine List.forall_mem_cons.mpr ⟨fun x => by dsimp only; exact sixteenth_piece _ scM0_2.view 3 1 0 _ _ _ _ _ _ _ _ _ g3 1 rfl _ _ _ _ (by decide +kernel) (by decide) (by decide) x, ?_⟩
  refine List.forall_mem_cons.mpr ⟨fun x => by dsimp only; exact sixteenth_piece _ scM0_2.view 3 0 0 _ _ _ _ _ _ _ _ _ g3 0 rfl _ _ _ _ (by decide +kernel) (by decide) (by decide) x, ?_⟩
  refine List.forall_mem_cons.mpr ⟨fun x => by dsimp only; exact sixteenth_piece _ scM0_2.view 2 3 3 _ _ _ _ _ _ _ _ _ g2 15 rfl _ _ _ _ (by decide +kernel) (by decide) (by decide) x, ?_⟩
  refine List.forall_mem_cons.mpr ⟨fun x => by dsimp only; exact sixteenth_piece _ scM0_2.view 2 2 3 _ _ _ _ _ _ _ _ _ g2 14 rfl _ _ _ _ (by decide +kernel) (by decide) (by decide) x, ?_⟩
  refine List.forall_mem_cons.mpr ⟨fun x => by dsimp only; exact sixteenth_piece _ scM0_2.view 2 1 3 _ _ _ _ _ _ _ _ _ g2 13 rfl _ _ _ _ (by decide +kernel) (by decide) (by decide) x, ?_⟩
  refine List.forall_mem_cons.mpr ⟨fun x => by dsimp only; exact sixteenth_piece _ scM0_2.view 2 0 3 _ _ _ _ _ _ _ _ _ g2 12 rfl _ _ _ _ (by decide +kernel) (by decide) (by decide) x, ?_⟩
  refine List.forall_mem_cons.mpr ⟨fun x => by dsimp only; exact sixteenth_piece _ scM0_2.view 2 3 2 _ _ _ _ _ _ _ _ _ g2 11 rfl _ _ _ _ (by decide +kernel) (by decide) (by decide) x, ?_⟩
  refine List.forall_mem_cons.mpr ⟨fun x => by dsimp only; exact sixteenth_piece _ scM0_2.view 2 2 2 _ _ _ _ _ _ _ _ _ g2 10 rfl _ _ _ _ (by decide +kernel) (by decide) (by decide) x, ?_⟩
  refine List.forall_mem_cons.mpr ⟨fun x => by dsimp only; exact sixteenth_piece _ scM0_2.view 2 1 2 _ _ _ _ _ _ _ _ _ g2 9 rfl _ _ _ _ (by decide +kernel) (by decide) (by decide) x, ?_⟩
  refine List.forall_mem_cons.mpr ⟨fun x => by dsimp only; exact sixteenth_piece _ scM0_2.view 2 0 2 _ _ _ _ _ _ _ _ _ g2 8 rfl _ _ _ _ (by decide +kernel) (by decide) (by decide) x, ?_⟩
  refine List.forall_mem_cons.mpr ⟨fun x => by dsimp only; exact sixteenth_piece _ scM0_2.view 2 3 1 _ _ _ _ _ _ _ _ _ g2 7 rfl _ _ _ _ (by decide +kernel) (by decide) (by decide) x, ?_⟩
  refine List.forall_mem_cons.mpr ⟨fun x => by dsimp only; exact sixteenth_piece _ scM0_2.view 2 2 1 _ _ _ _ _ _ _ _ _ g2 6 rfl _ _ _ _ (by decide +kernel) (by decide) (by decide) x, ?_⟩
  refine List.forall_mem_cons.mpr ⟨fun x => by dsimp only; exact sixteenth_piece _ scM0_2.view 2 1 1 _ _ _ _ _ _ _ _ _ g2 5 rfl _ _ _ _ (by decide +kernel) (by decide) (by decide) x, ?_⟩
  refine List.forall_mem_cons.mpr ⟨fun x => by dsimp only; exact sixteenth_piece _ scM0_2.view 2 0 1 _ _ _ _ _ _ _ _ _ g2 4 rfl _ _ _ _ (by decide +kernel) (by decide) (by decide) x, ?_⟩
  refine List.forall_mem_cons.mpr ⟨fun x => by dsimp only; exact sixteenth_piece _ scM0_2.view 2 3 0 _ _ _ _ _ _ _ _ _ g2 3 rfl _ _ _ _ (by decide +kernel) (by decide) (by decide) x, ?_⟩
  refine List.forall_mem_cons.mpr ⟨fun x => by dsimp only; exact sixteenth_piece _ scM0_2.view 2 2 0 _ _ _ _ _ _ _ _ _ g2 2 rfl _ _ _ _ (by decide +kernel) (by decide) (by decide) x, ?_⟩
  refine List.forall_mem_cons.mpr ⟨fun x => by dsimp only; exact sixteenth_piece _ scM0_2.view 2 1 0 _ _ _ _ _ _ _ _ _ g2 1 rfl _ _ _ _ (by decide +kernel) (by decide) (by decide) x, ?_⟩
  refine List.forall_mem_cons.mpr ⟨fun x => by dsimp only; exact sixteenth_piece _ scM0_2.view 2 0 0 _ _ _ _ _ _ _ _ _ g2 0 rfl _ _ _ _ (by decide +kernel) (by decide) (by decide) x, ?_⟩
  refine List.forall_mem_cons.mpr ⟨fun x => by dsimp only; exact sixteenth_piece _ scM0_2.view 1 3 3 _ _ _ _ _ _ _ _ _ g1 15 rfl _ _ _ _ (by decide +kernel) (by decide) (by decide) x, ?_⟩
  refine List.forall_mem_cons.mpr ⟨fun x => by dsimp only; exact sixteenth_piece _ scM0_2.view 1 2 3 _ _ _ _ _ _ _ _ _ g1 14 rfl _ _ _ _ (by decide +kernel) (by decide) (by decide) x, ?_⟩
  refine List.forall_mem_cons.mpr ⟨fun x => by dsimp only; exact sixteenth_piece _ scM0_2.view 1 1 3 _ _ _ _ _ _ _ _ _ g1 13 rfl _ _ _ _ (by decide +kernel) (by decide) (by decide) x, ?_⟩
  refine List.forall_mem_cons.mpr ⟨fun x => by dsimp only; exact sixteenth_piece _ scM0_2.view 1 0 3 _ _ _ _ _ _ _ _ _ g1 12 rfl _ _ _ _ (by decide +kernel) (by decide) (by decide) x, ?_⟩
  refine List.forall_mem_cons.mpr ⟨fun x => by dsimp only; exact sixteenth_piece _ scM0_2.view 1 3 2 _ _ _ _ _ _ _ _ _ g1 11 rfl _ _ _ _ (by decide +kernel) (by decide) (by decide) x, ?_⟩
  refine List.forall_mem_cons.mpr ⟨fun x => by dsimp only; exact sixteenth_piece _ scM0_2.view 1 2 2 _ _ _ _ _ _ _ _ _ g1 10 rfl _ _ _ _ (by decide +kernel) (by decide) (by decide) x, ?_⟩
  refine List.forall_mem_cons.mpr ⟨fun x => by dsimp only; exact sixteenth_piece _ scM0_2.view 1 1 2 _ _ _ _ _ _ _ _ _ g1 9 rfl _ _ _ _ (by decide +kernel) (by decide) (by decide) x, ?_⟩
  refine List.forall_mem_cons.mpr ⟨fun x => by dsimp only; exact sixteenth_piece _ scM0_2.view 1 0 2 _ _ _ _ _ _ _ _ _ g1 8 rfl _ _ _ _ (by decide +kernel) (by decide) (by decide) x, ?_⟩
  refine List.forall_mem_cons.mpr ⟨fun x => by dsimp only; exact sixteenth_piece _ scM0_2.view 1 3 1 _ _ _ _ _ _ _ _ _ g1 7 rfl _ _ _ _ (by decide +kernel) (by decide) (by decide) x, ?_⟩
  refine List.forall_mem_cons.mpr ⟨fun x => by dsimp only; exact sixteenth_piece _ scM0_2.view 1 2 1 _ _ _ _ _ _ _ _ _ g1 6 rfl _ _ _ _ (by decide +kernel) (by decide) (by decide) x, ?_⟩
  refine List.forall_mem_cons.mpr ⟨fun x => by dsimp only; exact sixteenth_piece _ scM0_2.view 1 1 1 _ _ _ _ _ _ _ _ _ g1 5 rfl _ _ _ _ (by decide +kernel) (by decide) (by decide) x, ?_⟩
  refine List.forall_mem_cons.mpr ⟨fun x => by dsimp only; exact sixteenth_piece _ scM0_2.view 1 0 1 _ _ _ _ _ _ _ _ _ g1 4 rfl _ _ _ _ (by decide +kernel) (by decide) (by decide) x, ?_⟩
  refine List.forall_mem_cons.mpr ⟨fun x => by dsimp only; exact sixteenth_piece _ scM0_2.view 1 3 0 _ _ _ _ _ _ _ _ _ g1 3 rfl _ _ _ _ (by decide +kernel) (by decide) (by decide) x, ?_⟩
  refine List.forall_mem_cons.mpr ⟨fun x => by dsimp only; exact sixteenth_piece _ scM0_2.view 1 2 0 _ _ _ _ _ _ _ _ _ g1 2 rfl _ _ _ _ (by decide +kernel) (by decide) (by decide) x, ?_⟩
  refine List.forall_mem_cons.mpr ⟨fun x => by dsimp only; exact sixteenth_piece _ scM0_2.view 1 1 0 _ _ _ _ _ _ _ _ _ g1 1 rfl _ _ _ _ (by decide +kernel) (by decide) (by decide) x, ?_⟩
  refine List.forall_mem_cons.mpr ⟨fun x => by dsimp only; exact sixteenth_piece _ scM0_2.view 1 0 0 _ _ _ _ _ _ _ _ _ g1 0 rfl _ _ _ _ (by decide +kernel) (by decide) (by decide) x, ?_⟩
  refine List.forall_mem_cons.mpr ⟨fun x => by dsimp only; exact sixteenth_piece _ scM0_2.view 0 3 3 _ _ _ _ _ _ _ _ _ g0 15 rfl _ _ _ _ (by decide +kernel) (by decide) (by decide) x, ?_⟩
  refine List.forall_mem_cons.mpr ⟨fun x => by dsimp only; exact sixteenth_piece _ scM0_2.view 0 2 3 _ _ _ _ _ _ _ _ _ g0 14 rfl _ _ _ _ (by decide +kernel) (by decide) (by decide) x, ?_⟩
  refine List.forall_mem_cons.mpr ⟨fun x => by dsimp only; exact sixteenth_piece _ scM0_2.view 0 1 3 _ _ _ _ _ _ _ _ _ g0 13 rfl _ _ _ _ (by decide +kernel) (by decide) (by decide) x, ?_⟩
  refine List.forall_mem_cons.mpr ⟨fun x => by dsimp only; exact sixteenth_piece _ scM0_2.view 0 0 3 _ _ _ _ _ _ _ _ _ g0 12 rfl _ _ _ _ (by decide +kernel) (by decide) (by decide) x, ?_⟩
  refine List.forall_mem_cons.mpr ⟨fun x => by dsimp only; exact sixteenth_piece _ scM0_2.view 0 3 2 _ _ _ _ _ _ _ _ _ g0 11 rfl _ _ _ _ (by decide +kernel) (by decide) (by decide) x, ?_⟩
  refine List.forall_mem_cons.mpr ⟨fun x => by dsimp only; exact sixteenth_piece _ scM0_2.view 0 2 2 _ _ _ _ _ _ _ _ _ g0 10 rfl _ _ _ _ (by decide +kernel) (by decide) (by decide) x, ?_⟩
  refine List.forall_mem_cons.mpr ⟨fun x => by dsimp only; exact sixteenth_piece _ scM0_2.view 0 1 2 _ _ _ _ _ _ _ _ _ g0 9 rfl _ _ _ _ (by decide +kernel) (by decide) (by decide) x, ?_⟩
  refine List.forall_mem_cons.mpr ⟨fun x => by dsimp only; exact sixteenth_piece _ scM0_2.view 0 0 2 _ _ _ _ _ _ _ _ _ g0 8 rfl _ _ _ _ (by decide +kernel) (by decide) (by decide) x, ?_⟩
  refine List.forall_mem_cons.mpr ⟨fun x => by dsimp only; exact sixteenth_piece _ scM0_2.view 0 3 1 _ _ _ _ _ _ _ _ _ g0 7 rfl _ _ _ _ (by decide +kernel) (by decide) (by decide) x, ?_⟩
  refine List.forall_mem_cons.mpr ⟨fun x => by dsimp only; exact sixteenth_piece _ scM0_2.view 0 2 1 _ _ _ _ _ _ _ _ _ g0 6 rfl _ _ _ _ (by decide +kernel) (by decide) (by decide) x, ?_⟩
  refine List.forall_mem_cons.mpr ⟨fun x => by dsimp only; exact sixteenth_piece _ scM0_2.view 0 1 1 _ _ _ _ _ _ _ _ _ g0 5 rfl _ _ _ _ (by decide +kernel) (by decide) (by decide) x, ?_⟩
  refine List.forall_mem_cons.mpr ⟨fun x => by dsimp only; exact sixteenth_piece _ scM0_2.view 0 0 1 _ _ _ _ _ _ _ _ _ g0 4 rfl _ _ _ _ (by decide +kernel) (by decide) (by decide) x, ?_⟩
  refine List.forall_mem_cons.mpr ⟨fun x => by dsimp only; exact sixteenth_piece _ scM0_2.view 0 3 0 _ _ _ _ _ _ _ _ _ g0 3 rfl _ _ _ _ (by decide +kernel) (by decide) (by decide) x, ?_⟩
  refine List.forall_mem_cons.mpr ⟨fun x => by dsimp only; exact sixteenth_piece _ scM0_2.view 0 2 0 _ _ _ _ _ _ _ _ _ g0 2 rfl _ _ _ _ (by decide +kernel) (by decide) (by decide) x, ?_⟩
  refine List.forall_mem_cons.mpr ⟨fun x => by dsimp only; exact sixteenth_piece _ scM0_2.view 0 1 0 _ _ _ _ _ _ _ _ _ g0 1 rfl _ _ _ _ (by decide +kernel) (by decide) (by decide) x, ?_⟩
  refine List.forall_mem_cons.mpr ⟨fun x => by dsimp only; exact sixteenth_piece _ scM0_2.view 0 0 0 _ _ _ _ _ _ _ _ _ g0 0 rfl _ _ _ _ (by decide +kernel) (by decide) (by decide) x, ?_⟩
  exact fun _ h => absurd h List.not_mem_nil

end Cert.EvenPIdeal.Value
-- ==== Proof.EvenPKernel.lean ====
module

public import proofs.«01_k».proof.Proof.EvenPIdealLeftA
public import proofs.«01_k».proof.Proof.EvenPIdealLeftD
public import Idealize.ShloMosaic.Lib.Pipeline.ValueKit
public import Idealize.ShloMosaic.Lib.Pointwise

@[expose] public section

set_option maxRecDepth 16384

/-! The even layers' projection: the three arrays the kernel leaves. -/

noncomputable section
open Idealize.ShloMosaic Idealize.ShloMosaic.TcCoe Idealize.SL.Sem
open Idealize.ShloMosaic.Pipeline (Dat)
namespace Cert.EvenPIdeal.Value
open Cert.EvenPIdeal Cert.EvenPIdeal.Gen Cert.FfnSpec Cert.EvenPSpec
variable (m : (ℓ : Loc nD τ sig) → Buf (Elt Ideal) ℓ)

/-- The index maps of the windows, in the point's number. -/
theorem idx : ∀ t : Fin cfg0.N,
    win0_0.index t = ![t.val / 12, 0] ∧ win0_1.index t = ![0, 0] ∧ win0_2.index t = ![0, t.val % 12]
    ∧ win0_3.index t = ![if t.val % 12 < 3 then t.val % 12 else if t.val % 12 < 9 then 2 else t.val % 12 - 6, t.val / 12, 0]
    ∧ win0_4.index t = ![min (t.val % 12 - 3) 2, t.val / 48, 0, t.val / 12 % 4, 0]
    ∧ win0_5.index t = ![min (t.val % 12 - 6) 2, t.val / 48, 0, t.val / 12 % 4, 0] ∧ t.val < 192 :=
  (by decide +kernel : ∀ t : Fin grid0.N, _)

theorem flush4 : ∀ t : Fin cfg0.N, win0_4.flush t = true → 3 ≤ t.val % 12 :=
  (by decide +kernel : ∀ t : Fin grid0.N, win0_4.flush t = true → 3 ≤ t.val % 12)
theorem flush5 : ∀ t : Fin cfg0.N, win0_5.flush t = true → 6 ≤ t.val % 12 :=
  (by decide +kernel : ∀ t : Fin grid0.N, win0_5.flush t = true → 6 ≤ t.val % 12)

/-- The residual stream. -/
abbrev argX (c : Dev nD) : FVec Ideal S16384x2048 .f32 := m ((c : Thread nD τ).loc main_arg0)
/-- The gain. -/
abbrev argG (c : Dev nD) : FVec Ideal S2048 .f32 := m ((c : Thread nD τ).loc main_arg1)
/-- The weights. -/
abbrev argW (c : Dev nD) : FVec Ideal S2048x12288 .f32 := m ((c : Thread nD τ).loc main_arg2)

theorem blk0 (c : Dev nD) (t : Fin cfg0.N) (q : Fin 1024) (k : Fin 2048) (r : Fin 16384) (h : r.val = t.val / 12 * 1024 + q.val) :
    (iblk m c 0 t : FVec Ideal S1024x2048 .f32) (ix2 q k) = argX m c (ix2 r k) := by
  blk_ext [iblk, V, idx t]
theorem blk1 (c : Dev nD) (t : Fin cfg0.N) (k : Fin 2048) :
    (iblk m c 1 t : FVec Ideal S1x2048 .f32) (ix2 (0 : Fin 1) k) = argG m c (ix1 k) := by
  blk_simp [iblk]
  entry_read
  pointwise
  blk_ext [idx t]
theorem blk2 (c : Dev nD) (t : Fin cfg0.N) (k : Fin 2048) (l : Fin 1024) (e : Fin 12288) (h : e.val = t.val % 12 * 1024 + l.val) :
    (iblk m c 2 t : FVec Ideal S2048x1024 .bf16) (ix2 k l) = argW m c (ix2 k e) := by
  blk_simp [iblk]
  entry_read
  pointwise
  blk_ext [idx t]

/-- The arguments as functions of their indices. -/
abbrev fX (c : Dev nD) : Fin 16384 → Fin 2048 → EReal := fun r k => argX m c (ix2 r k)
abbrev fG (c : Dev nD) : Fin 2048 → EReal := fun k => argG m c (ix1 k)
abbrev fW (c : Dev nD) : Fin 2048 → Fin 12288 → EReal := fun k e => argW m c (ix2 k e)

/-- An entry of the tile a point forms is an entry of the scaled projection. -/
theorem tile_entry (c : Dev nD) (s : Fin cfg0.N) (q l : Fin 1024) (r : Fin 16384) (e : Fin 12288)
    (hr : r.val = s.val / 12 * 1024 + q.val) (he : e.val = s.val % 12 * 1024 + l.val) :
    tile (grid0.coords s) (iblk m c 2 s) (xn m c s) (ix2 q l) = val (fX m c) (fG m c) (fW m c) r e := by
  rw [tile_at]
  unfold val
  rw [show e.val / 1024 = s.val % 12 by omega]
  refine congrArg (· * factor (s.val % 12)) (Finset.sum_congr rfl fun k _ => congrArg₂ (· * ·) ?_ (blk2 m c s k l e he))
  refine (leftA_rows m c (row s) (Nat.mul_mod_left _ _) q k).trans ?_
  have h0 : ∀ k : Fin 2048, (iblk m c 0 (row s) : FVec Ideal S1024x2048 .f32) (ix2 q k) = argX m c (ix2 r k) := fun k =>
    blk0 m c (row s) q k r (by show r.val = s.val / 12 * 12 / 12 * 1024 + q.val; omega)
  have h1 : ∀ k : Fin 2048, (iblk m c 1 (row s) : FVec Ideal S1x2048 .f32) (ix2 (0 : Fin 1) k) = argG m c (ix1 k) := blk1 m c (row s)
  rw [show (fun k => (iblk m c 0 (row s) : FVec Ideal S1024x2048 .f32) (ix2 q k)) = fX m c r from funext h0,
    show (fun k => (iblk m c 1 (row s) : FVec Ideal S1x2048 .f32) (ix2 (0 : Fin 1) k)) = fG m c from funext h1]

theorem out3_chunks (c : Dev nD) (s : Fin cfg0.N) (h : ¬(3 ≤ s.val % 12 ∧ s.val % 12 < 9)) (y : S8x1024x128.Idx) :
    out3 m c s y = chunks (tile (grid0.coords s) (iblk m c 2 s) (xn m c s)) y := by
  by_cases hA : s.val % 12 = 0
  · rw [out3_A m c s hA, leftA_at, xn_first m c s hA]
  by_cases hB : s.val % 12 < 3
  · rw [out3_B m c s ⟨hA, hB⟩, leftB_at]
  · rw [out3_E m c s (by omega), leftE_at]

/-- The first array the kernel leaves. -/
def target3 (c : Dev nD) : FVec Ideal S48x16384x128 .bf16 := fun y => plain (fX m c) (fG m c) (fW m c) (y 0) (y 1) (y 2)
/-- The second. -/
def target4 (c : Dev nD) : FVec Ideal S24x4x4x1024x128 .bf16 := fun y => fours (fX m c) (fG m c) (fW m c) (y 0) (y 1) (y 2) (y 3) (y 4)
/-- The third. -/
def target5 (c : Dev nD) : FVec Ideal S24x4x16x256x128 .bf16 := fun y => sixteens (fX m c) (fG m c) (fW m c) (y 0) (y 1) (y 2) (y 3) (y 4)

theorem final3 (c : Dev nD) : (dats m 0 c).arrAt 3 cfg0.N = target3 m c := by
  refine (dats m 0 c).arrAt_eq_of_covers 3 _ (by decide +kernel) fun t hf y => ?_
  have hv : (src3 t).val = if 3 ≤ t.val % 12 ∧ t.val % 12 < 9 then t.val - (t.val % 12 - 2) else t.val := rfl
  blk_simp [idx t]
  rw [after0_3, out3_chunks m c (src3 t) (by rw [hv]; split <;> omega)]
  generalize hY : (win0_3.blk t).view.emb y = Y
  have e0 : (Y 0).val = (if t.val % 12 < 3 then t.val % 12 else if t.val % 12 < 9 then 2 else t.val % 12 - 6) * 8 + (y 0).val := by
    rw [← hY]; blk_simp [idx t]
  have e1 : (Y 1).val = t.val / 12 * 1024 + (y 1).val := by
    rw [← hY]; blk_simp [idx t]
  have e2 : (Y 2).val = (y 2).val := by rw [← hY]; blk_simp [idx t]
  have h0 : (y 0).val < 8 := (y 0).isLt
  have h2 : (y 2).val < 128 := (y 2).isLt
  unfold target3 plain chunks
  refine tile_entry m c (src3 t) _ _ _ _ ?_ ?_
  · show (Y 1).val = (src3 t).val / 12 * 1024 + (y 1).val
    rw [e1, hv]; split <;> omega
  · show (if (Y 0).val < 24 then (Y 0).val else (Y 0).val + 48) * 128 + (Y 2).val = (src3 t).val % 12 * 1024 + ((y 0).val * 128 + (y 2).val)
    rw [e0, e2, hv]; split_ifs <;> omega

theorem final4 (c : Dev nD) : (dats m 0 c).arrAt 4 cfg0.N = target4 m c := by
  refine (dats m 0 c).arrAt_eq_of_covers 4 _ (by decide +kernel) fun t hf y => ?_
  have hv : (src4 t).val = if 6 ≤ t.val % 12 then t.val - (t.val % 12 - 5) else t.val := rfl
  have hl := flush4 t hf
  have hs : 3 ≤ (src4 t).val % 12 ∧ (src4 t).val % 12 < 6 := by rw [hv]; split <;> omega
  blk_simp [idx t]
  rw [after0_4, out4_C m c (src4 t) hs, leftC_at]
  generalize hY : (win0_4.blk t).view.emb y = Y
  have e0 : (Y 0).val = min (t.val % 12 - 3) 2 * 8 + (y 0).val := by
    rw [← hY]; blk_simp [idx t]
  have e1 : (Y 1).val = t.val / 48 + (y 1).val := by
    rw [← hY]; blk_simp [idx t]
  have e2 : (Y 2).val = (y 2).val := by rw [← hY]; blk_simp [idx t]
  have e3 : (Y 3).val = t.val / 12 % 4 * 256 + (y 3).val := by rw [← hY]; blk_simp [idx t]
  have e4 : (Y 4).val = (y 4).val := by rw [← hY]; blk_simp [idx t]
  have h0 : (y 0).val < 8 := (y 0).isLt
  have h1 : (y 1).val < 1 := (y 1).isLt
  have h4 : (y 4).val < 128 := (y 4).isLt
  unfold target4 fours byFour chunks
  refine tile_entry m c (src4 t) _ _ _ _ ?_ ?_
  · show (Y 1).val * 4096 + (Y 3).val * 4 + (Y 2).val = (src4 t).val / 12 * 1024 + ((y 2).val + 4 * (y 3).val)
    rw [e1, e2, e3, hv]; split <;> omega
  · show 3072 + (Y 0).val * 128 + (Y 4).val = (src4 t).val % 12 * 1024 + ((y 0).val * 128 + (y 4).val)
    rw [e0, e4, hv]; split <;> omega

theorem final5 (c : Dev nD) : (dats m 0 c).arrAt 5 cfg0.N = target5 m c := by
  refine (dats m 0 c).arrAt_eq_of_covers 5 _ (by decide +kernel) fun t hf y => ?_
  have hv : (src5 t).val = if 9 ≤ t.val % 12 then t.val - (t.val % 12 - 8) else t.val := rfl
  have hl := flush5 t hf
  have hs : 6 ≤ (src5 t).val % 12 ∧ (src5 t).val % 12 < 9 := by rw [hv]; split <;> omega
  blk_simp [idx t]
  rw [after0_5, out5_D m c (src5 t) hs, leftD_at]
  generalize hY : (win0_5.blk t).view.emb y = Y
  have e0 : (Y 0).val = min (t.val % 12 - 6) 2 * 8 + (y 0).val := by
    rw [← hY]; blk_simp [idx t]
  have e1 : (Y 1).val = t.val / 48 + (y 1).val := by
    rw [← hY]; blk_simp [idx t]
  have e2 : (Y 2).val = (y 2).val := by rw [← hY]; blk_simp [idx t]
  have e3 : (Y 3).val = t.val / 12 % 4 * 64 + (y 3).val := by rw [← hY]; blk_simp [idx t]
  have e4 : (Y 4).val = (y 4).val := by rw [← hY]; blk_simp [idx t]
  have h0 : (y 0).val < 8 := (y 0).isLt
  have h1 : (y 1).val < 1 := (y 1).isLt
  have h4 : (y 4).val < 128 := (y 4).isLt
  unfold target5 sixteens bySixteen chunks
  refine tile_entry m c (src5 t) _ _ _ _ ?_ ?_
  · show (Y 1).val * 4096 + (Y 3).val * 16 + (Y 2).val = (src5 t).val / 12 * 1024 + ((y 2).val + 16 * (y 3).val)
    rw [e1, e2, e3, hv]; split <;> omega
  · show 6144 + (Y 0).val * 128 + (Y 4).val = (src5 t).val % 12 * 1024 + ((y 0).val * 128 + (y 4).val)
    rw [e0, e4, hv]; split <;> omega

end Cert.EvenPIdeal.Value
-- ==== Proof.EvenPRef.lean ====
module

public import proofs.«01_k».proof.Proof.Gen.EvenPRefIdeal.Run
public import proofs.«01_k».proof.Proof.EvenPSpec

@[expose] public section

set_option maxRecDepth 16384

/-! The reference of the even layers' projection: its composed terms in layers, and an entry of each result. -/

noncomputable section
open Idealize.ShloMosaic Idealize.ShloMosaic.TcCoe Idealize.SL.Sem
namespace Cert.EvenPRefIdeal.Value
open Cert.EvenPRefIdeal Cert.EvenPRefIdeal.Facts₀ Cert.EvenPRefIdeal.Facts Cert.FfnSpec
attribute [local instance] Cert.EvenPRefIdeal.Gen.facts

/-- The normalised rows. -/
def nrm (X : FVec Ideal S16384x2048 .f32) (g : FVec Ideal S2048 .f32) : FVec Ideal S16384x2048 .f32 :=
  mulf (mulf X (broadcastInDim S16384x2048 ![0, 1] bcast_S16384x1_S16384x2048_0_1
    (Host.rsqrt (addf (Host.divf (broadcastInDim S16384x1 ![0] bcast_S16384_S16384x1_0
      (Host.reduceAdd (mulf X X) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- Their product with the weights. -/
def prod (Y : FVec Ideal S16384x2048 .f32) (W : FVec Ideal S2048x12288 .f32) : FVec Ideal S16384x12288 .f32 :=
  Host.dotGeneral dot_S16384x2048_S2048x12288_S16384x12288_1_0_0_1_n_n none Y W

/-- The product by batch, position, part, query, key or value, head and lane. -/
def six (P : FVec Ideal S16384x12288 .f32) : FVec Ideal S4x4096x4x3x8x128 .f32 :=
  shapeCast S4x4096x4x3x8x128 P shapeCasts_S16384x12288_S4x4096x4x3x8x128

/-- The same with the queries scaled, in 16 bits, the last three split axes as one. -/
def parts (Z : FVec Ideal S4x4096x4x3x8x128 .f32) : FVec Ideal S4x4096x4x24x128 .bf16 :=
  shapeCast S4x4096x4x24x128 (truncf .bf16 (concatenate S4x4096x4x3x8x128 3
    [⟨S4x4096x4x1x8x128, (mulf (extractStridedSlice S4x4096x4x1x8x128 ![0, 0, 0, 0, 0, 0] Z slices_S4x4096x4x3x8x128_S4x4096x4x1x8x128_0_0_0_0_0_0)
      (broadcastInDim S4x4096x4x1x8x128 ![] bcast_S_S4x4096x4x1x8x128 (constant S_ .f32 0x3E0293EE#32)))⟩,
     ⟨S4x4096x4x2x8x128, (extractStridedSlice S4x4096x4x2x8x128 ![0, 0, 0, 1, 0, 0] Z slices_S4x4096x4x3x8x128_S4x4096x4x2x8x128_0_0_0_1_0_0)⟩]
    concatenates_S4x4096x4x1x8x128_S4x4096x4x2x8x128_S4x4096x4x3x8x128_d3) bitsLt_bf16_f32) shapeCasts_S4x4096x4x3x8x128_S4x4096x4x24x128

/-- The first result. -/
def plain (Q : FVec Ideal S4x4096x4x24x128 .bf16) : FVec Ideal S48x16384x128 .bf16 :=
  transpose S48x16384x128 [1, 0, 2] (shapeCast S16384x48x128 (concatenate S4x4096x48x128 2
    [⟨S4x4096x24x128, (shapeCast S4x4096x24x128 (extractStridedSlice S4x4096x1x24x128 ![0, 0, 0, 0, 0] Q slices_S4x4096x4x24x128_S4x4096x1x24x128_0_0_0_0_0) shapeCasts_S4x4096x1x24x128_S4x4096x24x128)⟩,
     ⟨S4x4096x24x128, (shapeCast S4x4096x24x128 (extractStridedSlice S4x4096x1x24x128 ![0, 0, 3, 0, 0] Q slices_S4x4096x4x24x128_S4x4096x1x24x128_0_0_3_0_0) shapeCasts_S4x4096x1x24x128_S4x4096x24x128)⟩]
    concatenates_S4x4096x24x128_S4x4096x24x128_S4x4096x48x128_d2) shapeCasts_S4x4096x48x128_S16384x48x128) transposes_S16384x48x128_S48x16384x128_1_0_2

/-- The second. -/
def fours (Q : FVec Ideal S4x4096x4x24x128 .bf16) : FVec Ideal S24x4x4x1024x128 .bf16 :=
  transpose S24x4x4x1024x128 [3, 0, 2, 1, 4] (shapeCast S4x1024x4x24x128 (shapeCast S4x4096x24x128
    (extractStridedSlice S4x4096x1x24x128 ![0, 0, 1, 0, 0] Q slices_S4x4096x4x24x128_S4x4096x1x24x128_0_0_1_0_0) shapeCasts_S4x4096x1x24x128_S4x4096x24x128)
    shapeCasts_S4x4096x24x128_S4x1024x4x24x128) transposes_S4x1024x4x24x128_S24x4x4x1024x128_3_0_2_1_4

/-- The third. -/
def sixteens (Q : FVec Ideal S4x4096x4x24x128 .bf16) : FVec Ideal S24x4x16x256x128 .bf16 :=
  transpose S24x4x16x256x128 [3, 0, 2, 1, 4] (shapeCast S4x256x16x24x128 (shapeCast S4x4096x24x128
    (extractStridedSlice S4x4096x1x24x128 ![0, 0, 2, 0, 0] Q slices_S4x4096x4x24x128_S4x4096x1x24x128_0_0_2_0_0) shapeCasts_S4x4096x1x24x128_S4x4096x24x128)
    shapeCasts_S4x4096x24x128_S4x256x16x24x128) transposes_S4x256x16x24x128_S24x4x16x256x128_3_0_2_1_4

theorem nrm_at (X : FVec Ideal S16384x2048 .f32) (g : FVec Ideal S2048 .f32) (r : Fin 16384) (k : Fin 2048) :
    nrm X g (ix2 r k) = rms (fun k => X (ix2 r k)) (fun k => g (ix1 k)) k := by
  unfold nrm rms
  pointwise

theorem prod_at (Y : FVec Ideal S16384x2048 .f32) (W : FVec Ideal S2048x12288 .f32) (r : Fin 16384) (e : Fin 12288) :
    prod Y W (ix2 r e) = ∑ k : Fin 2048, Y (ix2 r k) * W (ix2 k e) := by
  unfold prod
  pointwise

theorem plain_at_low (Q : FVec Ideal S4x4096x4x24x128 .bf16) (n : Fin 48) (b : Fin 4) (s : Fin 4096) (l : Fin 128) (r : Fin 16384) (hr : r.val = b.val * 4096 + s.val) (hn : n.val < 24) :
    plain Q (ix3 n r l) = Q (ix5 b s (0 : Fin 4) (⟨n.val, hn⟩ : Fin 24) l) := by
  unfold plain
  pointwise
  rw [dif_pos hn]
  exact congrArg Q (congr (congr (congr (congrArg₂ ix5 (Fin.ext (by show r.val / 4096 = b.val; omega)) (Fin.ext (by show r.val % 4096 = s.val; omega))) rfl) rfl) rfl)

theorem plain_at_high (Q : FVec Ideal S4x4096x4x24x128 .bf16) (n : Fin 48) (b : Fin 4) (s : Fin 4096) (l : Fin 128) (r : Fin 16384) (hr : r.val = b.val * 4096 + s.val) (hn : ¬ n.val < 24) :
    plain Q (ix3 n r l) = Q (ix5 b s (3 : Fin 4) (⟨n.val - 24, by omega⟩ : Fin 24) l) := by
  unfold plain
  pointwise
  rw [dif_neg hn]
  exact congrArg Q (congr (congr (congr (congrArg₂ ix5 (Fin.ext (by show r.val / 4096 = b.val; omega)) (Fin.ext (by show r.val % 4096 = s.val; omega))) rfl) rfl) rfl)

theorem fours_at (Q : FVec Ideal S4x4096x4x24x128 .bf16) (n : Fin 24) (b : Fin 4) (o : Fin 4) (q : Fin 1024) (l : Fin 128) :
    fours Q (ix5 n b o q l) = Q (ix5 b (⟨q.val * 4 + o.val, by omega⟩ : Fin 4096) (1 : Fin 4) n l) := by
  unfold fours
  pointwise

theorem sixteens_at (Q : FVec Ideal S4x4096x4x24x128 .bf16) (n : Fin 24) (b : Fin 4) (o : Fin 16) (q : Fin 256) (l : Fin 128) :
    sixteens Q (ix5 n b o q l) = Q (ix5 b (⟨q.val * 16 + o.val, by omega⟩ : Fin 4096) (2 : Fin 4) n l) := by
  unfold sixteens
  pointwise

theorem parts_at (P : FVec Ideal S16384x12288 .f32) (b : Fin 4) (s : Fin 4096) (p : Fin 4) (n : Fin 24) (l : Fin 128) :
    parts (six P) (ix5 b s p n l) = (if n.val < 8 then P (ix2 (⟨b.val * 4096 + s.val, by omega⟩ : Fin 16384) (⟨p.val * 3072 + n.val * 128 + l.val, by omega⟩ : Fin 12288)) * Ideal.ofBits .f32 0x3E0293EE#32
      else P (ix2 (⟨b.val * 4096 + s.val, by omega⟩ : Fin 16384) (⟨p.val * 3072 + n.val * 128 + l.val, by omega⟩ : Fin 12288))) := by
  unfold parts six
  pointwise
  by_cases h : n.val < 8
  · rw [dif_pos (by omega), if_pos h]
    exact congrArg (fun e => P (ix2 _ e) * Ideal.ofBits .f32 0x3E0293EE#32) (Fin.ext (by
      show p.val * 3072 + n.val / 8 * 1024 + n.val % 8 * 128 + l.val = p.val * 3072 + n.val * 128 + l.val; omega))
  · rw [dif_neg (by omega), if_neg h]
    exact congrArg (fun e => P (ix2 _ e)) (Fin.ext (by
      show p.val * 3072 + (1 + (n.val / 8 - 1)) * 1024 + n.val % 8 * 128 + l.val = p.val * 3072 + n.val * 128 + l.val; omega))

theorem one_bits : Ideal.ofBits .f32 0x3F800000#32 = 1 := by
  pointwise

/-- An entry of the scaled projection, in the layout the results are cut from. -/
theorem val_at (X : FVec Ideal S16384x2048 .f32) (g : FVec Ideal S2048 .f32) (W : FVec Ideal S2048x12288 .f32)
    (b : Fin 4) (s : Fin 4096) (p : Fin 4) (n : Fin 24) (l : Fin 128) (r : Fin 16384) (e : Fin 12288)
    (hr : r.val = b.val * 4096 + s.val) (he : e.val = p.val * 3072 + n.val * 128 + l.val) :
    parts (six (prod (nrm X g) W)) (ix5 b s p n l)
      = EvenPSpec.val (fun r k => X (ix2 r k)) (fun k => g (ix1 k)) (fun k e => W (ix2 k e)) r e := by
  rw [parts_at, show r = ⟨b.val * 4096 + s.val, by omega⟩ from Fin.ext hr, show e = ⟨p.val * 3072 + n.val * 128 + l.val, by omega⟩ from Fin.ext he]
  unfold EvenPSpec.val EvenPSpec.factor
  rw [prod_at]
  simp only [nrm_at]
  by_cases h : n.val < 8
  · rw [if_pos h, if_pos (by show (p.val * 3072 + n.val * 128 + l.val) / 1024 % 3 = 0; omega)]
  · rw [if_neg h, if_neg (by show ¬ (p.val * 3072 + n.val * 128 + l.val) / 1024 % 3 = 0; omega), one_bits, mul_one]

section
variable (X : FVec Ideal S16384x2048 .f32) (g : FVec Ideal S2048 .f32) (W : FVec Ideal S2048x12288 .f32)

theorem plain_spec (n : Fin 48) (r : Fin 16384) (l : Fin 128) : plain (parts (six (prod (nrm X g) W))) (ix3 n r l)
    = EvenPSpec.plain (fun r k => X (ix2 r k)) (fun k => g (ix1 k)) (fun k e => W (ix2 k e)) n r l := by
  unfold EvenPSpec.plain
  have hr : r.val = (⟨r.val / 4096, by omega⟩ : Fin 4).val * 4096 + (⟨r.val % 4096, by omega⟩ : Fin 4096).val := by
    show r.val = r.val / 4096 * 4096 + r.val % 4096; omega
  by_cases h : n.val < 24
  · refine (plain_at_low _ n _ _ l r hr h).trans (val_at X g W _ _ _ _ l r _ hr ?_)
    show (if n.val < 24 then n.val else n.val + 48) * 128 + l.val = 0 * 3072 + n.val * 128 + l.val
    rw [if_pos h]; omega
  · refine (plain_at_high _ n _ _ l r hr h).trans (val_at X g W _ _ _ _ l r _ hr ?_)
    show (if n.val < 24 then n.val else n.val + 48) * 128 + l.val = 3 * 3072 + (n.val - 24) * 128 + l.val
    rw [if_neg h]; omega

theorem fours_spec (n : Fin 24) (b o : Fin 4) (q : Fin 1024) (l : Fin 128) : fours (parts (six (prod (nrm X g) W))) (ix5 n b o q l)
    = EvenPSpec.fours (fun r k => X (ix2 r k)) (fun k => g (ix1 k)) (fun k e => W (ix2 k e)) n b o q l := by
  unfold EvenPSpec.fours
  refine (fours_at _ n b o q l).trans (val_at X g W _ _ _ _ l _ _ ?_ ?_)
  · show b.val * 4096 + q.val * 4 + o.val = b.val * 4096 + (q.val * 4 + o.val); omega
  · show 3072 + n.val * 128 + l.val = 1 * 3072 + n.val * 128 + l.val; omega

theorem sixteens_spec (n : Fin 24) (b : Fin 4) (o : Fin 16) (q : Fin 256) (l : Fin 128) : sixteens (parts (six (prod (nrm X g) W))) (ix5 n b o q l)
    = EvenPSpec.sixteens (fun r k => X (ix2 r k)) (fun k => g (ix1 k)) (fun k e => W (ix2 k e)) n b o q l := by
  unfold EvenPSpec.sixteens
  refine (sixteens_at _ n b o q l).trans (val_at X g W _ _ _ _ l _ _ ?_ ?_)
  · show b.val * 4096 + q.val * 16 + o.val = b.val * 4096 + (q.val * 16 + o.val); omega
  · show 6144 + n.val * 128 + l.val = 2 * 3072 + n.val * 128 + l.val; omega
end

end Cert.EvenPRefIdeal.Value
-- ==== Proof.EvenPClaim.lean ====
module

public import proofs.«01_k».proof.Defs
public import proofs.«01_k».proof.Proof.EvenPKernel
public import proofs.«01_k».proof.Proof.EvenPRef
public import Idealize.ShloMosaic.Lib.Claim

@[expose] public section

set_option maxRecDepth 16384
set_option maxHeartbeats 1000000

/-! The value claim of the even layers' projection. -/

noncomputable section
open Idealize.ShloMosaic Idealize.ShloMosaic.TcCoe Idealize.SL.Sem

namespace Cert.EvenPIdeal.Value
attribute [local instance] Cert.EvenPIdeal.Gen.facts Cert.EvenPRefIdeal.Gen.facts
open Cert.EvenPIdeal Cert.EvenPIdeal.Gen

variable (m : (ℓ : Loc nD τ sig) → Buf (Elt Ideal) ℓ)

theorem match_plain (c : Dev nD) (X : FVec Ideal S16384x2048 .f32) (g : FVec Ideal S2048 .f32) (W : FVec Ideal S2048x12288 .f32)
    (hX : X = argX m c) (hg : g = argG m c) (hW : W = argW m c) :
    (dats m 0 c).arrAt 3 cfg0.N = Cert.EvenPRefIdeal.Value.plain (Cert.EvenPRefIdeal.Value.parts (Cert.EvenPRefIdeal.Value.six
      (Cert.EvenPRefIdeal.Value.prod (Cert.EvenPRefIdeal.Value.nrm X g) W))) := by
  subst hX hg hW
  rw [final3 m c]
  funext y
  obtain ⟨n, r, l, rfl⟩ : ∃ (n : Fin 48) (r : Fin 16384) (l : Fin 128), y = ix3 n r l :=
    ⟨y 0, y 1, y 2, by funext a; fin_cases a <;> rfl⟩
  exact (Cert.EvenPRefIdeal.Value.plain_spec _ _ _ n r l).symm

theorem match_fours (c : Dev nD) (X : FVec Ideal S16384x2048 .f32) (g : FVec Ideal S2048 .f32) (W : FVec Ideal S2048x12288 .f32)
    (hX : X = argX m c) (hg : g = argG m c) (hW : W = argW m c) :
    (dats m 0 c).arrAt 4 cfg0.N = Cert.EvenPRefIdeal.Value.fours (Cert.EvenPRefIdeal.Value.parts (Cert.EvenPRefIdeal.Value.six
      (Cert.EvenPRefIdeal.Value.prod (Cert.EvenPRefIdeal.Value.nrm X g) W))) := by
  subst hX hg hW
  rw [final4 m c]
  funext y
  obtain ⟨n, b, o, q, l, rfl⟩ : ∃ (n : Fin 24) (b o : Fin 4) (q : Fin 1024) (l : Fin 128), y = ix5 n b o q l :=
    ⟨y 0, y 1, y 2, y 3, y 4, by funext a; fin_cases a <;> rfl⟩
  exact (Cert.EvenPRefIdeal.Value.fours_spec _ _ _ n b o q l).symm

theorem match_sixteens (c : Dev nD) (X : FVec Ideal S16384x2048 .f32) (g : FVec Ideal S2048 .f32) (W : FVec Ideal S2048x12288 .f32)
    (hX : X = argX m c) (hg : g = argG m c) (hW : W = argW m c) :
    (dats m 0 c).arrAt 5 cfg0.N = Cert.EvenPRefIdeal.Value.sixteens (Cert.EvenPRefIdeal.Value.parts (Cert.EvenPRefIdeal.Value.six
      (Cert.EvenPRefIdeal.Value.prod (Cert.EvenPRefIdeal.Value.nrm X g) W))) := by
  subst hX hg hW
  rw [final5 m c]
  funext y
  obtain ⟨n, b, o, q, l, rfl⟩ : ∃ (n : Fin 24) (b : Fin 4) (o : Fin 16) (q : Fin 256) (l : Fin 128), y = ix5 n b o q l :=
    ⟨y 0, y 1, y 2, y 3, y 4, by funext a; fin_cases a <;> rfl⟩
  exact (Cert.EvenPRefIdeal.Value.sixteens_spec _ _ _ n b o q l).symm

theorem algebraic : Cert.algebraic_EvenPIdeal_EvenPRefIdeal := by
  pair_intro
  · run_from Cert.EvenPIdeal.Gen.run_main m g
  · run_from Cert.EvenPRefIdeal.Value.run m' g'
    · obtain ⟨a0, a1, a2⟩ := hagree c
      exact (match_plain m c _ _ _ a0 a1 a2).symm
    · obtain ⟨a0, a1, a2⟩ := hagree c
      exact (match_fours m c _ _ _ rfl rfl a2).symm
    · obtain ⟨a0, a1, a2⟩ := hagree c
      exact (match_sixteens m c _ _ _ rfl rfl a2).symm
end Cert.EvenPIdeal.Value
-- ==== Proof.OddPPay.lean ====
module

public import proofs.«01_k».proof.Proof.FfnSpec
public import proofs.«01_k».proof.Proof.Gen.OddPIdeal.Frame
public import Idealize.ShloMosaic.Lib.Pipeline.ValueKit
public import Idealize.ShloMosaic.Lib.Pointwise

@[expose] public section

set_option maxRecDepth 16384

/-! The values the odd layers' projection stores: the normalised rows, their product with the weights, and the product's
    chunks of 128 columns, normalised and rotated, multiplied by the queries' factor, or as they are. -/

noncomputable section
open Idealize.ShloMosaic Idealize.ShloMosaic.TcCoe Idealize.SL.Sem
namespace Cert.OddPIdeal.Value
open Cert.OddPIdeal Cert.OddPIdeal.Gen
open Cert.FfnSpec (rms)

/-- A head's row divided by its root mean square and multiplied by the head's gain. -/
def normed (v g : Fin 128 → EReal) (k : Fin 128) : EReal :=
  v k * Ideal.rsqrt (Ideal.div (∑ l : Fin 128, v l * v l) (Ideal.ofBits .f32 0x43000000#32)
    + Ideal.ofBits .f32 0x358637BD#32) * g k

/-- The normalised row times the cosines plus its partner entries, read through a matrix, times the signed sines. -/
def rotated (v g co si : Fin 128 → EReal) (sw : Fin 128 → Fin 128 → EReal) (l : Fin 128) : EReal :=
  normed v g l * co l + (∑ k : Fin 128, normed v g k * sw k l) * si l

/-- The factor of the queries. -/
def qscale : EReal := Ideal.ofBits .f32 0x3E0293EE#32

theorem pay1_at (x : FVec Ideal S1024x2048 .f32) (g : FVec Ideal S1x2048 .f32) (q : Fin 1024) (k : Fin 2048) :
    (k0_pay1 (F := Ideal) x g : FVec Ideal S1024x2048 .bf16) (ix2 q k) = rms (fun k => x (ix2 q k)) (fun k => g (ix2 (0 : Fin 1) k)) k := by
  unfold rms
  pointwise [k0_pay1]

theorem pay2_at (x : FVec Ideal S1024x2048 .bf16) (w : FVec Ideal S2048x1536 .bf16) (q : Fin 1024) (e : Fin 1536) :
    (k0_pay2 (F := Ideal) x w : FVec Ideal S1024x1536 .f32) (ix2 q e) = ∑ k : Fin 2048, x (ix2 q k) * w (ix2 k e) := by
  pointwise [k0_pay2]

variable (V : FVec Ideal S1024x1536 .f32) (co si : FVec Ideal S1024x128 .f32) (sw : FVec Ideal S128x128 .bf16)
  (hg : FVec Ideal S1x128 .f32) (x : FVec Ideal S1024x2048 .bf16) (w : FVec Ideal S2048x1536 .bf16)

/-- Row `q` of the chunk of columns that begins at `o`. -/
def chunk (o : ℕ) (ho : o ≤ 1408) (q : Fin 1024) (l : Fin 128) : EReal := V (ix2 q ⟨o + l.val, by omega⟩)

/-- One entry of a rotated chunk. -/
def turned (o : ℕ) (ho : o ≤ 1408) (q : Fin 1024) (l : Fin 128) : EReal :=
  rotated (chunk V o ho q) (fun k => hg (ix2 (0 : Fin 1) k)) (fun k => co (ix2 q k)) (fun k => si (ix2 q k))
    (fun k l => sw (ix2 k l)) l

theorem first0_at (z : Fin 1) (q : Fin 1024) (l : Fin 128) :
    (k0_pay16 V co si sw hg : FVec Ideal S1x1024x128 .bf16) (ix3 z q l) = turned V co si sw hg 0 (by decide) q l * qscale := by
  unfold turned rotated normed chunk qscale
  pointwise [k0_pay14, k0_pay15, k0_pay16]

theorem first1_at (z : Fin 1) (q : Fin 1024) (l : Fin 128) :
    (k0_pay20 (k0_pay14 co) (k0_pay15 si) sw (k0_pay17 V) (k0_pay18 hg) (k0_pay19 V) : FVec Ideal S1x1024x128 .bf16) (ix3 z q l) = turned V co si sw hg 128 (by decide) q l * qscale := by
  unfold turned rotated normed chunk qscale
  pointwise [k0_pay14, k0_pay15, k0_pay17, k0_pay18, k0_pay19, k0_pay20]

theorem first2_at (z : Fin 1) (q : Fin 1024) (l : Fin 128) :
    (k0_pay22 (k0_pay21 V (k0_pay14 co) (k0_pay15 si) sw hg) : FVec Ideal S1x1024x128 .bf16) (ix3 z q l) = turned V co si sw hg 256 (by decide) q l * qscale := by
  unfold turned rotated normed chunk qscale
  pointwise [k0_pay14, k0_pay15, k0_pay21, k0_pay22]

theorem first3_at (z : Fin 1) (q : Fin 1024) (l : Fin 128) :
    (k0_pay23 V (k0_pay14 co) (k0_pay15 si) sw hg : FVec Ideal S1x1024x128 .bf16) (ix3 z q l) = turned V co si sw hg 384 (by decide) q l * qscale := by
  unfold turned rotated normed chunk qscale
  pointwise [k0_pay14, k0_pay15, k0_pay23]

theorem first4_at (z : Fin 1) (q : Fin 1024) (l : Fin 128) :
    (k0_pay26 (k0_pay14 co) (k0_pay15 si) sw (k0_pay24 V hg) (k0_pay25 V hg) : FVec Ideal S1x1024x128 .bf16) (ix3 z q l) = turned V co si sw hg 512 (by decide) q l * qscale := by
  unfold turned rotated normed chunk qscale
  pointwise [k0_pay14, k0_pay15, k0_pay24, k0_pay25, k0_pay26]

theorem first5_at (z : Fin 1) (q : Fin 1024) (l : Fin 128) :
    (k0_pay27 V (k0_pay14 co) (k0_pay15 si) sw hg : FVec Ideal S1x1024x128 .bf16) (ix3 z q l) = turned V co si sw hg 640 (by decide) q l * qscale := by
  unfold turned rotated normed chunk qscale
  pointwise [k0_pay14, k0_pay15, k0_pay27]

theorem first6_at (z : Fin 1) (q : Fin 1024) (l : Fin 128) :
    (k0_pay31 (k0_pay14 co) (k0_pay15 si) sw (k0_pay28 V) (k0_pay29 hg) (k0_pay30 V) : FVec Ideal S1x1024x128 .bf16) (ix3 z q l) = turned V co si sw hg 768 (by decide) q l * qscale := by
  unfold turned rotated normed chunk qscale
  pointwise [k0_pay14, k0_pay15, k0_pay28, k0_pay29, k0_pay30, k0_pay31]

theorem first7_at (z : Fin 1) (q : Fin 1024) (l : Fin 128) :
    (k0_pay33 (k0_pay32 V (k0_pay14 co) (k0_pay15 si) sw hg) : FVec Ideal S1x1024x128 .bf16) (ix3 z q l) = turned V co si sw hg 896 (by decide) q l * qscale := by
  unfold turned rotated normed chunk qscale
  pointwise [k0_pay14, k0_pay15, k0_pay32, k0_pay33]

theorem first8_at (z : Fin 1) (q : Fin 1024) (l : Fin 128) :
    (k0_pay34 V (k0_pay14 co) (k0_pay15 si) sw hg : FVec Ideal S1x1024x128 .bf16) (ix3 z q l) = turned V co si sw hg 1024 (by decide) q l := by
  unfold turned rotated normed chunk
  pointwise [k0_pay14, k0_pay15, k0_pay34]

theorem first9_at (z : Fin 1) (q : Fin 1024) (l : Fin 128) :
    (k0_pay3 (k0_pay14 co) (k0_pay15 si) sw (k0_pay35 V) (k0_pay36 hg) : FVec Ideal S1x1024x128 .bf16) (ix3 z q l) = turned V co si sw hg 1152 (by decide) q l := by
  unfold turned rotated normed chunk
  pointwise [k0_pay14, k0_pay15, k0_pay35, k0_pay36, k0_pay3]

theorem first10_at (z : Fin 1) (q : Fin 1024) (l : Fin 128) :
    (k0_pay4 x w : FVec Ideal S1x1024x128 .bf16) (ix3 z q l) = chunk (k0_pay2 x w) 1280 (by decide) q l := by
  unfold chunk
  pointwise [k0_pay4]

theorem first11_at (z : Fin 1) (q : Fin 1024) (l : Fin 128) :
    (k0_pay5 x w : FVec Ideal S1x1024x128 .bf16) (ix3 z q l) = chunk (k0_pay2 x w) 1408 (by decide) q l := by
  unfold chunk
  pointwise [k0_pay5]

theorem second0_at (z : Fin 1) (q : Fin 1024) (l : Fin 128) :
    (k0_pay37 V : FVec Ideal S1x1024x128 .bf16) (ix3 z q l) = chunk V 0 (by decide) q l * qscale := by
  unfold chunk qscale
  pointwise [k0_pay37]

theorem second1_at (z : Fin 1) (q : Fin 1024) (l : Fin 128) :
    (k0_pay38 V : FVec Ideal S1x1024x128 .bf16) (ix3 z q l) = chunk V 128 (by decide) q l * qscale := by
  unfold chunk qscale
  pointwise [k0_pay38]

theorem second2_at (z : Fin 1) (q : Fin 1024) (l : Fin 128) :
    (k0_pay39 V : FVec Ideal S1x1024x128 .bf16) (ix3 z q l) = chunk V 256 (by decide) q l * qscale := by
  unfold chunk qscale
  pointwise [k0_pay39]

theorem second3_at (z : Fin 1) (q : Fin 1024) (l : Fin 128) :
    (k0_pay40 V : FVec Ideal S1x1024x128 .bf16) (ix3 z q l) = chunk V 384 (by decide) q l * qscale := by
  unfold chunk qscale
  pointwise [k0_pay40]

theorem second4_at (z : Fin 1) (q : Fin 1024) (l : Fin 128) :
    (k0_pay41 V : FVec Ideal S1x1024x128 .bf16) (ix3 z q l) = chunk V 512 (by decide) q l * qscale := by
  unfold chunk qscale
  pointwise [k0_pay41]

theorem second5_at (z : Fin 1) (q : Fin 1024) (l : Fin 128) :
    (k0_pay42 V : FVec Ideal S1x1024x128 .bf16) (ix3 z q l) = chunk V 640 (by decide) q l * qscale := by
  unfold chunk qscale
  pointwise [k0_pay42]

theorem second6_at (z : Fin 1) (q : Fin 1024) (l : Fin 128) :
    (k0_pay43 V : FVec Ideal S1x1024x128 .bf16) (ix3 z q l) = chunk V 768 (by decide) q l * qscale := by
  unfold chunk qscale
  pointwise [k0_pay43]

theorem second7_at (z : Fin 1) (q : Fin 1024) (l : Fin 128) :
    (k0_pay44 V : FVec Ideal S1x1024x128 .bf16) (ix3 z q l) = chunk V 896 (by decide) q l * qscale := by
  unfold chunk qscale
  pointwise [k0_pay44]

theorem second8_at (z : Fin 1) (q : Fin 1024) (l : Fin 128) :
    (k0_pay45 V : FVec Ideal S1x1024x128 .bf16) (ix3 z q l) = chunk V 1024 (by decide) q l := by
  unfold chunk
  pointwise [k0_pay45]

theorem second9_at (z : Fin 1) (q : Fin 1024) (l : Fin 128) :
    (k0_pay46 V : FVec Ideal S1x1024x128 .bf16) (ix3 z q l) = chunk V 1152 (by decide) q l := by
  unfold chunk
  pointwise [k0_pay46]

theorem second10_at (z : Fin 1) (q : Fin 1024) (l : Fin 128) :
    (k0_pay6 (k0_pay47 V) : FVec Ideal S1x1024x128 .bf16) (ix3 z q l) = chunk V 1280 (by decide) q l := by
  unfold chunk
  pointwise [k0_pay6, k0_pay47]

theorem second11_at (z : Fin 1) (q : Fin 1024) (l : Fin 128) :
    (k0_pay7 x w : FVec Ideal S1x1024x128 .bf16) (ix3 z q l) = chunk (k0_pay2 x w) 1408 (by decide) q l := by
  unfold chunk
  pointwise [k0_pay7]

theorem third0_at (z : Fin 1) (q : Fin 1024) (l : Fin 128) :
    (k0_pay48 V : FVec Ideal S1x1024x128 .bf16) (ix3 z q l) = chunk V 0 (by decide) q l := by
  unfold chunk
  pointwise [k0_pay48]

theorem third1_at (z : Fin 1) (q : Fin 1024) (l : Fin 128) :
    (k0_pay49 V : FVec Ideal S1x1024x128 .bf16) (ix3 z q l) = chunk V 128 (by decide) q l := by
  unfold chunk
  pointwise [k0_pay49]

theorem third2_at (z : Fin 1) (q : Fin 1024) (l : Fin 128) :
    (k0_pay50 V : FVec Ideal S1x1024x128 .bf16) (ix3 z q l) = chunk V 256 (by decide) q l := by
  unfold chunk
  pointwise [k0_pay50]

theorem third3_at (z : Fin 1) (q : Fin 1024) (l : Fin 128) :
    (k0_pay51 V : FVec Ideal S1x1024x128 .bf16) (ix3 z q l) = chunk V 384 (by decide) q l := by
  unfold chunk
  pointwise [k0_pay51]

theorem third4_at (z : Fin 1) (q : Fin 1024) (l : Fin 128) :
    (k0_pay52 V : FVec Ideal S1x1024x128 .bf16) (ix3 z q l) = chunk V 512 (by decide) q l := by
  unfold chunk
  pointwise [k0_pay52]

theorem third5_at (z : Fin 1) (q : Fin 1024) (l : Fin 128) :
    (k0_pay53 V : FVec Ideal S1x1024x128 .bf16) (ix3 z q l) = chunk V 640 (by decide) q l := by
  unfold chunk
  pointwise [k0_pay53]

theorem third6_at (z : Fin 1) (q : Fin 1024) (l : Fin 128) :
    (k0_pay8 (k0_pay54 V) : FVec Ideal S1x1024x128 .bf16) (ix3 z q l) = chunk V 768 (by decide) q l := by
  unfold chunk
  pointwise [k0_pay8, k0_pay54]

theorem third7_at (z : Fin 1) (q : Fin 1024) (l : Fin 128) :
    (k0_pay9 x w : FVec Ideal S1x1024x128 .bf16) (ix3 z q l) = chunk (k0_pay2 x w) 896 (by decide) q l := by
  unfold chunk
  pointwise [k0_pay9]

theorem third8_at (z : Fin 1) (q : Fin 1024) (l : Fin 128) :
    (k0_pay10 x w : FVec Ideal S1x1024x128 .bf16) (ix3 z q l) = chunk (k0_pay2 x w) 1024 (by decide) q l := by
  unfold chunk
  pointwise [k0_pay10]

theorem third9_at (z : Fin 1) (q : Fin 1024) (l : Fin 128) :
    (k0_pay11 x w : FVec Ideal S1x1024x128 .bf16) (ix3 z q l) = chunk (k0_pay2 x w) 1152 (by decide) q l := by
  unfold chunk
  pointwise [k0_pay11]

theorem third10_at (z : Fin 1) (q : Fin 1024) (l : Fin 128) :
    (k0_pay12 x w : FVec Ideal S1x1024x128 .bf16) (ix3 z q l) = chunk (k0_pay2 x w) 1280 (by decide) q l := by
  unfold chunk
  pointwise [k0_pay12]

theorem third11_at (z : Fin 1) (q : Fin 1024) (l : Fin 128) :
    (k0_pay13 x w : FVec Ideal S1x1024x128 .bf16) (ix3 z q l) = chunk (k0_pay2 x w) 1408 (by decide) q l := by
  unfold chunk
  pointwise [k0_pay13]

end Cert.OddPIdeal.Value
-- ==== Proof.OddPOut.lean ====
module

public import proofs.«01_k».proof.Proof.OddPPay
public import Idealize.ShloMosaic.Lib.WholeRead

@[expose] public section

set_option maxRecDepth 16384

/-! What a point of the odd layers' projection leaves: twelve chunks of its tile of the product, the first tile's rotated
    where they hold queries and keys, and the normalised rows in the scratch. -/

noncomputable section
open Idealize.ShloMosaic Idealize.ShloMosaic.TcCoe Idealize.SL.Sem
namespace Cert.OddPIdeal.Value
open Cert.OddPIdeal Cert.OddPIdeal.Gen
open Cert.FfnSpec (rms)

/-- One head's gain as a row. -/
def headRow (H : FVec Ideal S10x128 .f32) (a : ℕ) (ha : a < 10) : FVec Ideal S1x128 .f32 :=
  fun i => H (ix2 (⟨a, ha⟩ : Fin 10) (⟨(i 1).val, (i 1).isLt⟩ : Fin 128))

/-- The chunks of a first tile: queries rotated and scaled, keys rotated, values. -/
def firstTile (V : FVec Ideal S1024x1536 .f32) (co si : FVec Ideal S1024x128 .f32) (sw : FVec Ideal S128x128 .bf16)
    (H : FVec Ideal S10x128 .f32) (a : Fin 12) (q : Fin 1024) (l : Fin 128) : EReal :=
  if h : a.val < 8 then turned V co si sw (headRow H a.val (by omega)) (128 * a.val) (by omega) q l * qscale
  else if h : a.val < 10 then turned V co si sw (headRow H a.val h) (128 * a.val) (by omega) q l
  else chunk V (128 * a.val) (by omega) q l

/-- The chunks of a second tile: queries scaled, then keys as they are. -/
def secondTile (V : FVec Ideal S1024x1536 .f32) (a : Fin 12) (q : Fin 1024) (l : Fin 128) : EReal :=
  if a.val < 8 then chunk V (128 * a.val) (by omega) q l * qscale else chunk V (128 * a.val) (by omega) q l

/-- The chunks of a third tile, as they are. -/
def thirdTile (V : FVec Ideal S1024x1536 .f32) (a : Fin 12) (q : Fin 1024) (l : Fin 128) : EReal :=
  chunk V (128 * a.val) (by omega) q l

/-- A function of a chunk, a row and a column, at an index of the output's block. -/
def at3 (G : Fin 12 → Fin 1024 → Fin 128 → EReal) (y : S12x1024x128.Idx) : EReal :=
  G ⟨(y 0).val, (y 0).isLt⟩ ⟨(y 1).val, (y 1).isLt⟩ ⟨(y 2).val, (y 2).isLt⟩

theorem piece_of (G : Fin 12 → Fin 1024 → Fin 128 → EReal) (P : FVec Ideal S1x1024x128 .bf16) (a : ℕ) (ha : a < 12) (inb)
    (h : ∀ (z : Fin 1) (q : Fin 1024) (l : Fin 128), P (ix3 z q l) = G ⟨a, ha⟩ q l) (x : S1x1024x128.Idx) :
    P x = at3 G ((Rect.unit (s := S12x1024x128) ![a, 0, 0] S1x1024x128.size inb).emb x) := by
  obtain ⟨z, q, l, rfl⟩ : ∃ (z : Fin 1) (q : Fin 1024) (l : Fin 128), x = ix3 z q l :=
    ⟨x 0, x 1, x 2, by funext a; fin_cases a <;> rfl⟩
  rw [h]
  unfold at3
  congr 1 <;> refine Fin.ext ?_
  · show a = a + 1 * z.val; omega
  · show q.val = 0 + 1 * q.val; omega
  · show l.val = 0 + 1 * l.val; omega

theorem whole_rows {a : Memref sig .tc .vmem S1024x2048 .bf16} (h : a.IsWhole) (X : Vec Ideal S1024x2048 .bf16) (inb) :
    View.readAt (Elt Ideal) a.view (Rect.unit (s := S1024x2048) ![0, 0] S1024x2048.size inb).toLoadRect (h.unread X) = X := by
  funext x
  refine (h.readAt_unread X _ x).trans (congrArg X (funext fun a => Fin.ext ?_))
  fin_cases a <;> exact (Nat.zero_add _).trans (Nat.one_mul _)

theorem whole_block {a : Memref sig .tc .vmem S1024x2048 .f32} (h : a.IsWhole) (X : Vec Ideal S1024x2048 .f32) (inb) :
    View.readAt (Elt Ideal) a.view (Rect.unit (s := S1024x2048) ![0, 0] S1024x2048.size inb).toLoadRect (h.unread X) = X := by
  funext x
  refine (h.readAt_unread X _ x).trans (congrArg X (funext fun a => Fin.ext ?_))
  fin_cases a <;> exact (Nat.zero_add _).trans (Nat.one_mul _)

theorem whole_gain {a : Memref sig .tc .vmem S1x2048 .f32} (h : a.IsWhole) (X : Vec Ideal S1x2048 .f32) (inb) :
    View.readAt (Elt Ideal) a.view (Rect.unit (s := S1x2048) ![0, 0] S1x2048.size inb).toLoadRect (h.unread X) = X := by
  funext x
  refine (h.readAt_unread X _ x).trans (congrArg X (funext fun a => Fin.ext ?_))
  fin_cases a <;> exact (Nat.zero_add _).trans (Nat.one_mul _)

theorem whole_weight {a : Memref sig .tc .vmem S2048x1536 .bf16} (h : a.IsWhole) (X : Vec Ideal S2048x1536 .bf16) (inb) :
    View.readAt (Elt Ideal) a.view (Rect.unit (s := S2048x1536) ![0, 0] S2048x1536.size inb).toLoadRect (h.unread X) = X := by
  funext x
  refine (h.readAt_unread X _ x).trans (congrArg X (funext fun a => Fin.ext ?_))
  fin_cases a <;> exact (Nat.zero_add _).trans (Nat.one_mul _)

theorem whole_angle {a : Memref sig .tc .vmem S1024x128 .f32} (h : a.IsWhole) (X : Vec Ideal S1024x128 .f32) (inb) :
    View.readAt (Elt Ideal) a.view (Rect.unit (s := S1024x128) ![0, 0] S1024x128.size inb).toLoadRect (h.unread X) = X := by
  funext x
  refine (h.readAt_unread X _ x).trans (congrArg X (funext fun a => Fin.ext ?_))
  fin_cases a <;> exact (Nat.zero_add _).trans (Nat.one_mul _)

theorem whole_swap {a : Memref sig .tc .vmem S128x128 .bf16} (h : a.IsWhole) (X : Vec Ideal S128x128 .bf16) (inb) :
    View.readAt (Elt Ideal) a.view (Rect.unit (s := S128x128) ![0, 0] S128x128.size inb).toLoadRect (h.unread X) = X := by
  funext x
  refine (h.readAt_unread X _ x).trans (congrArg X (funext fun a => Fin.ext ?_))
  fin_cases a <;> exact (Nat.zero_add _).trans (Nat.one_mul _)

theorem head_row {a : Memref sig .tc .vmem S10x128 .f32} (h : a.IsWhole) (X : Vec Ideal S10x128 .f32) (r : ℕ) (hr : r < 10) (inb) :
    View.readAt (Elt Ideal) a.view (Rect.unit (s := S10x128) ![r, 0] S1x128.size inb).toLoadRect (h.unread X) = headRow X r hr := by
  funext x
  refine (h.readAt_unread X _ x).trans (congrArg X (funext fun a => Fin.ext ?_))
  have h0 : (x 0).val < 1 := (x 0).isLt
  fin_cases a
  · show r + 1 * (x 0).val = r; omega
  · show 0 + 1 * (x 1).val = (x 1).val; omega

theorem rows_canon (c : Dev nD) (a2 : Memref sig .tc .vmem S1024x2048 .f32) (h2 : a2.IsWhole) (a3 : Memref sig .tc .vmem S1x2048 .f32) (h3 : a3.IsWhole)
    (x : FVec Ideal S1024x2048 .f32) (g : FVec Ideal S1x2048 .f32) (y : S1024x2048.Idx) :
    View.canon (Val := Elt Ideal) (kernelRun0_A.sl.HS0_1 (F := Ideal) c a2 h2 a3 h3 x g) y = k0_pay1 (F := Ideal) x g y := by
  refine View.canon_apply_of_pieces (k0_pay1 (F := Ideal) x g) _ ?_ y
    (View.cover_of_tiledL (kernelRun0_A.sl.HS0_1 (F := Ideal) c a2 h2 a3 h3 x g) S1024x2048.size (by sl_kernel_rfl) y)
  unfold kernelRun0_A.sl.HS0_1
  rw [whole_block h2 x, whole_gain h3 g]
  refine List.forall_mem_cons.mpr ⟨fun x' => congrArg (k0_pay1 (F := Ideal) x g) (funext fun a => Fin.ext ?_), fun _ h => absurd h List.not_mem_nil⟩
  fin_cases a <;> exact ((Nat.zero_add _).trans (Nat.one_mul _)).symm

theorem rows_read (c : Dev nD) (a2 : Memref sig .tc .vmem S1024x2048 .f32) (h2 : a2.IsWhole) (a3 : Memref sig .tc .vmem S1x2048 .f32) (h3 : a3.IsWhole)
    (a10 : Memref sig .tc .vmem S1024x2048 .bf16) (x : FVec Ideal S1024x2048 .f32) (g : FVec Ideal S1x2048 .f32) :
    kernelRun0_A.sl.v3 (F := Ideal) c a2 h2 a3 h3 a10 x g = k0_pay1 (F := Ideal) x g := by
  unfold kernelRun0_A.sl.v3
  rw [View.readCov_eq_canon']
  funext y
  refine (rows_canon c a2 h2 a3 h3 x g _).trans (congrArg _ (funext fun a => Fin.ext ?_))
  fin_cases a <;> exact (Nat.zero_add _).trans (Nat.one_mul _)

theorem outA_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1536 .bf16) (harg4 : arg4.IsWhole) (arg5 : Memref sig .tc .vmem S10x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x128 .bf16) (harg8 : arg8.IsWhole) (arg9 : Memref sig .tc .vmem S12x1024x128 .bf16) (harg9 : arg9.IsWhole) (arg10 : Memref sig .tc .vmem S1024x2048 .bf16) (harg10 : arg10.IsWhole) (hc0 : cond0_0 i) (hc1 : cond0_1 i) (hc2 : ¬cond0_2 i) (hc3 : ¬cond0_3 i)
    (x0 : Vec Ideal S1024x2048 .f32) (x1 : Vec Ideal S1x2048 .f32) (x2 : Vec Ideal S2048x1536 .bf16) (x3 : Vec Ideal S10x128 .f32) (x4 : Vec Ideal S1024x128 .f32) (x5 : Vec Ideal S1024x128 .f32) (x6 : Vec Ideal S128x128 .bf16) (y : S12x1024x128.Idx) :
    out0_A_7 (F := Ideal) c i arg2 harg2 arg3 harg3 arg4 harg4 arg5 harg5 arg6 harg6 arg7 harg7 arg8 harg8 arg9 harg9 arg10 harg10 hc0 hc1 hc2 hc3 x0 x1 x2 x3 x4 x5 x6 y = at3 (firstTile (k0_pay2 (F := Ideal) (k0_pay1 (F := Ideal) x0 x1) x2) x4 x5 x6 x3) y := by
  have eV : (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) = k0_pay2 (F := Ideal) (k0_pay1 (F := Ideal) x0 x1) x2 := by
    rw [rows_read, whole_weight harg4 x2]
  have eC : (View.readAt (Elt Ideal) arg6.view (Rect.unit ![0, 0] S1024x128.size inb_S1024x128_S1024x128_0_0).toLoadRect (harg6.unread x4)) = x4 := whole_angle harg6 x4 _
  have eS : (View.readAt (Elt Ideal) arg7.view (Rect.unit ![0, 0] S1024x128.size inb_S1024x128_S1024x128_0_0).toLoadRect (harg7.unread x5)) = x5 := whole_angle harg7 x5 _
  have eW : (View.readAt (Elt Ideal) arg8.view (Rect.unit ![0, 0] S128x128.size inb_S128x128_S128x128_0_0).toLoadRect (harg8.unread x6)) = x6 := whole_swap harg8 x6 _
  unfold out0_A_7
  rw [View.read_writes_junk_apply_eq_canon]
  refine View.canon_apply_of_pieces (at3 (firstTile (k0_pay2 (F := Ideal) (k0_pay1 (F := Ideal) x0 x1) x2) x4 x5 x6 x3)) _ ?_ y
    (cover0_A_7 c i arg2 harg2 arg3 harg3 arg4 harg4 arg5 harg5 arg6 harg6 arg7 harg7 arg8 harg8 arg9 harg9 arg10 harg10 hc0 hc1 hc2 hc3 x0 x1 x2 x3 x4 x5 x6 y)
  rw [← eV]
  unfold kernelRun0_A
  dsimp only
  refine List.forall_mem_cons.mpr ⟨fun x => by dsimp only; exact piece_of _ _ 11 (by decide) (by decide +kernel) (fun z q l => first11_at (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2)) z q l) x, ?_⟩
  refine List.forall_mem_cons.mpr ⟨fun x => by dsimp only; exact piece_of _ _ 10 (by decide) (by decide +kernel) (fun z q l => first10_at (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2)) z q l) x, ?_⟩
  refine List.forall_mem_cons.mpr ⟨fun x => by dsimp only; exact piece_of _ _ 9 (by decide) (by decide +kernel) (fun z q l => (first9_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![9, 0] S1x128.size inb_S10x128_S1x128_9_0).toLoadRect (harg5.unread x3)) z q l).trans (by rw [head_row harg5 x3 9 (by decide), eC, eS, eW]; rfl)) x, ?_⟩
  refine List.forall_mem_cons.mpr ⟨fun x => by dsimp only; exact piece_of _ _ 8 (by decide) (by decide +kernel) (fun z q l => (first8_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![8, 0] S1x128.size inb_S10x128_S1x128_8_0).toLoadRect (harg5.unread x3)) z q l).trans (by rw [head_row harg5 x3 8 (by decide), eC, eS, eW]; rfl)) x, ?_⟩
  refine List.forall_mem_cons.mpr ⟨fun x => by dsimp only; exact piece_of _ _ 7 (by decide) (by decide +kernel) (fun z q l => (first7_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![7, 0] S1x128.size inb_S10x128_S1x128_7_0).toLoadRect (harg5.unread x3)) z q l).trans (by rw [head_row harg5 x3 7 (by decide), eC, eS, eW]; rfl)) x, ?_⟩
  refine List.forall_mem_cons.mpr ⟨fun x => by dsimp only; exact piece_of _ _ 6 (by decide) (by decide +kernel) (fun z q l => (first6_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![6, 0] S1x128.size inb_S10x128_S1x128_6_0).toLoadRect (harg5.unread x3)) z q l).trans (by rw [head_row harg5 x3 6 (by decide), eC, eS, eW]; rfl)) x, ?_⟩
  refine List.forall_mem_cons.mpr ⟨fun x => by dsimp only; exact piece_of _ _ 5 (by decide) (by decide +kernel) (fun z q l => (first5_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![5, 0] S1x128.size inb_S10x128_S1x128_5_0).toLoadRect (harg5.unread x3)) z q l).trans (by rw [head_row harg5 x3 5 (by decide), eC, eS, eW]; rfl)) x, ?_⟩
  refine List.forall_mem_cons.mpr ⟨fun x => by dsimp only; exact piece_of _ _ 4 (by decide) (by decide +kernel) (fun z q l => (first4_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![4, 0] S1x128.size inb_S10x128_S1x128_4_0).toLoadRect (harg5.unread x3)) z q l).trans (by rw [head_row harg5 x3 4 (by decide), eC, eS, eW]; rfl)) x, ?_⟩
  refine List.forall_mem_cons.mpr ⟨fun x => by dsimp only; exact piece_of _ _ 3 (by decide) (by decide +kernel) (fun z q l => (first3_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![3, 0] S1x128.size inb_S10x128_S1x128_3_0).toLoadRect (harg5.unread x3)) z q l).trans (by rw [head_row harg5 x3 3 (by decide), eC, eS, eW]; rfl)) x, ?_⟩
  refine List.forall_mem_cons.mpr ⟨fun x => by dsimp only; exact piece_of _ _ 2 (by decide) (by decide +kernel) (fun z q l => (first2_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![2, 0] S1x128.size inb_S10x128_S1x128_2_0).toLoadRect (harg5.unread x3)) z q l).trans (by rw [head_row harg5 x3 2 (by decide), eC, eS, eW]; rfl)) x, ?_⟩
  refine List.forall_mem_cons.mpr ⟨fun x => by dsimp only; exact piece_of _ _ 1 (by decide) (by decide +kernel) (fun z q l => (first1_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![1, 0] S1x128.size inb_S10x128_S1x128_1_0).toLoadRect (harg5.unread x3)) z q l).trans (by rw [head_row harg5 x3 1 (by decide), eC, eS, eW]; rfl)) x, ?_⟩
  refine List.forall_mem_cons.mpr ⟨fun x => by dsimp only; exact piece_of _ _ 0 (by decide) (by decide +kernel) (fun z q l => (first0_at (k0_pay2 (F := Ideal) (kernelRun0_A.sl.v3 (F := Ideal) c arg2 harg2 arg3 harg3 arg10 x0 x1) (View.readAt (Elt Ideal) arg4.view (Rect.unit ![0, 0] S2048x1536.size inb_S2048x1536_S2048x1536_0_0).toLoadRect (harg4.unread x2))) (View.readAt (Elt Ideal) arg6.view (Rect.unit ![0, 0] S1024x128.size inb_S1024x128_S1024x128_0_0).toLoadRect (harg6.unread x4)) (View.readAt (Elt Ideal) arg7.view (Rect.unit ![0, 0] S1024x128.size inb_S1024x128_S1024x128_0_0).toLoadRect (harg7.unread x5)) (View.readAt (Elt Ideal) arg8.view (Rect.unit ![0, 0] S128x128.size inb_S128x128_S128x128_0_0).toLoadRect (harg8.unread x6)) (View.readAt (Elt Ideal) arg5.view (Rect.unit (s := S10x128) ![0, 0] S1x128.size inb_S10x128_S1x128_0_0).toLoadRect (harg5.unread x3)) z q l).trans (by rw [head_row harg5 x3 0 (by decide), eC, eS, eW]; rfl)) x, ?_⟩
  exact fun _ h => absurd h List.not_mem_nil

theorem outB_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1536 .bf16) (harg4 : arg4.IsWhole) (arg5 : Memref sig .tc .vmem S10x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x128 .bf16) (harg8 : arg8.IsWhole) (arg9 : Memref sig .tc .vmem S12x1024x128 .bf16) (harg9 : arg9.IsWhole) (arg10 : Memref sig .tc .vmem S1024x2048 .bf16) (harg10 : arg10.IsWhole) (hc0 : ¬cond0_0 i) (hc1 : ¬cond0_1 i) (hc2 : cond0_2 i) (hc3 : ¬cond0_3 i)
    (x0 : Vec Ideal S1024x2048 .f32) (x1 : Vec Ideal S1x2048 .f32) (x2 : Vec Ideal S2048x1536 .bf16) (x3 : Vec Ideal S10x128 .f32) (x4 : Vec Ideal S1024x128 .f32) (x5 : Vec Ideal S1024x128 .f32) (x6 : Vec Ideal S128x128 .bf16) (xs0 : Vec Ideal S1024x2048 .bf16) (y : S12x1024x128.Idx) :
    out0_B_7 (F := Ideal) c i arg2 harg2 arg3 harg3 arg4 harg4 arg5 harg5 arg6 harg6 arg7 harg7 arg8 harg8 arg9 harg9 arg10 harg10 hc0 hc1 hc2 hc3 x0 x1 x2 x3 x4 x5 x6 xs0 y = at3 (secondTile (k0_pay2 (F := Ideal) xs0 x2)) y := by
  have eV : (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) = k0_pay2 (F := Ideal) xs0 x2 := by
    rw [whole_rows harg10 xs0, whole_weight harg4 x2]
  unfold out0_B_7
  rw [View.read_writes_junk_apply_eq_canon]
  refine View.canon_apply_of_pieces (at3 (secondTile (k0_pay2 (F := Ideal) xs0 x2))) _ ?_ y
    (cover0_B_7 c i arg2 harg2 arg3 harg3 arg4 harg4 arg5 harg5 arg6 harg6 arg7 harg7 arg8 harg8 arg9 harg9 arg10 harg10 hc0 hc1 hc2 hc3 x0 x1 x2 x3 x4 x5 x6 xs0 y)
  rw [← eV]
  unfold kernelRun0_B
  dsimp only
  refine List.forall_mem_cons.mpr ⟨fun x => by dsimp only; exact piece_of _ _ 11 (by decide) (by decide +kernel) (fun z q l => second11_at (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2)) z q l) x, ?_⟩
  refine List.forall_mem_cons.mpr ⟨fun x => by dsimp only; exact piece_of _ _ 10 (by decide) (by decide +kernel) (fun z q l => second10_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 9 (by decide) (by decide +kernel) (fun z q l => second9_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 8 (by decide) (by decide +kernel) (fun z q l => second8_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 7 (by decide) (by decide +kernel) (fun z q l => second7_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 6 (by decide) (by decide +kernel) (fun z q l => second6_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 5 (by decide) (by decide +kernel) (fun z q l => second5_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 4 (by decide) (by decide +kernel) (fun z q l => second4_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 3 (by decide) (by decide +kernel) (fun z q l => second3_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 2 (by decide) (by decide +kernel) (fun z q l => second2_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 1 (by decide) (by decide +kernel) (fun z q l => second1_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 0 (by decide) (by decide +kernel) (fun z q l => second0_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  exact fun _ h => absurd h List.not_mem_nil

theorem outC_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1536 .bf16) (harg4 : arg4.IsWhole) (arg5 : Memref sig .tc .vmem S10x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x128 .bf16) (harg8 : arg8.IsWhole) (arg9 : Memref sig .tc .vmem S12x1024x128 .bf16) (harg9 : arg9.IsWhole) (arg10 : Memref sig .tc .vmem S1024x2048 .bf16) (harg10 : arg10.IsWhole) (hc0 : ¬cond0_0 i) (hc1 : ¬cond0_1 i) (hc2 : ¬cond0_2 i) (hc3 : cond0_3 i)
    (x0 : Vec Ideal S1024x2048 .f32) (x1 : Vec Ideal S1x2048 .f32) (x2 : Vec Ideal S2048x1536 .bf16) (x3 : Vec Ideal S10x128 .f32) (x4 : Vec Ideal S1024x128 .f32) (x5 : Vec Ideal S1024x128 .f32) (x6 : Vec Ideal S128x128 .bf16) (xs0 : Vec Ideal S1024x2048 .bf16) (y : S12x1024x128.Idx) :
    out0_C_7 (F := Ideal) c i arg2 harg2 arg3 harg3 arg4 harg4 arg5 harg5 arg6 harg6 arg7 harg7 arg8 harg8 arg9 harg9 arg10 harg10 hc0 hc1 hc2 hc3 x0 x1 x2 x3 x4 x5 x6 xs0 y = at3 (thirdTile (k0_pay2 (F := Ideal) xs0 x2)) y := by
  have eV : (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) = k0_pay2 (F := Ideal) xs0 x2 := by
    rw [whole_rows harg10 xs0, whole_weight harg4 x2]
  unfold out0_C_7
  rw [View.read_writes_junk_apply_eq_canon]
  refine View.canon_apply_of_pieces (at3 (thirdTile (k0_pay2 (F := Ideal) xs0 x2))) _ ?_ y
    (cover0_C_7 c i arg2 harg2 arg3 harg3 arg4 harg4 arg5 harg5 arg6 harg6 arg7 harg7 arg8 harg8 arg9 harg9 arg10 harg10 hc0 hc1 hc2 hc3 x0 x1 x2 x3 x4 x5 x6 xs0 y)
  rw [← eV]
  unfold kernelRun0_C
  dsimp only
  refine List.forall_mem_cons.mpr ⟨fun x => by dsimp only; exact piece_of _ _ 11 (by decide) (by decide +kernel) (fun z q l => third11_at (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2)) z q l) x, ?_⟩
  refine List.forall_mem_cons.mpr ⟨fun x => by dsimp only; exact piece_of _ _ 10 (by decide) (by decide +kernel) (fun z q l => third10_at (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2)) z q l) x, ?_⟩
  refine List.forall_mem_cons.mpr ⟨fun x => by dsimp only; exact piece_of _ _ 9 (by decide) (by decide +kernel) (fun z q l => third9_at (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2)) z q l) x, ?_⟩
  refine List.forall_mem_cons.mpr ⟨fun x => by dsimp only; exact piece_of _ _ 8 (by decide) (by decide +kernel) (fun z q l => third8_at (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2)) z q l) x, ?_⟩
  refine List.forall_mem_cons.mpr ⟨fun x => by dsimp only; exact piece_of _ _ 7 (by decide) (by decide +kernel) (fun z q l => third7_at (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2)) z q l) x, ?_⟩
  refine List.forall_mem_cons.mpr ⟨fun x => by dsimp only; exact piece_of _ _ 6 (by decide) (by decide +kernel) (fun z q l => third6_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 5 (by decide) (by decide +kernel) (fun z q l => third5_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 4 (by decide) (by decide +kernel) (fun z q l => third4_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 3 (by decide) (by decide +kernel) (fun z q l => third3_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 2 (by decide) (by decide +kernel) (fun z q l => third2_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 1 (by decide) (by decide +kernel) (fun z q l => third1_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  refine List.forall_mem_cons.mpr ⟨fun x => by dsimp only; exact piece_of _ _ 0 (by decide) (by decide +kernel) (fun z q l => third0_at (k0_pay2 (F := Ideal) (View.readAt (Elt Ideal) arg10.view (Rect.unit ![0, 0] S1024x2048.size inb_S1024x2048_S1024x2048_0_0).toLoadRect (harg10.unread xs0)) (View.readAt (Elt Ideal) arg4.view (Rect.unit ![0, 0] S2048x1536.size inb_S2048x1536_S2048x1536_0_0).toLoadRect (harg4.unread x2))) z q l) x, ?_⟩
  exact fun _ h => absurd h List.not_mem_nil

theorem soutA_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1536 .bf16) (harg4 : arg4.IsWhole) (arg5 : Memref sig .tc .vmem S10x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x128 .bf16) (harg8 : arg8.IsWhole) (arg9 : Memref sig .tc .vmem S12x1024x128 .bf16) (harg9 : arg9.IsWhole) (arg10 : Memref sig .tc .vmem S1024x2048 .bf16) (harg10 : arg10.IsWhole) (hc0 : cond0_0 i) (hc1 : cond0_1 i) (hc2 : ¬cond0_2 i) (hc3 : ¬cond0_3 i)
    (x0 : Vec Ideal S1024x2048 .f32) (x1 : Vec Ideal S1x2048 .f32) (x2 : Vec Ideal S2048x1536 .bf16) (x3 : Vec Ideal S10x128 .f32) (x4 : Vec Ideal S1024x128 .f32) (x5 : Vec Ideal S1024x128 .f32) (x6 : Vec Ideal S128x128 .bf16) :
    sout0_A_0 (F := Ideal) c i arg2 harg2 arg3 harg3 arg4 harg4 arg5 harg5 arg6 harg6 arg7 harg7 arg8 harg8 arg9 harg9 arg10 harg10 hc0 hc1 hc2 hc3 x0 x1 x2 x3 x4 x5 x6 = k0_pay1 (F := Ideal) x0 x1 := by
  funext y
  unfold sout0_A_0
  rw [View.read_writes_junk_apply_eq_canon]
  exact rows_canon c arg2 harg2 arg3 harg3 x0 x1 y

end Cert.OddPIdeal.Value
-- ==== Proof.OddPSwap.lean ====
module

public import proofs.«01_k».proof.Proof.Gen.OddPIdeal.Frame
public import Idealize.ShloMosaic.Lib.Claim

@[expose] public section

set_option maxRecDepth 16384

/-! The odd layers' projection: the matrix that exchanges a head's entries in pairs. -/

noncomputable section
open Idealize.ShloMosaic Idealize.ShloMosaic.TcCoe Idealize.SL.Sem
open Idealize.ShloMosaic.Pipeline (Dat)
namespace Cert.OddPIdeal.Value
open Cert.OddPIdeal Cert.OddPIdeal.Gen

/-- The matrix has a one where two different columns form a pair and a zero elsewhere. -/
theorem swap_bits : ∀ k l : Fin 128, lit0t (k.val * 128 + l.val) = if k.val / 2 = l.val / 2 ∧ k.val ≠ l.val then 0x3F80#16 else 0x0000#16 := by
  decide +kernel

end Cert.OddPIdeal.Value
-- ==== Proof.OddPSpec.lean ====
module

public import proofs.«01_k».proof.Proof.OddPPay

@[expose] public section

set_option maxRecDepth 16384

/-! The odd layers' input projection as plain functions of its rows: the normalised row times the weights, heads of 128
    columns normalised and turned by the row's angles, and the factor of the queries. -/

noncomputable section
open Idealize.ShloMosaic
namespace Cert.OddPIdeal.Value
open Cert.FfnSpec (rms)

/-- The pair a column belongs to. -/
abbrev half (l : Fin 128) : Fin 64 := ⟨l.val / 2, by omega⟩

/-- A head normalised and turned: each pair of entries is rotated by its angle. -/
def turn (v g : Fin 128 → EReal) (th : Fin 64 → EReal) (l : Fin 128) : EReal :=
  if h : l.val % 2 = 0 then normed v g l * Ideal.cos (th (half l)) - normed v g ⟨l.val + 1, by omega⟩ * Ideal.sin (th (half l))
  else normed v g ⟨l.val - 1, by omega⟩ * Ideal.sin (th (half l)) + normed v g l * Ideal.cos (th (half l))

/-- The rotation written with a matrix that exchanges the entries of a pair and with signed sines. -/
theorem rotated_eq (v g : Fin 128 → EReal) (th : Fin 64 → EReal) (l : Fin 128) :
    rotated v g (fun k => Ideal.cos (th (half k))) (fun k => if k.val % 2 = 0 then - Ideal.sin (th (half k)) else Ideal.sin (th (half k)))
      (fun k l => if k.val / 2 = l.val / 2 ∧ k.val ≠ l.val then (1 : EReal) else (0 : EReal)) l = turn v g th l := by
  have key : ∀ p : Fin 128, (p.val / 2 = l.val / 2 ∧ p.val ≠ l.val) →
      (∑ k : Fin 128, normed v g k * (if k.val / 2 = l.val / 2 ∧ k.val ≠ l.val then (1 : EReal) else (0 : EReal))) = normed v g p := by
    intro p hp
    rw [Finset.sum_eq_single p]
    · rw [if_pos hp, mul_one]
    · intro k _ hk
      rw [if_neg, mul_zero]
      rintro ⟨h1, h2⟩
      exact hk (Fin.ext (by omega))
    · exact fun h => absurd (Finset.mem_univ p) h
  unfold rotated turn
  dsimp only
  by_cases h : l.val % 2 = 0
  · rw [dif_pos h, if_pos h, key ⟨l.val + 1, by omega⟩ (by dsimp only; omega), mul_neg, ← sub_eq_add_neg]
  · rw [dif_neg h, if_neg h, key ⟨l.val - 1, by omega⟩ (by dsimp only; omega), add_comm]

variable (X : Fin 16384 → Fin 2048 → EReal) (G : Fin 2048 → EReal) (W : Fin 2048 → Fin 4608 → EReal)
  (Q K : Fin 128 → EReal) (A : Fin 4096 → Fin 64 → EReal)

/-- The columns of head `g` in row `r` of the projection. -/
def col (r : Fin 16384) (g : Fin 36) (l : Fin 128) : EReal := ∑ k : Fin 2048, rms (X r) G k * W k ⟨g.val * 128 + l.val, by omega⟩

/-- Head `g`, row `r`, column `l` of the result. -/
def spec (g : Fin 36) (r : Fin 16384) (l : Fin 128) : EReal :=
  if g.val < 8 then turn (col X G W r g) Q (A ⟨r.val % 4096, Nat.mod_lt _ (by decide)⟩) l * qscale
  else if g.val < 10 then turn (col X G W r g) K (A ⟨r.val % 4096, Nat.mod_lt _ (by decide)⟩) l
  else if g.val < 12 then col X G W r g l
  else if g.val < 20 then col X G W r g l * qscale
  else col X G W r g l

end Cert.OddPIdeal.Value
-- ==== Proof.OddPKernel.lean ====
module

public import proofs.«01_k».proof.Proof.OddPOut
public import proofs.«01_k».proof.Proof.OddPSwap
public import proofs.«01_k».proof.Proof.OddPSpec
public import Idealize.ShloMosaic.Lib.Claim

@[expose] public section

set_option maxRecDepth 16384

/-! The odd layers' projection: the array the kernel leaves. -/

noncomputable section
open Idealize.ShloMosaic Idealize.ShloMosaic.TcCoe Idealize.SL.Sem
open Idealize.ShloMosaic.Pipeline (Dat)
namespace Cert.OddPIdeal.Value
open Cert.OddPIdeal Cert.OddPIdeal.Gen
open Cert.FfnSpec (rms)
variable (m : (ℓ : Loc nD τ sig) → Buf (Elt Ideal) ℓ)

/-- The index maps of the windows, in the point's number. -/
theorem idx : ∀ t : Fin cfg0.N,
    win0_0.index t = ![t.val / 3, 0] ∧ win0_1.index t = ![0, 0] ∧ win0_2.index t = ![0, t.val % 3]
    ∧ win0_3.index t = ![0, 0] ∧ win0_4.index t = ![t.val / 3 % 4, 0] ∧ win0_5.index t = ![t.val / 3 % 4, 0]
    ∧ win0_6.index t = ![0, 0] ∧ win0_7.index t = ![t.val % 3, t.val / 3, 0] ∧ t.val < 48 :=
  (by decide +kernel : ∀ t : Fin grid0.N, _)

/-- The residual stream. -/
abbrev argX (c : Dev nD) : FVec Ideal S16384x2048 .f32 := m ((c : Thread nD τ).loc main_arg0)
/-- The normalisation's gain. -/
abbrev argG (c : Dev nD) : FVec Ideal S2048 .f32 := m ((c : Thread nD τ).loc main_arg1)
/-- The weights. -/
abbrev argW (c : Dev nD) : FVec Ideal S2048x4608 .f32 := m ((c : Thread nD τ).loc main_arg2)
/-- The query heads' gain. -/
abbrev argQ (c : Dev nD) : FVec Ideal S128 .f32 := m ((c : Thread nD τ).loc main_arg3)
/-- The key heads' gain. -/
abbrev argK (c : Dev nD) : FVec Ideal S128 .f32 := m ((c : Thread nD τ).loc main_arg4)

theorem blk0 (c : Dev nD) (t : Fin cfg0.N) (q : Fin 1024) (k : Fin 2048) (r : Fin 16384) (h : r.val = t.val / 3 * 1024 + q.val) :
    (iblk m c 0 t : FVec Ideal S1024x2048 .f32) (ix2 q k) = argX m c (ix2 r k) := by
  blk_ext [iblk, V, idx t]
/-- The host line read stretch by stretch. -/
theorem V_last (c : Dev nD) (b : Ref sig .tc) : V m c b = StableHlo.after hostOps0_4 (StableHlo.after hostOps0_3 (StableHlo.after hostOps0_2 (StableHlo.after hostOps0_1 (StableHlo.after hostOps0 (fun b => m (c, b)))))) (Proc.devRef .tc b) := by
  dsimp only [V]
  simp only [List.flatten_cons, List.flatten_nil, StableHlo.after_append, StableHlo.after_nil]
/-- The table of angles. -/
def ang (c : Dev nD) : FVec Ideal S4096x64 .f32 := V m c main_v34
theorem cos_table (c : Dev nD) : (V m c main_v38 : FVec Ideal S4096x128 .f32) =
    shapeCast S4096x128 (broadcastInDim S4096x64x2 ![0, 1] bcast_S4096x64_S4096x64x2_0_1 (Host.cos (ang m c))) shapeCasts_S4096x64x2_S4096x128 := by
  unfold ang
  rw [V_last, V_last]
  generalize StableHlo.after hostOps0_3 _ = σ
  after_results_simp <;> rfl
theorem sin_table (c : Dev nD) : (V m c main_v43 : FVec Ideal S4096x128 .f32) =
    shapeCast S4096x128 (concatenate S4096x64x2 2 [⟨S4096x64x1, broadcastInDim S4096x64x1 ![0, 1] bcast_S4096x64_S4096x64x1_0_1 (Host.negf (Host.sin (ang m c)))⟩,
      ⟨S4096x64x1, broadcastInDim S4096x64x1 ![0, 1] bcast_S4096x64_S4096x64x1_0_1 (Host.sin (ang m c))⟩] concatenates_S4096x64x1_S4096x64x1_S4096x64x2_d2) shapeCasts_S4096x64x2_S4096x128 := by
  unfold ang
  rw [V_last, V_last]
  generalize StableHlo.after hostOps0_3 _ = σ
  after_results_simp <;> rfl
theorem gain_row (c : Dev nD) : (V m c main_v45 : FVec Ideal S1x2048 .f32) = shapeCast S1x2048 (argG m c) shapeCasts_S2048_S1x2048 := by
  rw [show argG m c = V m c main_arg1 from (V_main_arg1 m c).symm, V_last, V_last]
  generalize StableHlo.after hostOps0_3 _ = σ
  after_results_simp <;> rfl
theorem head_gains (c : Dev nD) : (V m c main_v8 : FVec Ideal S10x128 .f32) = concatenate S10x128 0 [⟨S8x128,
    shapeCast S8x128 (broadcastInDim S8x1x1x128 ![0, 1, 2, 3] bcast_S1x1x1x128_S8x1x1x128_0_1_2_3 (shapeCast S1x1x1x128 (broadcastInDim S1x128 ![1] bcast_S128_S1x128_1 (argQ m c)) shapeCasts_S1x128_S1x1x1x128)) shapeCasts_S8x1x1x128_S8x128⟩,
    ⟨S2x128, shapeCast S2x128 (broadcastInDim S2x1x1x128 ![0, 1, 2, 3] bcast_S1x1x1x128_S2x1x1x128_0_1_2_3 (shapeCast S1x1x1x128 (broadcastInDim S1x128 ![1] bcast_S128_S1x128_1 (argK m c)) shapeCasts_S1x128_S1x1x1x128)) shapeCasts_S2x1x1x128_S2x128⟩] concatenates_S8x128_S2x128_S10x128_d0 := by
  rw [V_last]
  after_results_simp <;> rfl
theorem swap_table (c : Dev nD) : (V m c main_cst : FVec Ideal S128x128 .bf16) = fun i => FloatOps.ofBits (F := Ideal) .bf16 (lit0 (S128x128.rowMajor i)) := by
  rw [V_last]
  after_results_simp <;> rfl

theorem blk1 (c : Dev nD) (t : Fin cfg0.N) (k : Fin 2048) :
    (iblk m c 1 t : FVec Ideal S1x2048 .f32) (ix2 (0 : Fin 1) k) = argG m c (ix1 k) := by
  blk_simp [iblk]
  rw [gain_row]
  pointwise
  blk_ext [idx t]
theorem weights (c : Dev nD) : (V m c main_v44 : FVec Ideal S2048x4608 .bf16) = truncf .bf16 (argW m c) bitsLt_bf16_f32 := by
  rw [show argW m c = V m c main_arg2 from (V_main_arg2 m c).symm, V_last, V_last]
  generalize StableHlo.after hostOps0_3 _ = σ
  after_results_simp <;> rfl
theorem blk2 (c : Dev nD) (t : Fin cfg0.N) (k : Fin 2048) (l : Fin 1536) (e : Fin 4608) (h : e.val = t.val % 3 * 1536 + l.val) :
    (iblk m c 2 t : FVec Ideal S2048x1536 .bf16) (ix2 k l) = argW m c (ix2 k e) := by
  blk_simp [iblk]
  rw [weights]
  pointwise
  blk_ext [idx t]
theorem blk3 (c : Dev nD) (t : Fin cfg0.N) (a : Fin 10) (l : Fin 128) :
    (iblk m c 3 t : FVec Ideal S10x128 .f32) (ix2 a l) = if a.val < 8 then argQ m c (ix1 l) else argK m c (ix1 l) := by
  blk_simp [iblk]
  rw [head_gains]
  pointwise
  generalize hY : ((View.whole main_v8).slice (win0_3.rect t)).emb (ix2 a l) = Y
  have e0 : (Y 0).val = a.val := by rw [← hY]; blk_simp [idx t]
  have e1 : (Y 1).val = l.val := by rw [← hY]; blk_simp [idx t]
  have e2 : Y 1 = l := Fin.ext e1
  rw [e2]
  by_cases h : a.val < 8
  · rw [dif_pos (by rw [e0]; exact h), if_pos h]
  · rw [dif_neg (by rw [e0]; exact h), if_neg h]
theorem cosines_at (A : FVec Ideal S4096x64 .f32) (s : Fin 4096) (l : Fin 128) :
    (shapeCast S4096x128 (broadcastInDim S4096x64x2 ![0, 1] bcast_S4096x64_S4096x64x2_0_1 (Host.cos A)) shapeCasts_S4096x64x2_S4096x128
      : FVec Ideal S4096x128 .f32) (ix2 s l) = Ideal.cos (A (ix2 s (⟨l.val / 2, by omega⟩ : Fin 64))) := by
  pointwise
theorem blk4 (c : Dev nD) (t : Fin cfg0.N) (q : Fin 1024) (l : Fin 128) (s : Fin 4096) (h : s.val = t.val / 3 % 4 * 1024 + q.val) :
    (iblk m c 4 t : FVec Ideal S1024x128 .f32) (ix2 q l) = Ideal.cos (ang m c (ix2 s (⟨l.val / 2, by omega⟩ : Fin 64))) := by
  refine Eq.trans ?_ (cosines_at (ang m c) s l)
  rw [← cos_table]
  blk_ext [iblk, idx t]
set_option maxHeartbeats 1000000 in
theorem sines_at (A : FVec Ideal S4096x64 .f32) (s : Fin 4096) (l : Fin 128) :
    (shapeCast S4096x128 (concatenate S4096x64x2 2 [⟨S4096x64x1, broadcastInDim S4096x64x1 ![0, 1] bcast_S4096x64_S4096x64x1_0_1 (Host.negf (Host.sin A))⟩,
      ⟨S4096x64x1, broadcastInDim S4096x64x1 ![0, 1] bcast_S4096x64_S4096x64x1_0_1 (Host.sin A)⟩] concatenates_S4096x64x1_S4096x64x1_S4096x64x2_d2) shapeCasts_S4096x64x2_S4096x128
      : FVec Ideal S4096x128 .f32) (ix2 s l) = if l.val % 2 = 0 then - Ideal.sin (A (ix2 s (⟨l.val / 2, by omega⟩ : Fin 64)))
      else Ideal.sin (A (ix2 s (⟨l.val / 2, by omega⟩ : Fin 64))) := by
  pointwise
  by_cases h : l.val % 2 = 0
  · rw [dif_pos (by omega), if_pos h]
  · rw [dif_neg (by omega), if_neg h]
theorem blk5 (c : Dev nD) (t : Fin cfg0.N) (q : Fin 1024) (l : Fin 128) (s : Fin 4096) (h : s.val = t.val / 3 % 4 * 1024 + q.val) :
    (iblk m c 5 t : FVec Ideal S1024x128 .f32) (ix2 q l) = if l.val % 2 = 0 then - Ideal.sin (ang m c (ix2 s (⟨l.val / 2, by omega⟩ : Fin 64)))
      else Ideal.sin (ang m c (ix2 s (⟨l.val / 2, by omega⟩ : Fin 64))) := by
  refine Eq.trans ?_ (sines_at (ang m c) s l)
  rw [← sin_table]
  blk_ext [iblk, idx t]
theorem blk6 (c : Dev nD) (t : Fin cfg0.N) (k l : Fin 128) :
    (iblk m c 6 t : FVec Ideal S128x128 .bf16) (ix2 k l) = if k.val / 2 = l.val / 2 ∧ k.val ≠ l.val then (1 : EReal) else (0 : EReal) := by
  blk_simp [iblk]
  rw [swap_table]
  pointwise
  generalize hY : ((View.whole main_cst).slice (win0_6.rect t)).emb (ix2 k l) = Y
  have e0 : (Y 0).val = k.val := by rw [← hY]; blk_simp [idx t]
  have e1 : (Y 1).val = l.val := by rw [← hY]; blk_simp [idx t]
  have e : (S128x128.rowMajor Y).val = k.val * 128 + l.val := by
    rw [← e0, ← e1]
    exact Shape.rowMajor_val_two Y
  have hl : lit0 (S128x128.rowMajor Y) = lit0t (k.val * 128 + l.val) := by
    rw [← e]
  rw [hl, swap_bits]
  split
  · exact Ideal.ofBits_one_bf16
  · exact Ideal.ofBits_zero_bf16

/-- The arguments as functions of their indices. -/
abbrev fX (c : Dev nD) : Fin 16384 → Fin 2048 → EReal := fun r k => argX m c (ix2 r k)
abbrev fG (c : Dev nD) : Fin 2048 → EReal := fun k => argG m c (ix1 k)
abbrev fW (c : Dev nD) : Fin 2048 → Fin 4608 → EReal := fun k e => argW m c (ix2 k e)
abbrev fQ (c : Dev nD) : Fin 128 → EReal := fun l => argQ m c (ix1 l)
abbrev fK (c : Dev nD) : Fin 128 → EReal := fun l => argK m c (ix1 l)
abbrev fA (c : Dev nD) : Fin 4096 → Fin 64 → EReal := fun s j => ang m c (ix2 s j)

/-- The rows a point finds or leaves in the scratch buffer are the normalised rows of its row block. -/
theorem rows_first (c : Dev nD) (t : Fin cfg0.N) (h : t.val % 3 = 0) (q : Fin 1024) (k : Fin 2048) (r : Fin 16384)
    (hr : r.val = t.val / 3 * 1024 + q.val) :
    (outsAt0 m c t.val t.isLt).2 (ix2 q k) = rms (fX m c r) (fG m c) k := by
  rw [outsAt0_A m c t h h (by omega) (by omega)]
  dsimp only
  rw [soutA_eq]
  refine (pay1_at _ _ q k).trans ?_
  rw [show (fun k => (iblk m c 0 t : FVec Ideal S1024x2048 .f32) (ix2 q k)) = fX m c r from funext fun k => blk0 m c t q k r hr,
    show (fun k => (iblk m c 1 t : FVec Ideal S1x2048 .f32) (ix2 (0 : Fin 1) k)) = fG m c from funext (blk1 m c t)]
theorem rows_second (c : Dev nD) (t : Fin cfg0.N) (h : t.val % 3 = 1) (q : Fin 1024) (k : Fin 2048) (r : Fin 16384)
    (hr : r.val = t.val / 3 * 1024 + q.val) (h' : t.val - 1 < cfg0.N) :
    (outsAt0 m c (t.val - 1) h').2 (ix2 q k) = rms (fX m c r) (fG m c) k :=
  rows_first m c ⟨t.val - 1, h'⟩ (by dsimp only; omega) q k r (by dsimp only; omega)
theorem rows_third (c : Dev nD) (t : Fin cfg0.N) (h : t.val % 3 = 2) (q : Fin 1024) (k : Fin 2048) (r : Fin 16384)
    (hr : r.val = t.val / 3 * 1024 + q.val) (h' : t.val - 1 < cfg0.N) :
    (outsAt0 m c (t.val - 1) h').2 (ix2 q k) = rms (fX m c r) (fG m c) k := by
  have hs : (t.val - 1) % 3 = 1 := by omega
  refine (congrArg (fun p => p.2 (ix2 q k)) (outsAt0_B m c ⟨t.val - 1, h'⟩ (by dsimp only; omega) (by dsimp only; omega) hs (by dsimp only; omega))).trans ?_
  dsimp only
  unfold sout0_B_0
  exact rows_second m c ⟨t.val - 1, h'⟩ hs q k r (by dsimp only; omega) _

/-- A chunk of the product a point forms is a head's columns of the projection. -/
theorem chunk_entry (c : Dev nD) (t : Fin cfg0.N) (xs : FVec Ideal S1024x2048 .bf16) (q : Fin 1024) (r : Fin 16384)
    (hx : ∀ k : Fin 2048, xs (ix2 q k) = rms (fX m c r) (fG m c) k) (a : Fin 12) (g : Fin 36) (hg : g.val = t.val % 3 * 12 + a.val) :
    chunk (k0_pay2 (F := Ideal) xs (iblk m c 2 t)) (128 * a.val) (by omega) q = col (fX m c) (fG m c) (fW m c) r g := by
  funext l
  unfold chunk col
  rw [pay2_at]
  refine Finset.sum_congr rfl fun k _ => congrArg₂ (· * ·) (hx k) (blk2 m c t k _ _ ?_)
  show g.val * 128 + l.val = t.val % 3 * 1536 + (128 * a.val + l.val)
  omega

/-- A rotated chunk is the head normalised and rotated. -/
theorem turned_entry (c : Dev nD) (t : Fin cfg0.N) (xs : FVec Ideal S1024x2048 .bf16) (q : Fin 1024) (r : Fin 16384)
    (hx : ∀ k : Fin 2048, xs (ix2 q k) = rms (fX m c r) (fG m c) k) (a : Fin 12) (ha : a.val < 10) (g : Fin 36) (hg : g.val = t.val % 3 * 12 + a.val)
    (s : Fin 4096) (hs : s.val = t.val / 3 % 4 * 1024 + q.val) (l : Fin 128) :
    turned (k0_pay2 (F := Ideal) xs (iblk m c 2 t)) (iblk m c 4 t) (iblk m c 5 t) (iblk m c 6 t) (headRow (iblk m c 3 t) a.val ha) (128 * a.val) (by omega) q l
      = turn (col (fX m c) (fG m c) (fW m c) r g) (if a.val < 8 then fQ m c else fK m c) (fA m c s) l := by
  unfold turned
  rw [chunk_entry m c t xs q r hx a g hg,
    show (fun k => headRow (iblk m c 3 t) a.val ha (ix2 (0 : Fin 1) k)) = (if a.val < 8 then fQ m c else fK m c) from
      funext fun k => (blk3 m c t ⟨a.val, ha⟩ k).trans (by split <;> rfl),
    show (fun k => (iblk m c 4 t : FVec Ideal S1024x128 .f32) (ix2 q k)) = fun k => Ideal.cos (fA m c s (half k)) from
      funext fun k => blk4 m c t q k s hs,
    show (fun k => (iblk m c 5 t : FVec Ideal S1024x128 .f32) (ix2 q k))
        = fun k => if k.val % 2 = 0 then - Ideal.sin (fA m c s (half k)) else Ideal.sin (fA m c s (half k)) from
      funext fun k => blk5 m c t q k s hs,
    show (fun k l => (iblk m c 6 t : FVec Ideal S128x128 .bf16) (ix2 k l))
        = fun k l => if k.val / 2 = l.val / 2 ∧ k.val ≠ l.val then (1 : EReal) else (0 : EReal) from
      funext fun k => funext fun l => blk6 m c t k l]
  exact rotated_eq _ _ _ l

/-- The array the kernel leaves. -/
def target (c : Dev nD) : FVec Ideal S36x16384x128 .bf16 := fun y => spec (fX m c) (fG m c) (fW m c) (fQ m c) (fK m c) (fA m c) (y 0) (y 1) (y 2)

/-- What a point leaves in its output block. -/
theorem left_at (c : Dev nD) (t : Fin cfg0.N) (a : Fin 12) (q : Fin 1024) (l : Fin 128) (g : Fin 36) (hg : g.val = t.val % 3 * 12 + a.val)
    (r : Fin 16384) (hr : r.val = t.val / 3 * 1024 + q.val) :
    (outsAt0 m c t.val t.isLt).1 (ix3 a q l) = spec (fX m c) (fG m c) (fW m c) (fQ m c) (fK m c) (fA m c) g r l := by
  have hs : (⟨r.val % 4096, Nat.mod_lt _ (by decide)⟩ : Fin 4096).val = t.val / 3 % 4 * 1024 + q.val := by
    show r.val % 4096 = _
    omega
  have h3 : t.val % 3 = 0 ∨ t.val % 3 = 1 ∨ t.val % 3 = 2 := by omega
  unfold spec
  rcases h3 with h | h | h
  · have hx : ∀ k : Fin 2048, (k0_pay1 (F := Ideal) (iblk m c 0 t) (iblk m c 1 t) : FVec Ideal S1024x2048 .bf16) (ix2 q k) = rms (fX m c r) (fG m c) k := fun k => by
      have e := rows_first m c t h q k r hr
      rw [outsAt0_A m c t h h (by omega) (by omega)] at e
      dsimp only at e
      rw [soutA_eq] at e
      exact e
    rw [outsAt0_A m c t h h (by omega) (by omega)]
    dsimp only
    rw [outA_at]
    show firstTile _ _ _ _ _ a q l = _
    unfold firstTile
    by_cases h8 : a.val < 8
    · rw [dif_pos h8, if_pos (by omega), turned_entry m c t _ q r hx a (by omega) g hg _ hs l, if_pos h8]
    · by_cases h10 : a.val < 10
      · rw [dif_neg h8, dif_pos h10, if_neg (by omega), if_pos (by omega), turned_entry m c t _ q r hx a h10 g hg _ hs l, if_neg h8]
      · rw [dif_neg h8, dif_neg h10, if_neg (by omega), if_neg (by omega), if_pos (by omega), chunk_entry m c t _ q r hx a g hg]
  · rw [outsAt0_B m c t (by omega) (by omega) h (by omega)]
    dsimp only
    rw [outB_at]
    show secondTile _ a q l = _
    unfold secondTile
    rw [chunk_entry m c t _ q r (fun k => rows_second m c t h q k r hr _) a g hg]
    by_cases h8 : a.val < 8
    · rw [if_pos h8, if_neg (by omega), if_neg (by omega), if_neg (by omega), if_pos (by omega)]
    · rw [if_neg h8, if_neg (by omega), if_neg (by omega), if_neg (by omega), if_neg (by omega)]
  · rw [outsAt0_C m c t (by omega) (by omega) (by omega) h]
    dsimp only
    rw [outC_at]
    show thirdTile _ a q l = _
    unfold thirdTile
    rw [chunk_entry m c t _ q r (fun k => rows_third m c t h q k r hr _) a g hg,
      if_neg (by omega), if_neg (by omega), if_neg (by omega), if_neg (by omega)]

theorem final (c : Dev nD) : (dats m 0 c).arrAt 7 cfg0.N = target m c := by
  refine (dats m 0 c).arrAt_eq_of_covers 7 _ (by decide +kernel) fun t hf y => ?_
  blk_simp [idx t]
  rw [after0_7]
  generalize hY : (win0_7.blk t).view.emb y = Y
  have e0 : (Y 0).val = t.val % 3 * 12 + (y 0).val := by
    rw [← hY]; blk_simp [idx t]
  have e1 : (Y 1).val = t.val / 3 * 1024 + (y 1).val := by
    rw [← hY]; blk_simp [idx t]
  have e2 : (Y 2).val = (y 2).val := by rw [← hY]; blk_simp [idx t]
  have ey : y = ix3 (⟨(y 0).val, (y 0).isLt⟩ : Fin 12) (⟨(y 1).val, (y 1).isLt⟩ : Fin 1024) (⟨(Y 2).val, (Y 2).isLt⟩ : Fin 128) := by
    funext a
    fin_cases a
    · rfl
    · rfl
    · exact Fin.ext e2.symm
  rw [ey]
  exact left_at m c t _ _ _ _ e0 _ e1

end Cert.OddPIdeal.Value
-- ==== Proof.OddPRef.lean ====
module

public import proofs.«01_k».proof.Proof.Gen.OddPRefIdeal.Run
public import proofs.«01_k».proof.Proof.OddPSpec

@[expose] public section

set_option maxRecDepth 16384

/-! The reference of the odd layers' projection: its composed term in layers, and an entry of the result. -/

noncomputable section
open Idealize.ShloMosaic Idealize.ShloMosaic.TcCoe Idealize.SL.Sem
namespace Cert.OddPRefIdeal.Value
open Cert.OddPRefIdeal Cert.OddPRefIdeal.Facts₀ Cert.OddPRefIdeal.Facts
open Cert.FfnSpec (rms)
open Cert.OddPIdeal.Value (normed turn col spec qscale half)
attribute [local instance] Cert.OddPRefIdeal.Gen.facts

/-- The normalised rows. -/
def nrm (X : FVec Ideal S16384x2048 .f32) (g : FVec Ideal S2048 .f32) : FVec Ideal S16384x2048 .f32 :=
  mulf (mulf X (broadcastInDim S16384x2048 ![0, 1] bcast_S16384x1_S16384x2048_0_1
    (Host.rsqrt (addf (Host.divf (broadcastInDim S16384x1 ![0] bcast_S16384_S16384x1_0
      (Host.reduceAdd (mulf X X) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- Their product with the weights, by batch, position, head and lane. -/
def heads (Y : FVec Ideal S16384x2048 .f32) (W : FVec Ideal S2048x4608 .f32) : FVec Ideal S4x4096x36x128 .f32 :=
  shapeCast S4x4096x36x128 (Host.dotGeneral dot_S16384x2048_S2048x4608_S16384x4608_1_0_0_1_n_n none Y W) shapeCasts_S16384x4608_S4x4096x36x128

/-- Eight heads normalised. -/
def normQ (Z : FVec Ideal S4x4096x8x128 .f32) (g : FVec Ideal S128 .f32) : FVec Ideal S4x4096x8x128 .f32 :=
  mulf (mulf Z (broadcastInDim S4x4096x8x128 ![0, 1, 2, 3] bcast_S4x4096x8x1_S4x4096x8x128_0_1_2_3
    (Host.rsqrt (addf (Host.divf (broadcastInDim S4x4096x8x1 ![0, 1, 2] bcast_S4x4096x8_S4x4096x8x1_0_1_2
      (Host.reduceAdd (mulf Z Z) (constant S_ .f32 0x00000000#32) reducesTo_S4x4096x8x128_S4x4096x8_d3 h_S_))
      (broadcastInDim S4x4096x8x1 ![] bcast_S_S4x4096x8x1 (constant S_ .f32 0x43000000#32)))
      (broadcastInDim S4x4096x8x1 ![] bcast_S_S4x4096x8x1 (constant S_ .f32 0x358637BD#32))))))
    (broadcastInDim S4x4096x8x128 ![0, 1, 2, 3] bcast_S1x1x1x128_S4x4096x8x128_0_1_2_3 (broadcastInDim S1x1x1x128 ![3] bcast_S128_S1x1x1x128_3 g))

/-- Two heads normalised. -/
def normK (Z : FVec Ideal S4x4096x2x128 .f32) (g : FVec Ideal S128 .f32) : FVec Ideal S4x4096x2x128 .f32 :=
  mulf (mulf Z (broadcastInDim S4x4096x2x128 ![0, 1, 2, 3] bcast_S4x4096x2x1_S4x4096x2x128_0_1_2_3
    (Host.rsqrt (addf (Host.divf (broadcastInDim S4x4096x2x1 ![0, 1, 2] bcast_S4x4096x2_S4x4096x2x1_0_1_2
      (Host.reduceAdd (mulf Z Z) (constant S_ .f32 0x00000000#32) reducesTo_S4x4096x2x128_S4x4096x2_d3 h_S_))
      (broadcastInDim S4x4096x2x1 ![] bcast_S_S4x4096x2x1 (constant S_ .f32 0x43000000#32)))
      (broadcastInDim S4x4096x2x1 ![] bcast_S_S4x4096x2x1 (constant S_ .f32 0x358637BD#32))))))
    (broadcastInDim S4x4096x2x128 ![0, 1, 2, 3] bcast_S1x1x1x128_S4x4096x2x128_0_1_2_3 (broadcastInDim S1x1x1x128 ![3] bcast_S128_S1x1x1x128_3 g))

/-- Eight heads turned by the angles. -/
def ropeQ (N : FVec Ideal S4x4096x8x128 .f32) (A : FVec Ideal S4096x64 .f32) : FVec Ideal S4x4096x8x128 .f32 :=
  shapeCast S4x4096x8x128 (concatenate S4x4096x8x64x2 4
    [⟨S4x4096x8x64x1, (broadcastInDim S4x4096x8x64x1 ![0, 1, 2, 3] bcast_S4x4096x8x64_S4x4096x8x64x1_0_1_2_3 (subf (mulf (shapeCast S4x4096x8x64 (extractStridedSlice S4x4096x8x64x1 ![0, 0, 0, 0, 0] (shapeCast S4x4096x8x64x2 N shapeCasts_S4x4096x8x128_S4x4096x8x64x2) slices_S4x4096x8x64x2_S4x4096x8x64x1_0_0_0_0_0) shapeCasts_S4x4096x8x64x1_S4x4096x8x64) (broadcastInDim S4x4096x8x64 ![0, 1, 2, 3] bcast_S1x4096x1x64_S4x4096x8x64_0_1_2_3 (broadcastInDim S1x4096x1x64 ![1, 3] bcast_S4096x64_S1x4096x1x64_1_3 (Host.cos A))))
      (mulf (shapeCast S4x4096x8x64 (extractStridedSlice S4x4096x8x64x1 ![0, 0, 0, 0, 1] (shapeCast S4x4096x8x64x2 N shapeCasts_S4x4096x8x128_S4x4096x8x64x2) slices_S4x4096x8x64x2_S4x4096x8x64x1_0_0_0_0_1) shapeCasts_S4x4096x8x64x1_S4x4096x8x64) (broadcastInDim S4x4096x8x64 ![0, 1, 2, 3] bcast_S1x4096x1x64_S4x4096x8x64_0_1_2_3 (broadcastInDim S1x4096x1x64 ![1, 3] bcast_S4096x64_S1x4096x1x64_1_3 (Host.sin A))))))⟩,
     ⟨S4x4096x8x64x1, (broadcastInDim S4x4096x8x64x1 ![0, 1, 2, 3] bcast_S4x4096x8x64_S4x4096x8x64x1_0_1_2_3 (addf (mulf (shapeCast S4x4096x8x64 (extractStridedSlice S4x4096x8x64x1 ![0, 0, 0, 0, 0] (shapeCast S4x4096x8x64x2 N shapeCasts_S4x4096x8x128_S4x4096x8x64x2) slices_S4x4096x8x64x2_S4x4096x8x64x1_0_0_0_0_0) shapeCasts_S4x4096x8x64x1_S4x4096x8x64) (broadcastInDim S4x4096x8x64 ![0, 1, 2, 3] bcast_S1x4096x1x64_S4x4096x8x64_0_1_2_3 (broadcastInDim S1x4096x1x64 ![1, 3] bcast_S4096x64_S1x4096x1x64_1_3 (Host.sin A))))
      (mulf (shapeCast S4x4096x8x64 (extractStridedSlice S4x4096x8x64x1 ![0, 0, 0, 0, 1] (shapeCast S4x4096x8x64x2 N shapeCasts_S4x4096x8x128_S4x4096x8x64x2) slices_S4x4096x8x64x2_S4x4096x8x64x1_0_0_0_0_1) shapeCasts_S4x4096x8x64x1_S4x4096x8x64) (broadcastInDim S4x4096x8x64 ![0, 1, 2, 3] bcast_S1x4096x1x64_S4x4096x8x64_0_1_2_3 (broadcastInDim S1x4096x1x64 ![1, 3] bcast_S4096x64_S1x4096x1x64_1_3 (Host.cos A))))))⟩]
    concatenates_S4x4096x8x64x1_S4x4096x8x64x1_S4x4096x8x64x2_d4) shapeCasts_S4x4096x8x64x2_S4x4096x8x128

/-- Two heads turned by the angles. -/
def ropeK (N : FVec Ideal S4x4096x2x128 .f32) (A : FVec Ideal S4096x64 .f32) : FVec Ideal S4x4096x2x128 .f32 :=
  shapeCast S4x4096x2x128 (concatenate S4x4096x2x64x2 4
    [⟨S4x4096x2x64x1, (broadcastInDim S4x4096x2x64x1 ![0, 1, 2, 3] bcast_S4x4096x2x64_S4x4096x2x64x1_0_1_2_3 (subf (mulf (shapeCast S4x4096x2x64 (extractStridedSlice S4x4096x2x64x1 ![0, 0, 0, 0, 0] (shapeCast S4x4096x2x64x2 N shapeCasts_S4x4096x2x128_S4x4096x2x64x2) slices_S4x4096x2x64x2_S4x4096x2x64x1_0_0_0_0_0) shapeCasts_S4x4096x2x64x1_S4x4096x2x64) (broadcastInDim S4x4096x2x64 ![0, 1, 2, 3] bcast_S1x4096x1x64_S4x4096x2x64_0_1_2_3 (broadcastInDim S1x4096x1x64 ![1, 3] bcast_S4096x64_S1x4096x1x64_1_3 (Host.cos A))))
      (mulf (shapeCast S4x4096x2x64 (extractStridedSlice S4x4096x2x64x1 ![0, 0, 0, 0, 1] (shapeCast S4x4096x2x64x2 N shapeCasts_S4x4096x2x128_S4x4096x2x64x2) slices_S4x4096x2x64x2_S4x4096x2x64x1_0_0_0_0_1) shapeCasts_S4x4096x2x64x1_S4x4096x2x64) (broadcastInDim S4x4096x2x64 ![0, 1, 2, 3] bcast_S1x4096x1x64_S4x4096x2x64_0_1_2_3 (broadcastInDim S1x4096x1x64 ![1, 3] bcast_S4096x64_S1x4096x1x64_1_3 (Host.sin A))))))⟩,
     ⟨S4x4096x2x64x1, (broadcastInDim S4x4096x2x64x1 ![0, 1, 2, 3] bcast_S4x4096x2x64_S4x4096x2x64x1_0_1_2_3 (addf (mulf (shapeCast S4x4096x2x64 (extractStridedSlice S4x4096x2x64x1 ![0, 0, 0, 0, 0] (shapeCast S4x4096x2x64x2 N shapeCasts_S4x4096x2x128_S4x4096x2x64x2) slices_S4x4096x2x64x2_S4x4096x2x64x1_0_0_0_0_0) shapeCasts_S4x4096x2x64x1_S4x4096x2x64) (broadcastInDim S4x4096x2x64 ![0, 1, 2, 3] bcast_S1x4096x1x64_S4x4096x2x64_0_1_2_3 (broadcastInDim S1x4096x1x64 ![1, 3] bcast_S4096x64_S1x4096x1x64_1_3 (Host.sin A))))
      (mulf (shapeCast S4x4096x2x64 (extractStridedSlice S4x4096x2x64x1 ![0, 0, 0, 0, 1] (shapeCast S4x4096x2x64x2 N shapeCasts_S4x4096x2x128_S4x4096x2x64x2) slices_S4x4096x2x64x2_S4x4096x2x64x1_0_0_0_0_1) shapeCasts_S4x4096x2x64x1_S4x4096x2x64) (broadcastInDim S4x4096x2x64 ![0, 1, 2, 3] bcast_S1x4096x1x64_S4x4096x2x64_0_1_2_3 (broadcastInDim S1x4096x1x64 ![1, 3] bcast_S4096x64_S1x4096x1x64_1_3 (Host.cos A))))))⟩]
    concatenates_S4x4096x2x64x1_S4x4096x2x64x1_S4x4096x2x64x2_d4) shapeCasts_S4x4096x2x64x2_S4x4096x2x128

/-- The five runs of heads together. -/
def joined (a : FVec Ideal S4x4096x8x128 .f32) (b c : FVec Ideal S4x4096x2x128 .f32) (d : FVec Ideal S4x4096x8x128 .f32) (e : FVec Ideal S4x4096x16x128 .f32) :
    FVec Ideal S4x4096x36x128 .f32 :=
  concatenate S4x4096x36x128 2 [⟨S4x4096x8x128, a⟩, ⟨S4x4096x2x128, b⟩, ⟨S4x4096x2x128, c⟩, ⟨S4x4096x8x128, d⟩, ⟨S4x4096x16x128, e⟩]
    concatenates_S4x4096x8x128_S4x4096x2x128_S4x4096x2x128_S4x4096x8x128_S4x4096x16x128_S4x4096x36x128_d2

/-- Eight heads times the queries' factor. -/
def scaled (Z : FVec Ideal S4x4096x8x128 .f32) : FVec Ideal S4x4096x8x128 .f32 :=
  mulf Z (broadcastInDim S4x4096x8x128 ![] bcast_S_S4x4096x8x128 (constant S_ .f32 0x3E0293EE#32))

/-- The heads in 16 bits, before the rows. -/
def planes (Z : FVec Ideal S4x4096x36x128 .f32) : FVec Ideal S36x16384x128 .bf16 :=
  transpose S36x16384x128 [1, 0, 2] (truncf .bf16 (shapeCast S16384x36x128 Z shapeCasts_S4x4096x36x128_S16384x36x128) bitsLt_bf16_f32) transposes_S16384x36x128_S36x16384x128_1_0_2

/-- Heads of the projection. -/
abbrev headsA (Z : FVec Ideal S4x4096x36x128 .f32) : FVec Ideal S4x4096x8x128 .f32 := extractStridedSlice S4x4096x8x128 ![0, 0, 0, 0] Z slices_S4x4096x36x128_S4x4096x8x128_0_0_0_0
abbrev headsB (Z : FVec Ideal S4x4096x36x128 .f32) : FVec Ideal S4x4096x2x128 .f32 := extractStridedSlice S4x4096x2x128 ![0, 0, 8, 0] Z slices_S4x4096x36x128_S4x4096x2x128_0_0_8_0
abbrev headsC (Z : FVec Ideal S4x4096x36x128 .f32) : FVec Ideal S4x4096x2x128 .f32 := extractStridedSlice S4x4096x2x128 ![0, 0, 10, 0] Z slices_S4x4096x36x128_S4x4096x2x128_0_0_10_0
abbrev headsD (Z : FVec Ideal S4x4096x36x128 .f32) : FVec Ideal S4x4096x8x128 .f32 := extractStridedSlice S4x4096x8x128 ![0, 0, 12, 0] Z slices_S4x4096x36x128_S4x4096x8x128_0_0_12_0
abbrev headsE (Z : FVec Ideal S4x4096x36x128 .f32) : FVec Ideal S4x4096x16x128 .f32 := extractStridedSlice S4x4096x16x128 ![0, 0, 20, 0] Z slices_S4x4096x36x128_S4x4096x16x128_0_0_20_0

/-- The result: queries and keys normalised and turned, the queries of both kinds scaled. -/
def res (Z : FVec Ideal S4x4096x36x128 .f32) (q k : FVec Ideal S128 .f32) (A : FVec Ideal S4096x64 .f32) : FVec Ideal S36x16384x128 .bf16 :=
  planes (joined (scaled (ropeQ (normQ (headsA Z) q) A)) (ropeK (normK (headsB Z) k) A) (headsC Z) (scaled (headsD Z)) (headsE Z))

theorem nrm_at (X : FVec Ideal S16384x2048 .f32) (g : FVec Ideal S2048 .f32) (r : Fin 16384) (k : Fin 2048) :
    nrm X g (ix2 r k) = rms (fun k => X (ix2 r k)) (fun k => g (ix1 k)) k := by
  unfold nrm rms
  pointwise

theorem heads_at (Y : FVec Ideal S16384x2048 .f32) (W : FVec Ideal S2048x4608 .f32) (b : Fin 4) (s : Fin 4096) (g : Fin 36) (l : Fin 128) :
    heads Y W (ix4 b s g l) = ∑ k : Fin 2048, Y (ix2 (⟨b.val * 4096 + s.val, by omega⟩ : Fin 16384) k) * W (ix2 k (⟨g.val * 128 + l.val, by omega⟩ : Fin 4608)) := by
  unfold heads
  pointwise

theorem normQ_at (Z : FVec Ideal S4x4096x8x128 .f32) (g : FVec Ideal S128 .f32) (b : Fin 4) (s : Fin 4096) (h : Fin 8) (l : Fin 128) :
    normQ Z g (ix4 b s h l) = normed (fun k => Z (ix4 b s h k)) (fun k => g (ix1 k)) l := by
  unfold normQ normed
  pointwise

set_option maxHeartbeats 2000000 in
theorem ropeQ_at (N : FVec Ideal S4x4096x8x128 .f32) (A : FVec Ideal S4096x64 .f32) (b : Fin 4) (s : Fin 4096) (h : Fin 8) (l : Fin 128) :
    ropeQ N A (ix4 b s h l) = if l.val % 2 < 1 then
        N (ix4 b s h (⟨l.val / 2 * 2, by omega⟩ : Fin 128)) * Ideal.cos (A (ix2 s (half l))) - N (ix4 b s h (⟨l.val / 2 * 2 + 1, by omega⟩ : Fin 128)) * Ideal.sin (A (ix2 s (half l)))
      else N (ix4 b s h (⟨l.val / 2 * 2, by omega⟩ : Fin 128)) * Ideal.sin (A (ix2 s (half l))) + N (ix4 b s h (⟨l.val / 2 * 2 + 1, by omega⟩ : Fin 128)) * Ideal.cos (A (ix2 s (half l))) := by
  unfold ropeQ half
  pointwise
  rfl

theorem turnedQ_at (Z : FVec Ideal S4x4096x8x128 .f32) (g : FVec Ideal S128 .f32) (A : FVec Ideal S4096x64 .f32) (b : Fin 4) (s : Fin 4096) (h : Fin 8) (l : Fin 128) :
    ropeQ (normQ Z g) A (ix4 b s h l) = turn (fun k => Z (ix4 b s h k)) (fun k => g (ix1 k)) (fun j => A (ix2 s j)) l := by
  rw [ropeQ_at, normQ_at, normQ_at]
  unfold turn
  by_cases e : l.val % 2 = 0
  · rw [if_pos (by omega), dif_pos e, show (⟨l.val / 2 * 2, by omega⟩ : Fin 128) = l from Fin.ext (by dsimp only; omega),
      show (⟨l.val / 2 * 2 + 1, by omega⟩ : Fin 128) = ⟨l.val + 1, by omega⟩ from Fin.ext (by dsimp only; omega)]
  · rw [if_neg (by omega), dif_neg e, show (⟨l.val / 2 * 2 + 1, by omega⟩ : Fin 128) = l from Fin.ext (by dsimp only; omega),
      show (⟨l.val / 2 * 2, by omega⟩ : Fin 128) = ⟨l.val - 1, by omega⟩ from Fin.ext (by dsimp only; omega)]

theorem normK_at (Z : FVec Ideal S4x4096x2x128 .f32) (g : FVec Ideal S128 .f32) (b : Fin 4) (s : Fin 4096) (h : Fin 2) (l : Fin 128) :
    normK Z g (ix4 b s h l) = normed (fun k => Z (ix4 b s h k)) (fun k => g (ix1 k)) l := by
  unfold normK normed
  pointwise

set_option maxHeartbeats 2000000 in
theorem ropeK_at (N : FVec Ideal S4x4096x2x128 .f32) (A : FVec Ideal S4096x64 .f32) (b : Fin 4) (s : Fin 4096) (h : Fin 2) (l : Fin 128) :
    ropeK N A (ix4 b s h l) = if l.val % 2 < 1 then
        N (ix4 b s h (⟨l.val / 2 * 2, by omega⟩ : Fin 128)) * Ideal.cos (A (ix2 s (half l))) - N (ix4 b s h (⟨l.val / 2 * 2 + 1, by omega⟩ : Fin 128)) * Ideal.sin (A (ix2 s (half l)))
      else N (ix4 b s h (⟨l.val / 2 * 2, by omega⟩ : Fin 128)) * Ideal.sin (A (ix2 s (half l))) + N (ix4 b s h (⟨l.val / 2 * 2 + 1, by omega⟩ : Fin 128)) * Ideal.cos (A (ix2 s (half l))) := by
  unfold ropeK half
  pointwise
  rfl

theorem turnedK_at (Z : FVec Ideal S4x4096x2x128 .f32) (g : FVec Ideal S128 .f32) (A : FVec Ideal S4096x64 .f32) (b : Fin 4) (s : Fin 4096) (h : Fin 2) (l : Fin 128) :
    ropeK (normK Z g) A (ix4 b s h l) = turn (fun k => Z (ix4 b s h k)) (fun k => g (ix1 k)) (fun j => A (ix2 s j)) l := by
  rw [ropeK_at, normK_at, normK_at]
  unfold turn
  by_cases e : l.val % 2 = 0
  · rw [if_pos (by omega), dif_pos e, show (⟨l.val / 2 * 2, by omega⟩ : Fin 128) = l from Fin.ext (by dsimp only; omega),
      show (⟨l.val / 2 * 2 + 1, by omega⟩ : Fin 128) = ⟨l.val + 1, by omega⟩ from Fin.ext (by dsimp only; omega)]
  · rw [if_neg (by omega), dif_neg e, show (⟨l.val / 2 * 2 + 1, by omega⟩ : Fin 128) = l from Fin.ext (by dsimp only; omega),
      show (⟨l.val / 2 * 2, by omega⟩ : Fin 128) = ⟨l.val - 1, by omega⟩ from Fin.ext (by dsimp only; omega)]

theorem headsA_at (Z : FVec Ideal S4x4096x36x128 .f32) (b : Fin 4) (s : Fin 4096) (h : Fin 8) (l : Fin 128) :
    headsA Z (ix4 b s h l) = Z (ix4 b s (⟨h.val, by omega⟩ : Fin 36) l) := by
  pointwise
theorem headsB_at (Z : FVec Ideal S4x4096x36x128 .f32) (b : Fin 4) (s : Fin 4096) (h : Fin 2) (l : Fin 128) :
    headsB Z (ix4 b s h l) = Z (ix4 b s (⟨8 + h.val, by omega⟩ : Fin 36) l) := by
  pointwise
theorem headsC_at (Z : FVec Ideal S4x4096x36x128 .f32) (b : Fin 4) (s : Fin 4096) (h : Fin 2) (l : Fin 128) :
    headsC Z (ix4 b s h l) = Z (ix4 b s (⟨10 + h.val, by omega⟩ : Fin 36) l) := by
  pointwise
theorem headsD_at (Z : FVec Ideal S4x4096x36x128 .f32) (b : Fin 4) (s : Fin 4096) (h : Fin 8) (l : Fin 128) :
    headsD Z (ix4 b s h l) = Z (ix4 b s (⟨12 + h.val, by omega⟩ : Fin 36) l) := by
  pointwise
theorem headsE_at (Z : FVec Ideal S4x4096x36x128 .f32) (b : Fin 4) (s : Fin 4096) (h : Fin 16) (l : Fin 128) :
    headsE Z (ix4 b s h l) = Z (ix4 b s (⟨20 + h.val, by omega⟩ : Fin 36) l) := by
  pointwise
theorem scaled_at (Z : FVec Ideal S4x4096x8x128 .f32) (b : Fin 4) (s : Fin 4096) (h : Fin 8) (l : Fin 128) :
    scaled Z (ix4 b s h l) = Z (ix4 b s h l) * qscale := by
  unfold scaled qscale
  pointwise
theorem planes_at (Z : FVec Ideal S4x4096x36x128 .f32) (g : Fin 36) (r : Fin 16384) (l : Fin 128) :
    planes Z (ix3 g r l) = Z (ix4 (⟨r.val / 4096, by omega⟩ : Fin 4) (⟨r.val % 4096, by omega⟩ : Fin 4096) g l) := by
  unfold planes
  pointwise

section
variable (a : FVec Ideal S4x4096x8x128 .f32) (b c : FVec Ideal S4x4096x2x128 .f32) (d : FVec Ideal S4x4096x8x128 .f32) (e : FVec Ideal S4x4096x16x128 .f32)
  (i : Fin 4) (s : Fin 4096) (g : Fin 36) (l : Fin 128)
theorem joined_at : joined a b c d e (ix4 i s g l) = if h : g.val < 8 then a (ix4 i s (⟨g.val, h⟩ : Fin 8) l)
    else if h : g.val - 8 < 2 then b (ix4 i s (⟨g.val - 8, h⟩ : Fin 2) l)
    else if h : g.val - 8 - 2 < 2 then c (ix4 i s (⟨g.val - 8 - 2, h⟩ : Fin 2) l)
    else if h : g.val - 8 - 2 - 2 < 8 then d (ix4 i s (⟨g.val - 8 - 2 - 2, h⟩ : Fin 8) l)
    else e (ix4 i s (⟨g.val - 8 - 2 - 2 - 8, by omega⟩ : Fin 16) l) := by
  unfold joined
  pointwise
end

theorem res_at (X : FVec Ideal S16384x2048 .f32) (gm : FVec Ideal S2048 .f32) (W : FVec Ideal S2048x4608 .f32) (q k : FVec Ideal S128 .f32)
    (A : FVec Ideal S4096x64 .f32) (g : Fin 36) (r : Fin 16384) (l : Fin 128) :
    res (heads (nrm X gm) W) q k A (ix3 g r l) = spec (fun r k => X (ix2 r k)) (fun k => gm (ix1 k)) (fun k e => W (ix2 k e))
      (fun k => q (ix1 k)) (fun l => k (ix1 l)) (fun s j => A (ix2 s j)) g r l := by
  have hc : ∀ (g' : Fin 36) (l' : Fin 128), g' = g → heads (nrm X gm) W (ix4 (⟨r.val / 4096, by omega⟩ : Fin 4) (⟨r.val % 4096, by omega⟩ : Fin 4096) g' l')
      = col (fun r k => X (ix2 r k)) (fun k => gm (ix1 k)) (fun k e => W (ix2 k e)) r g l' := by
    intro g' l' hg
    subst hg
    rw [heads_at, show (⟨(⟨r.val / 4096, by omega⟩ : Fin 4).val * 4096 + (⟨r.val % 4096, by omega⟩ : Fin 4096).val, by omega⟩ : Fin 16384) = r from
      Fin.ext (by dsimp only; omega)]
    unfold col
    simp only [nrm_at]
  unfold res spec
  rw [planes_at, joined_at]
  by_cases h8 : g.val < 8
  · rw [dif_pos h8, if_pos h8, scaled_at, turnedQ_at]
    simp only [headsA_at]
    rw [show (fun k' : Fin 128 => heads (nrm X gm) W (ix4 (⟨r.val / 4096, by omega⟩ : Fin 4) (⟨r.val % 4096, by omega⟩ : Fin 4096) (⟨g.val, by omega⟩ : Fin 36) k')) = _ from
      funext fun k' => hc _ k' rfl]
  by_cases h10 : g.val < 10
  · rw [dif_neg h8, if_neg h8, dif_pos (by omega), if_pos h10, turnedK_at]
    simp only [headsB_at]
    rw [show (fun k' : Fin 128 => heads (nrm X gm) W (ix4 (⟨r.val / 4096, by omega⟩ : Fin 4) (⟨r.val % 4096, by omega⟩ : Fin 4096) (⟨8 + (g.val - 8), by omega⟩ : Fin 36) k')) = _ from
      funext fun k' => hc _ k' (Fin.ext (by dsimp only; omega))]
  by_cases h12 : g.val < 12
  · rw [dif_neg h8, if_neg h8, dif_neg (by omega), if_neg h10, dif_pos (by omega), if_pos h12, headsC_at]
    exact hc _ l (Fin.ext (by dsimp only; omega))
  by_cases h20 : g.val < 20
  · rw [dif_neg h8, if_neg h8, dif_neg (by omega), if_neg h10, dif_neg (by omega), if_neg h12, dif_pos (by omega), if_pos h20, scaled_at, headsD_at]
    exact congrArg (· * qscale) (hc _ l (Fin.ext (by dsimp only; omega)))
  · rw [dif_neg h8, if_neg h8, dif_neg (by omega), if_neg h10, dif_neg (by omega), if_neg h12, dif_neg (by omega), if_neg h20, headsE_at]
    exact hc _ l (Fin.ext (by dsimp only; omega))

end Cert.OddPRefIdeal.Value
-- ==== Proof.OddPClaim.lean ====
module

public import proofs.«01_k».proof.Defs
public import proofs.«01_k».proof.Proof.OddPKernel
public import proofs.«01_k».proof.Proof.OddPRef
public import Idealize.ShloMosaic.Lib.Claim

@[expose] public section

set_option maxRecDepth 16384
set_option maxHeartbeats 1000000

/-! The value claim of the odd layers' projection. -/

noncomputable section
open Idealize.ShloMosaic Idealize.ShloMosaic.TcCoe Idealize.SL.Sem

namespace Cert.OddPIdeal.Value
attribute [local instance] Cert.OddPIdeal.Gen.facts Cert.OddPRefIdeal.Gen.facts
open Cert.OddPIdeal Cert.OddPIdeal.Gen

variable (m : (ℓ : Loc nD τ sig) → Buf (Elt Ideal) ℓ)
  (m' : (ℓ : Loc Cert.OddPRefIdeal.nD Cert.OddPRefIdeal.τ Cert.OddPRefIdeal.sig) → Buf (Elt Ideal) ℓ)

/-- The positions. -/
abbrev pos : IVec S4096 32 := iotaInDim S4096 32 0
/-- A number at every position. -/
abbrev all (x : IVec S_ 32) : IVec S4096 32 := broadcastInDim S4096 ![] bcast_S_S4096 x
/-- The side of the square of positions. -/
abbrev side : IVec S_ 32 := id (constantI S_ 32 64#32)
/-- The side, one if it is zero. -/
abbrev side' : IVec S_ 32 := select (cmpi .eq side (constantI S_ 32 0#32)) (constantI S_ 32 1#32) side
/-- The row of a position: the quotient by the side, rounded down. -/
def rowOf : IVec S4096 32 :=
  select (andi (cmpi .ne (signi pos) (broadcastInDim S4096 ![] bcast_S_S4096 (signi side))) (cmpi .ne (Host.remsi pos (all side)) (all (constantI S_ 32 0#32))))
    (subi (Host.divsi pos (all side)) (all (constantI S_ 32 1#32))) (Host.divsi pos (all side))
/-- The column of a position: the remainder, of the side's sign. -/
def colOf : IVec S4096 32 :=
  select (andi (cmpi .ne (cmpi .slt (Host.remsi pos (all side')) (all (constantI S_ 32 0#32)))
      (broadcastInDim S4096 ![] bcast_S_S4096 (cmpi .slt side' (constantI S_ 32 0#32)))) (cmpi .ne (Host.remsi pos (all side')) (all (constantI S_ 32 0#32))))
    (addi (Host.remsi pos (all side')) (all side')) (Host.remsi pos (all side'))
/-- The frequencies. -/
def freqs : FVec Ideal S32 .f32 :=
  Host.powf (broadcastInDim S32 ![] bcast_S_S32 (constant S_ .f32 0x461C4000#32)) (Host.negf (Host.divf (addf (broadcastInDim S32 ![] bcast_S_S32 (constant S_ .f32 0x00000000#32))
    (mulf (broadcastInDim S32 ![] bcast_S_S32 (constant S_ .f32 0x40000000#32)) (sitofp .f32 (iotaInDim S32 32 0)))) (broadcastInDim S32 ![] bcast_S_S32 (constant S_ .f32 0x42800000#32))))
/-- Coordinates times frequencies. -/
def times (p : IVec S4096 32) (f : FVec Ideal S32 .f32) : FVec Ideal S4096x32 .f32 :=
  mulf (broadcastInDim S4096x32 ![0, 1] bcast_S4096x1_S4096x32_0_1 (broadcastInDim S4096x1 ![0] bcast_S4096_S4096x1_0 (sitofp .f32 p)))
    (broadcastInDim S4096x32 ![0, 1] bcast_S1x32_S4096x32_0_1 (broadcastInDim S1x32 ![1] bcast_S32_S1x32_1 f))
/-- The table of angles. -/
def angles : FVec Ideal S4096x64 .f32 :=
  concatenate S4096x64 1 [⟨S4096x32, times rowOf freqs⟩, ⟨S4096x32, times colOf freqs⟩] concatenates_S4096x32_S4096x32_S4096x64_d1

set_option maxHeartbeats 4000000 in
/-- The launch finds that table. -/
theorem ang_eq (c : Dev nD) : ang m c = angles := by
  unfold ang
  rw [V_last]
  simp only [hostOps0, hostOps0_1, hostOps0_2, hostOps0_3, hostOps0_4, StableHlo.TRef.binary, StableHlo.TRef.nullary, StableHlo.TRef.ternary, StableHlo.TRef.unary, StableHlo.TRef.toBuf, StableHlo.TRef.ofBuf, cast_eq]
  after_results_simp <;> rfl

/-- The reference's result is its layers, at the kernel's table of angles. -/
theorem ref_layers (c : Dev nD) : Cert.OddPRefIdeal.Value.res_out0 (F := Ideal) m' c
    = Cert.OddPRefIdeal.Value.res (Cert.OddPRefIdeal.Value.heads (Cert.OddPRefIdeal.Value.nrm
        (m' ((c : Thread Cert.OddPRefIdeal.nD Cert.OddPRefIdeal.τ).loc Cert.OddPRefIdeal.main_arg0))
        (m' ((c : Thread Cert.OddPRefIdeal.nD Cert.OddPRefIdeal.τ).loc Cert.OddPRefIdeal.main_arg1)))
        (m' ((c : Thread Cert.OddPRefIdeal.nD Cert.OddPRefIdeal.τ).loc Cert.OddPRefIdeal.main_arg2)))
        (m' ((c : Thread Cert.OddPRefIdeal.nD Cert.OddPRefIdeal.τ).loc Cert.OddPRefIdeal.main_arg3))
        (m' ((c : Thread Cert.OddPRefIdeal.nD Cert.OddPRefIdeal.τ).loc Cert.OddPRefIdeal.main_arg4)) angles := by
  unfold Cert.OddPRefIdeal.Value.res_out0 Cert.OddPRefIdeal.Value.res_main_v123
  rfl

theorem matches_ref (c : Dev nD) (X : FVec Ideal S16384x2048 .f32) (g : FVec Ideal S2048 .f32) (W : FVec Ideal S2048x4608 .f32)
    (q k : FVec Ideal S128 .f32) (hX : X = argX m c) (hg : g = argG m c) (hW : W = argW m c) (hq : q = argQ m c) (hk : k = argK m c) :
    (dats m 0 c).arrAt 7 cfg0.N = Cert.OddPRefIdeal.Value.res (Cert.OddPRefIdeal.Value.heads (Cert.OddPRefIdeal.Value.nrm X g) W) q k angles := by
  subst hX hg hW hq hk
  rw [final m c]
  funext y
  obtain ⟨n, r, l, rfl⟩ : ∃ (n : Fin 36) (r : Fin 16384) (l : Fin 128), y = ix3 n r l :=
    ⟨y 0, y 1, y 2, by funext a; fin_cases a <;> rfl⟩
  rw [← ang_eq m c]
  exact (Cert.OddPRefIdeal.Value.res_at _ _ _ _ _ _ n r l).symm

theorem algebraic : Cert.algebraic_OddPIdeal_OddPRefIdeal := by
  pair_intro
  · run_from Cert.OddPIdeal.Gen.run_main m g
    · exact V_main_arg1 m c
    · exact V_main_arg2 m c
    · exact V_main_arg3 m c
    · exact V_main_arg4 m c
  · run_from Cert.OddPRefIdeal.Value.run m' g'
    obtain ⟨a0, a1, a2, a3, a4⟩ := hagree c
    exact (ref_layers m' c).trans (matches_ref m c _ _ _ _ _ a0 a1 a2 a3 a4).symm
end Cert.OddPIdeal.Value
-- ==== Proof.lean ====
module

public import proofs.«01_k».proof.Defs
public import proofs.«01_k».proof.Proof.Gen.Gqa.Frame
public import proofs.«01_k».proof.Proof.Gen.GqaIdeal.Frame
public import proofs.«01_k».proof.Proof.Gen.GqaRefIdeal.Run
public import proofs.«01_k».proof.Proof.GqaClaim
public import proofs.«01_k».proof.Proof.Gen.Ffn.Frame
public import proofs.«01_k».proof.Proof.Gen.FfnIdeal.Frame
public import proofs.«01_k».proof.Proof.Gen.FfnRefIdeal.Run
public import proofs.«01_k».proof.Proof.FfnClaim
public import proofs.«01_k».proof.Proof.Gen.OutP.Frame
public import proofs.«01_k».proof.Proof.Gen.OutPIdeal.Frame
public import proofs.«01_k».proof.Proof.Gen.OutPRefIdeal.Run
public import proofs.«01_k».proof.Proof.OutPClaim
public import proofs.«01_k».proof.Proof.Gen.EvenP.Frame
public import proofs.«01_k».proof.Proof.Gen.EvenPIdeal.Frame
public import proofs.«01_k».proof.Proof.Gen.EvenPRefIdeal.Run
public import proofs.«01_k».proof.Proof.EvenPFrame
public import proofs.«01_k».proof.Proof.EvenPClaim
public import proofs.«01_k».proof.Proof.Gen.OddP.Frame
public import proofs.«01_k».proof.Proof.Gen.OddPIdeal.Frame
public import proofs.«01_k».proof.Proof.Gen.OddPRefIdeal.Run
public import proofs.«01_k».proof.Proof.OddPClaim
public import proofs.«01_k».proof.Proof.Gen.Pre_finite_scores
public import Idealize.ShloMosaic.Lib.Claim

@[expose] public section

set_option maxRecDepth 16384

/-! The proof of `Cert.Claim`: every program's frame, the idealizations, the value claims. -/

noncomputable section
namespace Cert.Proof
open Idealize.ShloMosaic Idealize.SL.Sem

theorem claim : Cert.Claim := ⟨Cert.Gqa.Gen.facts, Cert.GqaIdeal.Gen.facts, Cert.GqaRefIdeal.Gen.facts, Cert.Ffn.Gen.facts, Cert.FfnIdeal.Gen.facts, Cert.FfnRefIdeal.Gen.facts, Cert.OutP.Gen.facts, Cert.OutPIdeal.Gen.facts, Cert.OutPRefIdeal.Gen.facts, Cert.EvenP.Gen.facts, Cert.EvenPIdeal.Gen.facts, Cert.EvenPRefIdeal.Gen.facts, Cert.OddP.Gen.facts, Cert.OddPIdeal.Gen.facts, Cert.OddPRefIdeal.Gen.facts, Cert.Pre_finite_scores.Gen.facts,
  fun m ρ _ => Cert.Gqa.Gen.frame m ρ,
  fun m ρ _ => Cert.GqaIdeal.Gen.frame m ρ,
  fun m ρ _ => Cert.GqaIdeal.Gen.frame m ρ,
  fun m g _ => (θ_run _ _ _).mono (fun r h => ⟨fun c => (h c).2, sem_eq_zero_of_no_sems rfl r.2⟩) (Cert.GqaRefIdeal.Value.run m g),
  fun m g _ => (θ_run _ _ _).mono (fun r h => ⟨fun c => (h c).2, sem_eq_zero_of_no_sems rfl r.2⟩) (Cert.GqaRefIdeal.Value.run m g),
  fun m ρ _ => Cert.Ffn.Gen.frame m ρ,
  fun m ρ _ => Cert.FfnIdeal.Gen.frame m ρ,
  fun m g _ => (θ_run _ _ _).mono (fun r h => ⟨fun c => (h c).2, sem_eq_zero_of_no_sems rfl r.2⟩) (Cert.FfnRefIdeal.Value.run m g),
  fun m ρ _ => Cert.OutP.Gen.frame m ρ,
  fun m ρ _ => Cert.OutPIdeal.Gen.frame m ρ,
  fun m g _ => (θ_run _ _ _).mono (fun r h => ⟨fun c => (h c).2, sem_eq_zero_of_no_sems rfl r.2⟩) (Cert.OutPRefIdeal.Value.run m g),
  fun m ρ _ => Cert.EvenP.Gen.frame m ρ,
  fun m ρ _ => Cert.EvenPIdeal.Gen.frame m ρ,
  fun m g _ => (θ_run _ _ _).mono (fun r h => ⟨fun c => (h c).2.2.2, sem_eq_zero_of_no_sems rfl r.2⟩) (Cert.EvenPRefIdeal.Value.run m g),
  fun m ρ _ => Cert.OddP.Gen.frame m ρ,
  fun m ρ _ => Cert.OddPIdeal.Gen.frame m ρ,
  fun m g _ => (θ_run _ _ _).mono (fun r h => ⟨fun c => (h c).2, sem_eq_zero_of_no_sems rfl r.2⟩) (Cert.OddPRefIdeal.Value.run m g),
  trivial,
  Cert.GqaIdeal.Value.algebraic,
  trivial,
  Cert.FfnIdeal.Value.algebraic,
  trivial,
  Cert.OutPIdeal.Value.algebraic,
  trivial,
  Cert.EvenPIdeal.Value.algebraic,
  trivial,
  Cert.OddPIdeal.Value.algebraic⟩

end Cert.Proof
